-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_gates_tame [hPre_gates_tame : Cert.Pre_gates_tame.Facts] (m : (ℓ : Loc Cert.MixIdeal.nD Cert.MixIdeal.τ Cert.MixIdeal.sig) → Buf (Elt Ideal) ℓ) : Prop :=
  ∀ c : Dev Cert.MixIdeal.nD,
    (Cert.Pre_gates_tame.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_gates_tame [hPre_gates_tame : Cert.Pre_gates_tame.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_gates_tame.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_gates_tame [hMixIdeal : Cert.MixIdeal.Facts] [hPre_gates_tame : Cert.Pre_gates_tame.Facts] : Prop :=
  ∀ (m : (ℓ : Loc Cert.MixIdeal.nD Cert.MixIdeal.τ Cert.MixIdeal.sig) → Buf (Elt Ideal) ℓ) (g : Dev Cert.MixIdeal.nD → PrngReg), Pre_MixIdeal_gates_tame m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_gates_tame [hMixRefIdeal : Cert.MixRefIdeal.Facts] [hPre_gates_tame : Cert.Pre_gates_tame.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_gates_tame m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Mix_MixIdeal : Prop :=
  IdealRules.named_const.Statement Cert.MixIdeal.κ "neg_log2e" .f32 0xBFB8AA3B#32 ((-((Real.log 2)⁻¹) : ℝ) : EReal)
  ∧ IdealRules.named_const.Statement Cert.MixIdeal.κ "log2e" .f32 0x3FB8AA3B#32 (((Real.log 2)⁻¹ : ℝ) : EReal)

def algebraic_MixIdeal_MixRefIdeal_pre_gates_tame [hMixIdeal : Cert.MixIdeal.Facts] [hMixRefIdeal : Cert.MixRefIdeal.Facts] [hPre_gates_tame : Cert.Pre_gates_tame.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_gates_tame m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v17)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v17) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v187) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v15_0)) (v1 : (c : Dev Cert.ProjIdeal.nD) → Buf (Elt Ideal) ((c.tc : Thread Cert.ProjIdeal.nD Cert.ProjIdeal.τ).loc Cert.ProjIdeal.main_v15_1)) (v2 : (c : Dev Cert.ProjIdeal.nD) → Buf (Elt Ideal) ((c.tc : Thread Cert.ProjIdeal.nD Cert.ProjIdeal.τ).loc Cert.ProjIdeal.main_v15_2)) (v3 : (c : Dev Cert.ProjIdeal.nD) → Buf (Elt Ideal) ((c.tc : Thread Cert.ProjIdeal.nD Cert.ProjIdeal.τ).loc Cert.ProjIdeal.main_v15_3)) (v4 : (c : Dev Cert.ProjIdeal.nD) → Buf (Elt Ideal) ((c.tc : Thread Cert.ProjIdeal.nD Cert.ProjIdeal.τ).loc Cert.ProjIdeal.main_v15_4)) (v5 : (c : Dev Cert.ProjIdeal.nD) → Buf (Elt Ideal) ((c.tc : Thread Cert.ProjIdeal.nD Cert.ProjIdeal.τ).loc Cert.ProjIdeal.main_v15_5)) (v6 : (c : Dev Cert.ProjIdeal.nD) → Buf (Elt Ideal) ((c.tc : Thread Cert.ProjIdeal.nD Cert.ProjIdeal.τ).loc Cert.ProjIdeal.main_v15_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15_0) = v0 c
          ∧ r.2.mem ((c.tc : Thread Cert.ProjIdeal.nD Cert.ProjIdeal.τ).loc Cert.ProjIdeal.main_v15_1) = v1 c
          ∧ r.2.mem ((c.tc : Thread Cert.ProjIdeal.nD Cert.ProjIdeal.τ).loc Cert.ProjIdeal.main_v15_2) = v2 c
          ∧ r.2.mem ((c.tc : Thread Cert.ProjIdeal.nD Cert.ProjIdeal.τ).loc Cert.ProjIdeal.main_v15_3) = v3 c
          ∧ r.2.mem ((c.tc : Thread Cert.ProjIdeal.nD Cert.ProjIdeal.τ).loc Cert.ProjIdeal.main_v15_4) = v4 c
          ∧ r.2.mem ((c.tc : Thread Cert.ProjIdeal.nD Cert.ProjIdeal.τ).loc Cert.ProjIdeal.main_v15_5) = v5 c
          ∧ r.2.mem ((c.tc : Thread Cert.ProjIdeal.nD Cert.ProjIdeal.τ).loc Cert.ProjIdeal.main_v15_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v50) = v0 c
          ∧ r.2.mem ((c.tc : Thread Cert.ProjRefIdeal.nD Cert.ProjRefIdeal.τ).loc Cert.ProjRefIdeal.main_v69) = v1 c
          ∧ r.2.mem ((c.tc : Thread Cert.ProjRefIdeal.nD Cert.ProjRefIdeal.τ).loc Cert.ProjRefIdeal.main_v70) = v2 c
          ∧ r.2.mem ((c.tc : Thread Cert.ProjRefIdeal.nD Cert.ProjRefIdeal.τ).loc Cert.ProjRefIdeal.main_v82) = v3 c
          ∧ r.2.mem ((c.tc : Thread Cert.ProjRefIdeal.nD Cert.ProjRefIdeal.τ).loc Cert.ProjRefIdeal.main_v83) = v4 c
          ∧ r.2.mem ((c.tc : Thread Cert.ProjRefIdeal.nD Cert.ProjRefIdeal.τ).loc Cert.ProjRefIdeal.main_v81) = v5 c
          ∧ r.2.mem ((c.tc : Thread Cert.ProjRefIdeal.nD Cert.ProjRefIdeal.τ).loc Cert.ProjRefIdeal.main_v73) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hPre_gates_tame : Cert.Pre_gates_tame.Facts),
    quiescent_Mix (hMix := hMix)
    ∧ quiescent_MixIdeal (hMixIdeal := hMixIdeal)
    ∧ quiescent_MixIdeal_pre_gates_tame (hMixIdeal := hMixIdeal) (hPre_gates_tame := hPre_gates_tame)
    ∧ quiescent_MixRefIdeal (hMixRefIdeal := hMixRefIdeal)
    ∧ quiescent_MixRefIdeal_pre_gates_tame (hMixRefIdeal := hMixRefIdeal) (hPre_gates_tame := hPre_gates_tame)
    ∧ quiescent_Proj (hProj := hProj)
    ∧ quiescent_ProjIdeal (hProjIdeal := hProjIdeal)
    ∧ quiescent_ProjRefIdeal (hProjRefIdeal := hProjRefIdeal)
    ∧ preserves_Mix_MixIdeal
    ∧ algebraic_MixIdeal_MixRefIdeal_pre_gates_tame (hMixIdeal := hMixIdeal) (hMixRefIdeal := hMixRefIdeal) (hPre_gates_tame := hPre_gates_tame)
    ∧ preserves_Proj_ProjIdeal
    ∧ algebraic_ProjIdeal_ProjRefIdeal (hProjIdeal := hProjIdeal) (hProjRefIdeal := hProjRefIdeal)
-- ==== Pre_gates_tame.lean ====
abbrev S16384x1024 : Shape := ⟨2, ![16384, 1024]⟩
abbrev S16384x2048 : Shape := ⟨2, ![16384, 2048]⟩
abbrev S16384x256 : Shape := ⟨2, ![16384, 256]⟩
abbrev S16384x768 : Shape := ⟨2, ![16384, 768]⟩
abbrev S2x3x256 : Shape := ⟨3, ![2, 3, 256]⟩
abbrev S2x1024x1024 : Shape := ⟨3, ![2, 1024, 1024]⟩
abbrev S2x6x1024 : Shape := ⟨3, ![2, 6, 1024]⟩
abbrev S2x1024x2816 : Shape := ⟨3, ![2, 1024, 2816]⟩
abbrev S2x2816x1024 : Shape := ⟨3, ![2, 2816, 1024]⟩
abbrev S2x512 : Shape := ⟨2, ![2, 512]⟩
abbrev S2x128 : Shape := ⟨2, ![2, 128]⟩
abbrev S16384x1536 : Shape := ⟨2, ![16384, 1536]⟩
abbrev S_ : Shape := ⟨0, ![]⟩
abbrev S16384x512 : Shape := ⟨2, ![16384, 512]⟩

class Facts : Prop where
  slices_S16384x2048_S16384x1536_0_0 : S16384x2048.Slices ![0, 0] S16384x1536
  bcast_S_S16384x1536 : S_.BroadcastsInDim S16384x1536 (![] : Fin 0 → Fin S16384x1536.rank)
  reducesTo_S16384x1536_S_d0_1 : S16384x1536.ReducesTo [0, 1] S_
  h_S_ : 0 < S_.numel
  slices_S16384x2048_S16384x512_0_512 : S16384x2048.Slices ![0, 512] S16384x512
  bcast_S_S16384x512 : S_.BroadcastsInDim S16384x512 (![] : Fin 0 → Fin S16384x512.rank)
  reducesTo_S16384x512_S_d0_1 : S16384x512.ReducesTo [0, 1] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_arg10 : FVec F S2x512 .f32) (main_v12 : IVec S_ 1) (main_v15 : IVec S_ 1) : IVec S_ 1 :=
  let main_v16 : IVec S_ 1 := andi main_v12 main_v15
  let main_cst_6 : FVec F S_ .f32 := constant S_ .f32 0xFF800000#32
  let main_v17 : FVec F S2x512 .f32 := broadcastInDim S2x512 ![] bcast_S_S2x512 main_cst_6
  let main_v18 : IVec S2x512 1 := cmpf .ogt main_arg10 main_v17
  let main_c_7 : IVec S_ 1 := constantI S_ 1 1#1
  let main_v19 : IVec S_ 1 := (fun x v => Host.reduce IntOp.andi x v reducesTo_S2x512_S_d0_1 h_S_) main_v18 main_c_7
  let main_v20 : IVec S_ 1 := andi main_v16 main_v19
  main_v20

def fn {F : FTy → Type} [FloatOps F] (main_arg0 : FVec F S16384x1024 .f32) (main_arg1 : FVec F S16384x2048 .f32) (main_arg2 : FVec F S16384x256 .bf16) (main_arg3 : FVec F S16384x768 .f32) (main_arg4 : FVec F S2x3x256 .f32) (main_arg5 : FVec F S2x1024x1024 .f32) (main_arg6 : FVec F S2x6x1024 .f32) (main_arg7 : FVec F S2x1024x2816 .f32) (main_arg8 : FVec F S2x1024x2816 .f32) (main_arg9 : FVec F S2x2816x1024 .f32) (main_arg10 : FVec F S2x512 .f32) (main_arg11 : FVec F S2x128 .f32) : IVec S_ 1 :=
  let main_v0 : FVec F S16384x1536 .f32 := (extractStridedSlice S16384x1536 ![0, 0] · slices_S16384x2048_S16384x1536_0_0) main_arg1
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_cst_0 : FVec F S_ .f32 := constant S_ .f32 0xFF800000#32
  let main_v4 : FVec F S16384x1536 .f32 := broadcastInDim S16384x1536 ![] bcast_S_S16384x1536 main_cst_0
  let main_v5 : IVec S16384x1536 1 := cmpf .ogt main_v0 main_v4
  let main_c_1 : IVec S_ 1 := constantI S_ 1 1#1
  let main_v6 : IVec S_ 1 := (fun x v => Host.reduce IntOp.andi x v reducesTo_S16384x1536_S_d0_1 h_S_) main_v5 main_c_1
  let main_v7 : IVec S_ 1 := andi main_v3 main_v6
  let main_v8 : FVec F S16384x512 .f32 := (extractStridedSlice S16384x512 ![0, 512] · slices_S16384x2048_S16384x512_0_512) main_arg1
  let main_cst_2 : FVec F S_ .f32 := constant S_ .f32 0xC2AE0000#32
  let main_v9 : FVec F S16384x512 .f32 := broadcastInDim S16384x512 ![] bcast_S_S16384x512 main_cst_2
  let main_v10 : IVec S16384x512 1 := cmpf .oge main_v8 main_v9
  let main_c_3 : IVec S_ 1 := constantI S_ 1 1#1
  let main_v11 : IVec S_ 1 := (fun x v => Host.reduce IntOp.andi x v reducesTo_S16384x512_S_d0_1 h_S_) main_v10 main_c_3
  let main_v12 : IVec S_ 1 := andi main_v7 main_v11
  let main_cst_4 : FVec F S_ .f32 := constant S_ .f32 0x7F800000#32
  let main_v13 : FVec F S2x512 .f32 := broadcastInDim S2x512 ![] bcast_S_S2x512 main_cst_4
  let main_v14 : IVec S2x512 1 := cmpf .olt main_arg10 main_v13
  let main_c_5 : IVec S_ 1 := constantI S_ 1 1#1
  let main_v15 : IVec S_ 1 := (fun x v => Host.reduce IntOp.andi x v reducesTo_S2x512_S_d0_1 h_S_) main_v14 main_c_5
  fn_part1 (F := F) main_arg10 main_v12 main_v15
-- ==== Mix.lean ====
abbrev S16384x1024 : Shape := ⟨2, ![16384, 1024]⟩
abbrev S16384x2048 : Shape := ⟨2, ![16384, 2048]⟩
abbrev S16384x256 : Shape := ⟨2, ![16384, 256]⟩
abbrev S16384x768 : Shape := ⟨2, ![16384, 768]⟩
abbrev S2x3x256 : Shape := ⟨3, ![2, 3, 256]⟩
abbrev S2x1024x1024 : Shape := ⟨3, ![2, 1024, 1024]⟩
abbrev S2x6x1024 : Shape := ⟨3, ![2, 6, 1024]⟩
abbrev S2x1024x2816 : Shape := ⟨3, ![2, 1024, 2816]⟩
abbrev S2x2816x1024 : Shape := ⟨3, ![2, 2816, 1024]⟩
abbrev S2x512 : Shape := ⟨2, ![2, 512]⟩
abbrev S2x128 : Shape := ⟨2, ![2, 128]⟩
abbrev S1x3x256 : Shape := ⟨3, ![1, 3, 256]⟩
abbrev S3x256 : Shape := ⟨2, ![3, 256]⟩
abbrev S1x1024x1024 : Shape := ⟨3, ![1, 1024, 1024]⟩
abbrev S1024x1024 : Shape := ⟨2, ![1024, 1024]⟩
abbrev S1x3x1024 : Shape := ⟨3, ![1, 3, 1024]⟩
abbrev S3x1024 : Shape := ⟨2, ![3, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x128 : Shape := ⟨2, ![1, 128]⟩
abbrev S512x1024 : Shape := ⟨2, ![512, 1024]⟩
abbrev S512x256 : Shape := ⟨2, ![512, 256]⟩
abbrev S512x768 : Shape := ⟨2, ![512, 768]⟩
abbrev S8x768 : Shape := ⟨2, ![8, 768]⟩
abbrev S512x512 : Shape := ⟨2, ![512, 512]⟩
abbrev S4x128x128 : Shape := ⟨3, ![4, 128, 128]⟩
abbrev S8x256 : Shape := ⟨2, ![8, 256]⟩
abbrev S1x1024 : Shape := ⟨2, ![1, 1024]⟩
abbrev S1x256 : Shape := ⟨2, ![1, 256]⟩
abbrev S256x1024 : Shape := ⟨2, ![256, 1024]⟩
abbrev S512 : Shape := ⟨1, ![512]⟩
abbrev S512x1 : Shape := ⟨2, ![512, 1]⟩
abbrev S1x512 : Shape := ⟨2, ![1, 512]⟩
abbrev S256x128 : Shape := ⟨2, ![256, 128]⟩
abbrev S256x256 : Shape := ⟨2, ![256, 256]⟩
abbrev S8x128 : Shape := ⟨2, ![8, 128]⟩
abbrev S248x128 : Shape := ⟨2, ![248, 128]⟩
abbrev S16x128 : Shape := ⟨2, ![16, 128]⟩
abbrev S240x128 : Shape := ⟨2, ![240, 128]⟩
abbrev S32x128 : Shape := ⟨2, ![32, 128]⟩
abbrev S224x128 : Shape := ⟨2, ![224, 128]⟩
abbrev S64x128 : Shape := ⟨2, ![64, 128]⟩
abbrev S192x128 : Shape := ⟨2, ![192, 128]⟩
abbrev S128x128 : Shape := ⟨2, ![128, 128]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S32x8x128 : Shape := ⟨3, ![32, 8, 128]⟩
abbrev S32x1x128 : Shape := ⟨3, ![32, 1, 128]⟩
abbrev S1x128x128 : Shape := ⟨3, ![1, 128, 128]⟩
abbrev S256 : Shape := ⟨1, ![256]⟩
abbrev S256x1 : Shape := ⟨2, ![256, 1]⟩
abbrev S1024x256 : Shape := ⟨2, ![1024, 256]⟩

abbrev nBuf : Space → Nat
  | .hbm => 30
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x256, .bf16⟩
  | .hbm, ⟨3, _⟩ => ⟨S16384x768, .f32⟩
  | .hbm, ⟨4, _⟩ => ⟨S2x3x256, .f32⟩
  | .hbm, ⟨5, _⟩ => ⟨S2x1024x1024, .f32⟩
  | .hbm, ⟨6, _⟩ => ⟨S2x6x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S2x512, .f32⟩
  | .hbm, ⟨11, _⟩ => ⟨S2x128, .f32⟩
  | .hbm, ⟨12, _⟩ => ⟨S1x3x256, .f32⟩
  | .hbm, ⟨13, _⟩ => ⟨S3x256, .f32⟩
  | .hbm, ⟨14, _⟩ => ⟨S1x1024x1024, .f32⟩
  | .hbm, ⟨15, _⟩ => ⟨S1024x1024, .f32⟩
  | .hbm, ⟨16, _⟩ => ⟨S1024x1024, .bf16⟩
  | .hbm, ⟨17, _⟩ => ⟨S1x3x1024, .f32⟩
  | .hbm, ⟨18, _⟩ => ⟨S3x1024, .f32⟩
  | .hbm, ⟨19, _⟩ => ⟨S1x1024x2816, .f32⟩
  | .hbm, ⟨20, _⟩ => ⟨S1024x2816, .f32⟩
  | .hbm, ⟨21, _⟩ => ⟨S1024x2816, .bf16⟩
  | .hbm, ⟨22, _⟩ => ⟨S1x1024x2816, .f32⟩
  | .hbm, ⟨23, _⟩ => ⟨S1024x2816, .f32⟩
  | .hbm, ⟨24, _⟩ => ⟨S1024x2816, .bf16⟩
  | .hbm, ⟨25, _⟩ => ⟨S1x2816x1024, .f32⟩
  | .hbm, ⟨26, _⟩ => ⟨S2816x1024, .f32⟩
  | .hbm, ⟨27, _⟩ => ⟨S2816x1024, .bf16⟩
  | .hbm, ⟨28, _⟩ => ⟨S1x128, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x768, .f32⟩
  | .local _ .vmem, ⟨5, _⟩ => ⟨S512x768, .f32⟩
  | .local _ .vmem, ⟨6, _⟩ => ⟨S8x768, .f32⟩
  | .local _ .vmem, ⟨7, _⟩ => ⟨S8x768, .f32⟩
  | .local _ .vmem, ⟨8, _⟩ => ⟨S3x256, .f32⟩
  | .local _ .vmem, ⟨9, _⟩ => ⟨S1024x1024, .bf16⟩
  | .local _ .vmem, ⟨10, _⟩ => ⟨S3x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S2x512, .f32⟩
  | .local _ .vmem, ⟨23, _⟩ => ⟨S1x128, .f32⟩
  | .local _ .vmem, ⟨24, _⟩ => ⟨S512x1024, .f32⟩
  | .local _ .vmem, ⟨25, _⟩ => ⟨S512x1024, .f32⟩
  | .local _ .vmem, ⟨26, _⟩ => ⟨S512x512, .bf16⟩
  | .local _ .vmem, ⟨27, _⟩ => ⟨S4x128x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.muli v1 c64_i32
  let c1_i32_0 : BitVec 32 := 1#32
  let v3 : BitVec 32 := Scalar.subi v2 c1_i32_0
  let c0_i32_1 : BitVec 32 := 0#32
  let v4 : BitVec 32 := Scalar.maxsi v3 c0_i32_1
  let c0_i32_2 : BitVec 32 := 0#32
  let c0_i32_3 : BitVec 32 := 0#32
  ![v4.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let c0_i32 : BitVec 32 := 0#32
  ![v0.toNat, c2_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c3_i32 : BitVec 32 := 3#32
  let c0_i32 : BitVec 32 := 0#32
  ![v0.toNat, c3_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== MixRefIdeal.lean ====
abbrev S16384x1024 : Shape := ⟨2, ![16384, 1024]⟩
abbrev S16384x2048 : Shape := ⟨2, ![16384, 2048]⟩
abbrev S16384x256 : Shape := ⟨2, ![16384, 256]⟩
abbrev S16384x768 : Shape := ⟨2, ![16384, 768]⟩
abbrev S2x3x256 : Shape := ⟨3, ![2, 3, 256]⟩
abbrev S2x1024x1024 : Shape := ⟨3, ![2, 1024, 1024]⟩
abbrev S2x6x1024 : Shape := ⟨3, ![2, 6, 1024]⟩
abbrev S2x1024x2816 : Shape := ⟨3, ![2, 1024, 2816]⟩
abbrev S2x2816x1024 : Shape := ⟨3, ![2, 2816, 1024]⟩
abbrev S2x512 : Shape := ⟨2, ![2, 512]⟩
abbrev S2x128 : Shape := ⟨2, ![2, 128]⟩
abbrev S_ : Shape := ⟨0, ![]⟩
abbrev S512 : Shape := ⟨1, ![512]⟩
abbrev S1x512 : Shape := ⟨2, ![1, 512]⟩
abbrev S16384x512 : Shape := ⟨2, ![16384, 512]⟩
abbrev S1x128 : Shape := ⟨2, ![1, 128]⟩
abbrev S128 : Shape := ⟨1, ![128]⟩
abbrev S256x64x4x128 : Shape := ⟨4, ![256, 64, 4, 128]⟩
abbrev S256x4x64x128 : Shape := ⟨4, ![256, 4, 64, 128]⟩
abbrev S64x64 : Shape := ⟨2, ![64, 64]⟩
abbrev S4x128x128 : Shape := ⟨3, ![4, 128, 128]⟩
abbrev S1x4x64x128 : Shape := ⟨4, ![1, 4, 64, 128]⟩
abbrev S4x64x128 : Shape := ⟨3, ![4, 64, 128]⟩
abbrev S4x64x1x128 : Shape := ⟨4, ![4, 64, 1, 128]⟩
abbrev S4x1x64x128 : Shape := ⟨4, ![4, 1, 64, 128]⟩
abbrev S4x64x64x128 : Shape := ⟨4, ![4, 64, 64, 128]⟩
abbrev S64x64x1 : Shape := ⟨3, ![64, 64, 1]⟩
abbrev S4x64x64 : Shape := ⟨3, ![4, 64, 64]⟩
abbrev S4x1x128 : Shape := ⟨3, ![4, 1, 128]⟩
abbrev S4x128 : Shape := ⟨2, ![4, 128]⟩
abbrev S4x128x1 : Shape := ⟨3, ![4, 128, 1]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S1x3x256 : Shape := ⟨3, ![1, 3, 256]⟩
abbrev S3x256 : Shape := ⟨2, ![3, 256]⟩
abbrev S16386x256 : Shape := ⟨2, ![16386, 256]⟩
abbrev S1x256 : Shape := ⟨2, ![1, 256]⟩
abbrev S256 : Shape := ⟨1, ![256]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 318
  | .vmem => 0
  | .smem => 0
  | _ => 0

abbrev hbmTy0_0 (i : Nat) : BufTy := match i % 128 with
  | 0 => ⟨S16384x1024, .f32⟩
  | 1 => ⟨S16384x2048, .f32⟩
  | 2 => ⟨S16384x256, .bf16⟩
  | 3 => ⟨S16384x768, .f32⟩
  | 4 => ⟨S2x3x256, .f32⟩
  | 5 => ⟨S2x1024x1024, .f32⟩
  | 6 => ⟨S2x6x1024, .f32⟩
  | 7 => ⟨S2x1024x2816, .f32⟩
  | 8 => ⟨S2x1024x2816, .f32⟩
  | 9 => ⟨S2x2816x1024, .f32⟩
  | 10 => ⟨S2x512, .f32⟩
  | 11 => ⟨S2x128, .f32⟩
  | 12 => ⟨S_, .f32⟩
  | 13 => ⟨S512, .f32⟩
  | 14 => ⟨S_, .f32⟩
  | 15 => ⟨S512, .f32⟩
  | 16 => ⟨S512, .f32⟩
  | 17 => ⟨S1x512, .f32⟩
  | 18 => ⟨S2x512, .f32⟩
  | 19 => ⟨S2x512, .f32⟩
  | 20 => ⟨S2x512, .f32⟩
  | 21 => ⟨S_, .f32⟩
  | 22 => ⟨S512, .f32⟩
  | 23 => ⟨S1x512, .f32⟩
  | 24 => ⟨S2x512, .f32⟩
  | 25 => ⟨S2x512, .f32⟩
  | 26 => ⟨S_, .f32⟩
  | 27 => ⟨S_, .f32⟩
  | 28 => ⟨S2x512, .f32⟩
  | 29 => ⟨S1x512, .f32⟩
  | 30 => ⟨S512, .f32⟩
  | 31 => ⟨S1x512, .f32⟩
  | 32 => ⟨S2x512, .f32⟩
  | 33 => ⟨S2x512, .f32⟩
  | 34 => ⟨S16384x512, .f32⟩
  | 35 => ⟨S16384x512, .f32⟩
  | 36 => ⟨S16384x512, .f32⟩
  | 37 => ⟨S16384x512, .f32⟩
  | 38 => ⟨S16384x256, .f32⟩
  | 39 => ⟨S16384x256, .f32⟩
  | 40 => ⟨S16384x256, .f32⟩
  | 41 => ⟨S1x512, .f32⟩
  | 42 => ⟨S512, .f32⟩
  | 43 => ⟨S1x128, .f32⟩
  | 44 => ⟨S128, .f32⟩
  | 45 => ⟨S_, .f32⟩
  | 46 => ⟨S512, .f32⟩
  | 47 => ⟨S512, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S1x512, .f32⟩
  | 57 => ⟨S16384x512, .f32⟩
  | 58 => ⟨S16384x512, .f32⟩
  | 59 => ⟨S1x512, .f32⟩
  | 60 => ⟨S16384x512, .f32⟩
  | 61 => ⟨S16384x512, .f32⟩
  | 62 => ⟨S16384x512, .f32⟩
  | 63 => ⟨S_, .f32⟩
  | 64 => ⟨S512, .f32⟩
  | 65 => ⟨S512, .f32⟩
  | 66 => ⟨S16384x512, .f32⟩
  | 67 => ⟨S16384x512, .f32⟩
  | 68 => ⟨S16384x512, .f32⟩
  | 69 => ⟨S_, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S1x512, .f32⟩
  | 76 => ⟨S16384x512, .f32⟩
  | 77 => ⟨S16384x512, .f32⟩
  | 78 => ⟨S256x64x4x128, .f32⟩
  | 79 => ⟨S256x4x64x128, .f32⟩
  | 80 => ⟨S256x64x4x128, .f32⟩
  | 81 => ⟨S256x4x64x128, .f32⟩
  | 82 => ⟨S256x64x4x128, .f32⟩
  | 83 => ⟨S256x4x64x128, .f32⟩
  | 84 => ⟨S256x64x4x128, .f32⟩
  | 85 => ⟨S256x4x64x128, .f32⟩
  | 86 => ⟨S_, .i1⟩
  | 87 => ⟨S64x64, .i1⟩
  | 88 => ⟨S64x64, .i32⟩
  | 89 => ⟨S_, .i32⟩
  | 90 => ⟨S64x64, .i32⟩
  | 91 => ⟨S64x64, .i32⟩
  | 92 => ⟨S64x64, .i32⟩
  | 93 => ⟨S64x64, .i1⟩
  | 94 => ⟨S_, .i1⟩
  | 95 => ⟨S64x64, .i1⟩
  | 96 => ⟨S64x64, .i1⟩
  | 97 => ⟨S_, .f32⟩
  | 98 => ⟨S4x128x128, .f32⟩
  | 99 => ⟨S_, .f32⟩
  | 100 => ⟨S256x4x64x128, .f32⟩
  | 101 => ⟨S_, .i32⟩
  | 102 => ⟨S256x4x64x128, .f32⟩
  | 103 => ⟨S256x4x64x128, .f32⟩
  | 104 => ⟨S256x4x64x128, .f32⟩
  | 105 => ⟨S256x4x64x128, .f32⟩
  | 106 => ⟨S64x64, .i1⟩
  | 107 => ⟨S_, .i32⟩
  | 108 => ⟨S4x128x128, .f32⟩
  | 109 => ⟨S256x4x64x128, .f32⟩
  | 110 => ⟨S_, .i32⟩
  | 111 => ⟨S_, .i1⟩
  | 112 => ⟨S_, .i32⟩
  | 113 => ⟨S_, .i32⟩
  | 114 => ⟨S_, .i32⟩
  | 115 => ⟨S1x4x64x128, .f32⟩
  | 116 => ⟨S4x64x128, .f32⟩
  | 117 => ⟨S_, .i32⟩
  | 118 => ⟨S_, .i32⟩
  | 119 => ⟨S_, .i32⟩
  | 120 => ⟨S1x4x64x128, .f32⟩
  | 121 => ⟨S4x64x128, .f32⟩
  | 122 => ⟨S_, .i32⟩
  | 123 => ⟨S_, .i32⟩
  | 124 => ⟨S_, .i32⟩
  | 125 => ⟨S1x4x64x128, .f32⟩
  | 126 => ⟨S4x64x128, .f32⟩
  | 127 => ⟨S_, .i32⟩
  | _ => ⟨S16384x1024, .f32⟩

abbrev hbmTy0_1 (i : Nat) : BufTy := match i % 128 with
  | 0 => ⟨S_, .i32⟩
  | 1 => ⟨S_, .i32⟩
  | 2 => ⟨S1x4x64x128, .f32⟩
  | 3 => ⟨S4x64x128, .f32⟩
  | 4 => ⟨S_, .f32⟩
  | 5 => ⟨S_, .f32⟩
  | 6 => ⟨S4x64x128, .f32⟩
  | 7 => ⟨S4x64x1x128, .f32⟩
  | 8 => ⟨S4x1x64x128, .f32⟩
  | 9 => ⟨S4x64x64x128, .f32⟩
  | 10 => ⟨S4x64x64x128, .f32⟩
  | 11 => ⟨S4x64x64x128, .f32⟩
  | 12 => ⟨S64x64x1, .i1⟩
  | 13 => ⟨S_, .f32⟩
  | 14 => ⟨S_, .f32⟩
  | 15 => ⟨S4x64x64x128, .i1⟩
  | 16 => ⟨S4x64x64x128, .f32⟩
  | 17 => ⟨S4x64x64x128, .f32⟩
  | 18 => ⟨S4x64x64x128, .f32⟩
  | 19 => ⟨S4x64x1x128, .f32⟩
  | 20 => ⟨S4x1x64x128, .f32⟩
  | 21 => ⟨S4x64x64x128, .f32⟩
  | 22 => ⟨S4x64x64x128, .f32⟩
  | 23 => ⟨S4x64x64x128, .f32⟩
  | 24 => ⟨S4x64x64x128, .f32⟩
  | 25 => ⟨S_, .f32⟩
  | 26 => ⟨S4x64x64, .f32⟩
  | 27 => ⟨S4x64x128, .f32⟩
  | 28 => ⟨S4x64x128, .f32⟩
  | 29 => ⟨S4x64x128, .f32⟩
  | 30 => ⟨S4x64x128, .f32⟩
  | 31 => ⟨S4x64x128, .f32⟩
  | 32 => ⟨S4x1x128, .f32⟩
  | 33 => ⟨S4x128, .f32⟩
  | 34 => ⟨S4x128x1, .f32⟩
  | 35 => ⟨S4x128x1, .f32⟩
  | 36 => ⟨S4x128x128, .f32⟩
  | 37 => ⟨S4x128x128, .f32⟩
  | 38 => ⟨S4x64x128, .f32⟩
  | 39 => ⟨S4x64x128, .f32⟩
  | 40 => ⟨S4x64x128, .f32⟩
  | 41 => ⟨S4x64x128, .f32⟩
  | 42 => ⟨S4x128x128, .f32⟩
  | 43 => ⟨S4x128x128, .f32⟩
  | 44 => ⟨S1x4x64x128, .f32⟩
  | 45 => ⟨S_, .i32⟩
  | 46 => ⟨S_, .i32⟩
  | 47 => ⟨S_, .i32⟩
  | 48 => ⟨S256x4x64x128, .f32⟩
  | 49 => ⟨S_, .i32⟩
  | 50 => ⟨S_, .i32⟩
  | 51 => ⟨S256x64x4x128, .f32⟩
  | 52 => ⟨S16384x4x128, .f32⟩
  | 53 => ⟨S16384x4x128, .f32⟩
  | 54 => ⟨S16384x4x128, .f32⟩
  | 55 => ⟨S16384x4x128, .f32⟩
  | 56 => ⟨S_, .f32⟩
  | 57 => ⟨S16384x4x128, .f32⟩
  | 58 => ⟨S16384x4x128, .f32⟩
  | 59 => ⟨S_, .f32⟩
  | 60 => ⟨S16384x4x128, .f32⟩
  | 61 => ⟨S16384x4x128, .f32⟩
  | 62 => ⟨S16384x4x128, .f32⟩
  | 63 => ⟨S16384x4x128, .f32⟩
  | 64 => ⟨S_, .f32⟩
  | 65 => ⟨S16384x4, .f32⟩
  | 66 => ⟨S16384x4x1, .f32⟩
  | 67 => ⟨S_, .f32⟩
  | 68 => ⟨S16384x4x1, .f32⟩
  | 69 => ⟨S16384x4x1, .f32⟩
  | 70 => ⟨S_, .f32⟩
  | 71 => ⟨S16384x4x1, .f32⟩
  | 72 => ⟨S16384x4x1, .f32⟩
  | 73 => ⟨S16384x4x1, .f32⟩
  | 74 => ⟨S16384x4x128, .f32⟩
  | 75 => ⟨S16384x4x128, .f32⟩
  | 76 => ⟨S1x1x128, .f32⟩
  | 77 => ⟨S16384x4x128, .f32⟩
  | 78 => ⟨S16384x4x128, .f32⟩
  | 79 => ⟨S16384x4x128, .f32⟩
  | 80 => ⟨S16384x512, .f32⟩
  | 81 => ⟨S1x3x256, .f32⟩
  | 82 => ⟨S3x256, .f32⟩
  | 83 => ⟨S16384x256, .f32⟩
  | 84 => ⟨S_, .i32⟩
  | 85 => ⟨S_, .f32⟩
  | 86 => ⟨S16386x256, .f32⟩
  | 87 => ⟨S16384x256, .f32⟩
  | 88 => ⟨S1x256, .f32⟩
  | 89 => ⟨S256, .f32⟩
  | 90 => ⟨S1x256, .f32⟩
  | 91 => ⟨S16384x256, .f32⟩
  | 92 => ⟨S16384x256, .f32⟩
  | 93 => ⟨S16384x256, .f32⟩
  | 94 => ⟨S1x256, .f32⟩
  | 95 => ⟨S256, .f32⟩
  | 96 => ⟨S1x256, .f32⟩
  | 97 => ⟨S16384x256, .f32⟩
  | 98 => ⟨S16384x256, .f32⟩
  | 99 => ⟨S16384x256, .f32⟩
  | 100 => ⟨S1x256, .f32⟩
  | 101 => ⟨S256, .f32⟩
  | 102 => ⟨S1x256, .f32⟩
  | 103 => ⟨S16384x256, .f32⟩
  | 104 => ⟨S16384x256, .f32⟩
  | 105 => ⟨S16384x256, .f32⟩
  | 106 => ⟨S16384x256, .f32⟩
  | 107 => ⟨S16384x256, .f32⟩
  | 108 => ⟨S16384x1024, .f32⟩
  | 109 => ⟨S1x1024x1024, .f32⟩
  | 110 => ⟨S1024x1024, .f32⟩
  | 111 => ⟨S16384x1024, .f32⟩
  | 112 => ⟨S1x1x1024, .f32⟩
  | 113 => ⟨S1024, .f32⟩
  | 114 => ⟨S16384x1024, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384x1, .f32⟩
  | 123 => ⟨S16384x1, .f32⟩
  | 124 => ⟨S16384x1, .f32⟩
  | 125 => ⟨S16384x1024, .f32⟩
  | 126 => ⟨S16384x1024, .f32⟩
  | 127 => ⟨S1x1024, .f32⟩
  | _ => ⟨S16384x1024, .f32⟩

abbrev hbmTy0_2 (i : Nat) : BufTy := match i % 128 with
  | 0 => ⟨S16384x1024, .f32⟩
  | 1 => ⟨S16384x1024, .f32⟩
  | 2 => ⟨S16384x1024, .f32⟩
  | 3 => ⟨S1x1x1024, .f32⟩
  | 4 => ⟨S1024, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S1x1024x2816, .f32⟩
  | 22 => ⟨S1024x2816, .f32⟩
  | 23 => ⟨S1x1024x2816, .f32⟩
  | 24 => ⟨S1024x2816, .f32⟩
  | 25 => ⟨S1x2816x1024, .f32⟩
  | 26 => ⟨S2816x1024, .f32⟩
  | 27 => ⟨S16384x2816, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S_, .f32⟩
  | 34 => ⟨S16384x2816, .f32⟩
  | 35 => ⟨S16384x2816, .f32⟩
  | 36 => ⟨S16384x2816, .f32⟩
  | 37 => ⟨S16384x2816, .f32⟩
  | 38 => ⟨S16384x2816, .f32⟩
  | 39 => ⟨S16384x1024, .f32⟩
  | 40 => ⟨S1x1x1024, .f32⟩
  | 41 => ⟨S1024, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S16384x1024, .f32⟩
  | 54 => ⟨S16384x1024, .f32⟩
  | 55 => ⟨S1x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_call0_cst : Ref sig .tc := ⟨.hbm, 26, rfl⟩
abbrev main_call0_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c : Ref sig .tc := ⟨.hbm, 86, rfl⟩
abbrev main_v63 : Ref sig .tc := ⟨.hbm, 87, rfl⟩
abbrev main_call1_v0 : Ref sig .tc := ⟨.hbm, 88, rfl⟩
abbrev main_call1_c : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_c_0 : Ref sig .tc := ⟨.hbm, 94, rfl⟩
abbrev main_call1_v5 : Ref sig .tc := ⟨.hbm, 95, rfl⟩
abbrev main_v64 : Ref sig .tc := ⟨.hbm, 96, rfl⟩
abbrev main_cst_8 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_c_10 : Ref sig .tc := ⟨.hbm, 101, rfl⟩
abbrev main_v67_0 : Ref sig .tc := ⟨.hbm, 102, rfl⟩
abbrev main_v67_1 : Ref sig .tc := ⟨.hbm, 103, rfl⟩
abbrev main_v67_2 : Ref sig .tc := ⟨.hbm, 104, rfl⟩
abbrev main_v67_3 : Ref sig .tc := ⟨.hbm, 105, rfl⟩
abbrev main_v67_4 : Ref sig .tc := ⟨.hbm, 106, rfl⟩
abbrev main_v67_5 : Ref sig .tc := ⟨.hbm, 107, rfl⟩
abbrev main_v67_6 : Ref sig .tc := ⟨.hbm, 108, rfl⟩
abbrev main_v67_7 : Ref sig .tc := ⟨.hbm, 109, rfl⟩
abbrev main_while0c_c_36 : Ref sig .tc := ⟨.hbm, 110, rfl⟩
abbrev main_while0c_v188 : Ref sig .tc := ⟨.hbm, 111, rfl⟩
abbrev main_while0b_call2_c : Ref sig .tc := ⟨.hbm, 112, rfl⟩
abbrev main_while0b_call2_c_0 : Ref sig .tc := ⟨.hbm, 113, rfl⟩
abbrev main_while0b_call2_c_1 : Ref sig .tc := ⟨.hbm, 114, rfl⟩
abbrev main_while0b_call2_v0 : Ref sig .tc := ⟨.hbm, 115, rfl⟩
abbrev main_while0b_v188 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_c_1 : Ref sig .tc := ⟨.hbm, 119, rfl⟩
abbrev main_while0b_call3_v0 : Ref sig .tc := ⟨.hbm, 120, rfl⟩
abbrev main_while0b_v189 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_v0 : Ref sig .tc := ⟨.hbm, 125, rfl⟩
abbrev main_while0b_v190 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_c_1 : Ref sig .tc := ⟨.hbm, 129, rfl⟩
abbrev main_while0b_call5_v0 : Ref sig .tc := ⟨.hbm, 130, rfl⟩
abbrev main_while0b_v191 : Ref sig .tc := ⟨.hbm, 131, rfl⟩
abbrev main_while0b_call6_call0_cst : Ref sig .tc := ⟨.hbm, 132, rfl⟩
abbrev main_while0b_call6_call0_v0 : Ref sig .tc := ⟨.hbm, 133, rfl⟩
abbrev main_while0b_v192 : Ref sig .tc := ⟨.hbm, 134, rfl⟩
abbrev main_while0b_v193 : Ref sig .tc := ⟨.hbm, 135, rfl⟩
abbrev main_while0b_v194 : Ref sig .tc := ⟨.hbm, 136, rfl⟩
abbrev main_while0b_v195 : Ref sig .tc := ⟨.hbm, 137, rfl⟩
abbrev main_while0b_v196 : Ref sig .tc := ⟨.hbm, 138, rfl⟩
abbrev main_while0b_v197 : Ref sig .tc := ⟨.hbm, 139, rfl⟩
abbrev main_while0b_v198 : Ref sig .tc := ⟨.hbm, 140, rfl⟩
abbrev main_while0b_cst_36 : Ref sig .tc := ⟨.hbm, 141, rfl⟩
abbrev main_while0b_call7_v0 : Ref sig .tc := ⟨.hbm, 142, rfl⟩
abbrev main_while0b_call7_v1 : Ref sig .tc := ⟨.hbm, 143, rfl⟩
abbrev main_while0b_call7_v2 : Ref sig .tc := ⟨.hbm, 144, rfl⟩
abbrev main_while0b_v199 : Ref sig .tc := ⟨.hbm, 145, rfl⟩
abbrev main_while0b_v200 : Ref sig .tc := ⟨.hbm, 146, rfl⟩
abbrev main_while0b_v201 : Ref sig .tc := ⟨.hbm, 147, rfl⟩
abbrev main_while0b_v202 : Ref sig .tc := ⟨.hbm, 148, rfl⟩
abbrev main_while0b_v203 : Ref sig .tc := ⟨.hbm, 149, rfl⟩
abbrev main_while0b_v204 : Ref sig .tc := ⟨.hbm, 150, rfl⟩
abbrev main_while0b_v205 : Ref sig .tc := ⟨.hbm, 151, rfl⟩
abbrev main_while0b_v206 : Ref sig .tc := ⟨.hbm, 152, rfl⟩
abbrev main_while0b_cst_37 : Ref sig .tc := ⟨.hbm, 153, rfl⟩
abbrev main_while0b_v207 : Ref sig .tc := ⟨.hbm, 154, rfl⟩
abbrev main_while0b_v208 : Ref sig .tc := ⟨.hbm, 155, rfl⟩
abbrev main_while0b_v209 : Ref sig .tc := ⟨.hbm, 156, rfl⟩
abbrev main_while0b_v210 : Ref sig .tc := ⟨.hbm, 157, rfl⟩
abbrev main_while0b_v211 : Ref sig .tc := ⟨.hbm, 158, rfl⟩
abbrev main_while0b_v212 : Ref sig .tc := ⟨.hbm, 159, rfl⟩
abbrev main_while0b_v213 : Ref sig .tc := ⟨.hbm, 160, rfl⟩
abbrev main_while0b_v214 : Ref sig .tc := ⟨.hbm, 161, rfl⟩
abbrev main_while0b_v215 : Ref sig .tc := ⟨.hbm, 162, rfl⟩
abbrev main_while0b_v216 : Ref sig .tc := ⟨.hbm, 163, rfl⟩
abbrev main_while0b_v217 : Ref sig .tc := ⟨.hbm, 164, rfl⟩
abbrev main_while0b_v218 : Ref sig .tc := ⟨.hbm, 165, rfl⟩
abbrev main_while0b_v219 : Ref sig .tc := ⟨.hbm, 166, rfl⟩
abbrev main_while0b_v220 : Ref sig .tc := ⟨.hbm, 167, rfl⟩
abbrev main_while0b_v221 : Ref sig .tc := ⟨.hbm, 168, rfl⟩
abbrev main_while0b_v222 : Ref sig .tc := ⟨.hbm, 169, rfl⟩
abbrev main_while0b_v223 : Ref sig .tc := ⟨.hbm, 170, rfl⟩
abbrev main_while0b_v224 : Ref sig .tc := ⟨.hbm, 171, rfl⟩
abbrev main_while0b_call8_v0 : Ref sig .tc := ⟨.hbm, 172, rfl⟩
abbrev main_while0b_call8_c : Ref sig .tc := ⟨.hbm, 173, rfl⟩
abbrev main_while0b_call8_c_0 : Ref sig .tc := ⟨.hbm, 174, rfl⟩
abbrev main_while0b_call8_c_1 : Ref sig .tc := ⟨.hbm, 175, rfl⟩
abbrev main_while0b_v225 : Ref sig .tc := ⟨.hbm, 176, rfl⟩
abbrev main_while0b_c_38 : Ref sig .tc := ⟨.hbm, 177, rfl⟩
abbrev main_while0b_v226 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_cst_11 : Ref sig .tc := ⟨.hbm, 184, rfl⟩
abbrev main_v73 : Ref sig .tc := ⟨.hbm, 185, rfl⟩
abbrev main_v74 : Ref sig .tc := ⟨.hbm, 186, rfl⟩
abbrev main_cst_12 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_cst_13 : Ref sig .tc := ⟨.hbm, 192, rfl⟩
abbrev main_v79 : Ref sig .tc := ⟨.hbm, 193, rfl⟩
abbrev main_v80 : Ref sig .tc := ⟨.hbm, 194, rfl⟩
abbrev main_cst_14 : Ref sig .tc := ⟨.hbm, 195, rfl⟩
abbrev main_v81 : Ref sig .tc := ⟨.hbm, 196, rfl⟩
abbrev main_v82 : Ref sig .tc := ⟨.hbm, 197, rfl⟩
abbrev main_cst_15 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_v95 : Ref sig .tc := ⟨.hbm, 211, rfl⟩
abbrev main_c_16 : Ref sig .tc := ⟨.hbm, 212, rfl⟩
abbrev main_call9_v0 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_cst_17 : Ref sig .tc := ⟨.hbm, 243, rfl⟩
abbrev main_v125 : Ref sig .tc := ⟨.hbm, 244, rfl⟩
abbrev main_v126 : Ref sig .tc := ⟨.hbm, 245, rfl⟩
abbrev main_cst_18 : Ref sig .tc := ⟨.hbm, 246, rfl⟩
abbrev main_v127 : Ref sig .tc := ⟨.hbm, 247, rfl⟩
abbrev main_v128 : Ref sig .tc := ⟨.hbm, 248, rfl⟩
abbrev main_cst_19 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_cst_20 : Ref sig .tc := ⟨.hbm, 262, rfl⟩
abbrev main_v141 : Ref sig .tc := ⟨.hbm, 263, rfl⟩
abbrev main_v142 : Ref sig .tc := ⟨.hbm, 264, rfl⟩
abbrev main_cst_21 : Ref sig .tc := ⟨.hbm, 265, rfl⟩
abbrev main_v143 : Ref sig .tc := ⟨.hbm, 266, rfl⟩
abbrev main_v144 : Ref sig .tc := ⟨.hbm, 267, rfl⟩
abbrev main_cst_22 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_cst_23 : Ref sig .tc := ⟨.hbm, 286, rfl⟩
abbrev main_v162 : Ref sig .tc := ⟨.hbm, 287, rfl⟩
abbrev main_v163 : Ref sig .tc := ⟨.hbm, 288, rfl⟩
abbrev main_cst_24 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_cst_25 : Ref sig .tc := ⟨.hbm, 299, rfl⟩
abbrev main_v173 : Ref sig .tc := ⟨.hbm, 300, rfl⟩
abbrev main_v174 : Ref sig .tc := ⟨.hbm, 301, rfl⟩
abbrev main_cst_26 : Ref sig .tc := ⟨.hbm, 302, rfl⟩
abbrev main_v175 : Ref sig .tc := ⟨.hbm, 303, rfl⟩
abbrev main_v176 : Ref sig .tc := ⟨.hbm, 304, rfl⟩
abbrev main_cst_27 : Ref sig .tc := ⟨.hbm, 305, rfl⟩
abbrev main_v177 : Ref sig .tc := ⟨.hbm, 306, rfl⟩
abbrev main_v178 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_cst_28 : Ref sig .tc := ⟨.hbm, 314, rfl⟩
abbrev main_v185 : Ref sig .tc := ⟨.hbm, 315, rfl⟩
abbrev main_v186 : Ref sig .tc := ⟨.hbm, 316, rfl⟩
abbrev main_v187 : Ref sig .tc := ⟨.hbm, 317, rfl⟩

abbrev nD : Nat := 1
abbrev τ : Topo := Topo.v7x

variable {F : FTy → Type} [FloatOps F]

abbrev main_while0_count : Scf.Loop 32 := ⟨0#32, 256#32, 1#32⟩
-- ==== Proj.lean ====
abbrev S1x16384x1024 : Shape := ⟨3, ![1, 16384, 1024]⟩
abbrev S2x6x1024 : Shape := ⟨3, ![2, 6, 1024]⟩
abbrev S2x1024x2816 : Shape := ⟨3, ![2, 1024, 2816]⟩
abbrev S2x2816x1024 : Shape := ⟨3, ![2, 2816, 1024]⟩
abbrev S2x1024x3584 : Shape := ⟨3, ![2, 1024, 3584]⟩
abbrev S16384x1024 : Shape := ⟨2, ![16384, 1024]⟩
abbrev S1x3x1024 : Shape := ⟨3, ![1, 3, 1024]⟩
abbrev S3x1024 : Shape := ⟨2, ![3, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024x3584 : Shape := ⟨3, ![1, 1024, 3584]⟩
abbrev S1024x3584 : Shape := ⟨2, ![1024, 3584]⟩
abbrev S16384x2048 : Shape := ⟨2, ![16384, 2048]⟩
abbrev S16384x256 : Shape := ⟨2, ![16384, 256]⟩
abbrev S64x256x256 : Shape := ⟨3, ![64, 256, 256]⟩
abbrev S64x4x80x256 : Shape := ⟨4, ![64, 4, 80, 256]⟩
abbrev S512x256 : Shape := ⟨2, ![512, 256]⟩
abbrev S16384x768 : Shape := ⟨2, ![16384, 768]⟩
abbrev S512x1024 : Shape := ⟨2, ![512, 1024]⟩
abbrev S512x2048 : Shape := ⟨2, ![512, 2048]⟩
abbrev S2x256x256 : Shape := ⟨3, ![2, 256, 256]⟩
abbrev S2x4x80x256 : Shape := ⟨4, ![2, 4, 80, 256]⟩
abbrev S16x256 : Shape := ⟨2, ![16, 256]⟩
abbrev S512x768 : Shape := ⟨2, ![512, 768]⟩
abbrev S1x1024 : Shape := ⟨2, ![1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩
abbrev S1024x2048 : Shape := ⟨2, ![1024, 2048]⟩
abbrev S1024x256 : Shape := ⟨2, ![1024, 256]⟩
abbrev S1024x768 : Shape := ⟨2, ![1024, 768]⟩
abbrev S256x256 : Shape := ⟨2, ![256, 256]⟩
abbrev S1x256x256 : Shape := ⟨3, ![1, 256, 256]⟩
abbrev S64x256 : Shape := ⟨2, ![64, 256]⟩
abbrev S80x256 : Shape := ⟨2, ![80, 256]⟩
abbrev S1x1x80x256 : Shape := ⟨4, ![1, 1, 80, 256]⟩
abbrev S32x8x256 : Shape := ⟨3, ![32, 8, 256]⟩
abbrev S8x256 : Shape := ⟨2, ![8, 256]⟩

abbrev nBuf : Space → Nat
  | .hbm => 28
  | .vmem => 21
  | .smem => 0
  | _ => 0

abbrev bufTy : (tb : Table) → Fin (tcTables nBuf tb) → BufTy
  | .hbm, ⟨0, _⟩ => ⟨S1x16384x1024, .f32⟩
  | .hbm, ⟨1, _⟩ => ⟨S2x6x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x3584, .f32⟩
  | .hbm, ⟨6, _⟩ => ⟨S16384x1024, .f32⟩
  | .hbm, ⟨7, _⟩ => ⟨S1x3x1024, .f32⟩
  | .hbm, ⟨8, _⟩ => ⟨S3x1024, .f32⟩
  | .hbm, ⟨9, _⟩ => ⟨S1x1024x2816, .f32⟩
  | .hbm, ⟨10, _⟩ => ⟨S1024x2816, .f32⟩
  | .hbm, ⟨11, _⟩ => ⟨S1024x2816, .bf16⟩
  | .hbm, ⟨12, _⟩ => ⟨S1x1024x2816, .f32⟩
  | .hbm, ⟨13, _⟩ => ⟨S1024x2816, .f32⟩
  | .hbm, ⟨14, _⟩ => ⟨S1024x2816, .bf16⟩
  | .hbm, ⟨15, _⟩ => ⟨S1x2816x1024, .f32⟩
  | .hbm, ⟨16, _⟩ => ⟨S2816x1024, .f32⟩
  | .hbm, ⟨17, _⟩ => ⟨S2816x1024, .bf16⟩
  | .hbm, ⟨18, _⟩ => ⟨S1x1024x3584, .f32⟩
  | .hbm, ⟨19, _⟩ => ⟨S1024x3584, .f32⟩
  | .hbm, ⟨20, _⟩ => ⟨S1024x3584, .bf16⟩
  | .hbm, ⟨21, _⟩ => ⟨S16384x1024, .f32⟩
  | .hbm, ⟨22, _⟩ => ⟨S16384x2048, .f32⟩
  | .hbm, ⟨23, _⟩ => ⟨S16384x256, .f32⟩
  | .hbm, ⟨24, _⟩ => ⟨S64x256x256, .bf16⟩
  | .hbm, ⟨25, _⟩ => ⟨S64x4x80x256, .bf16⟩
  | .hbm, ⟨26, _⟩ => ⟨S512x256, .f32⟩
  | .hbm, ⟨27, _⟩ => ⟨S16384x768, .f32⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x3584, .bf16⟩
  | .local _ .vmem, ⟨7, _⟩ => ⟨S512x1024, .f32⟩
  | .local _ .vmem, ⟨8, _⟩ => ⟨S512x1024, .f32⟩
  | .local _ .vmem, ⟨9, _⟩ => ⟨S512x2048, .f32⟩
  | .local _ .vmem, ⟨10, _⟩ => ⟨S512x2048, .f32⟩
  | .local _ .vmem, ⟨11, _⟩ => ⟨S512x256, .f32⟩
  | .local _ .vmem, ⟨12, _⟩ => ⟨S512x256, .f32⟩
  | .local _ .vmem, ⟨13, _⟩ => ⟨S2x256x256, .bf16⟩
  | .local _ .vmem, ⟨14, _⟩ => ⟨S2x256x256, .bf16⟩
  | .local _ .vmem, ⟨15, _⟩ => ⟨S2x4x80x256, .bf16⟩
  | .local _ .vmem, ⟨16, _⟩ => ⟨S2x4x80x256, .bf16⟩
  | .local _ .vmem, ⟨17, _⟩ => ⟨S16x256, .f32⟩
  | .local _ .vmem, ⟨18, _⟩ => ⟨S16x256, .f32⟩
  | .local _ .vmem, ⟨19, _⟩ => ⟨S512x768, .f32⟩
  | .local _ .vmem, ⟨20, _⟩ => ⟨S512x768, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev main_v15_5 : Ref sig .tc := ⟨.hbm, 26, rfl⟩
abbrev main_v15_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x80x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S1x16384x1024 : Shape := ⟨3, ![1, 16384, 1024]⟩
abbrev S2x6x1024 : Shape := ⟨3, ![2, 6, 1024]⟩
abbrev S2x1024x2816 : Shape := ⟨3, ![2, 1024, 2816]⟩
abbrev S2x2816x1024 : Shape := ⟨3, ![2, 2816, 1024]⟩
abbrev S2x1024x3584 : Shape := ⟨3, ![2, 1024, 3584]⟩
abbrev S16384x1024 : Shape := ⟨2, ![16384, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S1x1024x3584 : Shape := ⟨3, ![1, 1024, 3584]⟩
abbrev S1024x3584 : Shape := ⟨2, ![1024, 3584]⟩
abbrev S16384x3584 : Shape := ⟨2, ![16384, 3584]⟩
abbrev S16384x2048 : Shape := ⟨2, ![16384, 2048]⟩
abbrev S16384x256 : Shape := ⟨2, ![16384, 256]⟩
abbrev S16384x768 : Shape := ⟨2, ![16384, 768]⟩
abbrev S64x256x256 : Shape := ⟨3, ![64, 256, 256]⟩
abbrev S64x256x4x64 : Shape := ⟨4, ![64, 256, 4, 64]⟩
abbrev S64x4x64x256 : Shape := ⟨4, ![64, 4, 64, 256]⟩
abbrev S64x4x16x256 : Shape := ⟨4, ![64, 4, 16, 256]⟩
abbrev S64x4x80x256 : Shape := ⟨4, ![64, 4, 80, 256]⟩
abbrev S64x32x8x256 : Shape := ⟨4, ![64, 32, 8, 256]⟩
abbrev S64x8x256 : Shape := ⟨3, ![64, 8, 256]⟩
abbrev S512x256 : Shape := ⟨2, ![512, 256]⟩

abbrev nBuf : Space → Nat
  | .hbm => 104
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S2x6x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x3584, .f32⟩
  | .hbm, ⟨6, _⟩ => ⟨S16384x1024, .f32⟩
  | .hbm, ⟨7, _⟩ => ⟨S1x1x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x2816, .f32⟩
  | .hbm, ⟨26, _⟩ => ⟨S1024x2816, .f32⟩
  | .hbm, ⟨27, _⟩ => ⟨S1x1024x2816, .f32⟩
  | .hbm, ⟨28, _⟩ => ⟨S1024x2816, .f32⟩
  | .hbm, ⟨29, _⟩ => ⟨S1x2816x1024, .f32⟩
  | .hbm, ⟨30, _⟩ => ⟨S2816x1024, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x1024, .f32⟩
  | .hbm, ⟨44, _⟩ => ⟨S1x1x1024, .f32⟩
  | .hbm, ⟨45, _⟩ => ⟨S1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S1x1x1024, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1x1024x3584, .f32⟩
  | .hbm, ⟨85, _⟩ => ⟨S1024x3584, .f32⟩
  | .hbm, ⟨86, _⟩ => ⟨S16384x3584, .f32⟩
  | .hbm, ⟨87, _⟩ => ⟨S16384x2048, .f32⟩
  | .hbm, ⟨88, _⟩ => ⟨S16384x256, .f32⟩
  | .hbm, ⟨89, _⟩ => ⟨S16384x256, .f32⟩
  | .hbm, ⟨90, _⟩ => ⟨S16384x256, .f32⟩
  | .hbm, ⟨91, _⟩ => ⟨S16384x768, .f32⟩
  | .hbm, ⟨92, _⟩ => ⟨S64x256x256, .f32⟩
  | .hbm, ⟨93, _⟩ => ⟨S64x256x4x64, .f32⟩
  | .hbm, ⟨94, _⟩ => ⟨S64x4x64x256, .f32⟩
  | .hbm, ⟨95, _⟩ => ⟨S_, .f32⟩
  | .hbm, ⟨96, _⟩ => ⟨S64x4x16x256, .f32⟩
  | .hbm, ⟨97, _⟩ => ⟨S64x4x80x256, .f32⟩
  | .hbm, ⟨98, _⟩ => ⟨S64x32x8x256, .f32⟩
  | .hbm, ⟨99, _⟩ => ⟨S_, .f32⟩
  | .hbm, ⟨100, _⟩ => ⟨S64x8x256, .f32⟩
  | .hbm, ⟨101, _⟩ => ⟨S512x256, .f32⟩
  | .hbm, ⟨102, _⟩ => ⟨S64x256x256, .bf16⟩
  | .hbm, ⟨103, _⟩ => ⟨S64x4x80x256, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Proof.MixRefRun.lean ====
/-
  The recurrence layer's reference: which buffers its stretches leave alone.
-/
module

public import proofs.«01_k».proof.Defs
public import proofs.«01_k».proof.Proof.Gen.MixRefIdeal.Run

@[expose] public section

noncomputable section

namespace Hg.MR

open Idealize.ShloMosaic Idealize.ShloMosaic.TcCoe Idealize.ShloMosaic.StableHlo Idealize.SL.Sem Cert.MixRefIdeal Cert.MixRefIdeal.Gen Cert.MixRefIdeal.Value

variable {F : FTy → Type} [FloatOps F]
variable (m : (ℓ : Loc nD τ sig) → Buf (Elt F) ℓ) (c : Dev nD)

/-- What the stretches before the loop write. -/
abbrev preW : List (Ref sig .tc) := hostOps0_W ++ (hostOps0_1_W ++ (hostOps0_2_W ++ (hostOps0_3_W ++ hostOps0_4_W)))
/-- What a trip of the loop writes. -/
abbrev tripW : List (Ref sig .tc) := condOps_W ++ (while0Ops0_W ++ (while0Ops0_1_W ++ (while0Ops0_2_W ++ (while0Ops0_3_W ++ (while0Ops0_4_W ++ (while0Ops0_5_W ++ (while0Ops0_6_W ++ (while0Ops0_7_W ++ (while0Ops0_8_W ++ while0Ops0_9_W)))))))))
/-- What stretch 5 writes. -/
abbrev post5W : List (Ref sig .tc) := [main_v68, main_v69, main_v70, main_v71, main_v72, main_cst_11, main_v73, main_v74, main_cst_12, main_v75, main_v76, main_v77, main_v78, main_cst_13, main_v79, main_v80, main_cst_14, main_v81, main_v82, main_cst_15, main_v83, main_v84, main_v85, main_v86, main_v87, main_v88, main_v89, main_v90, main_v91, main_v92, main_v93, main_v94, main_v95, main_c_16]
theorem post5_writes : (hostOps0_5 : List (HloOp τ sig (Elt F))).Forall fun op => op.writes ⊆ (post5W.map (Proc.devRef (τ := τ) .tc)).toFinset :=
  StableHlo.forall_writes_sub_of_map rfl

/-- What stretch 6 writes. -/
abbrev post6W : List (Ref sig .tc) := [main_call9_v0, main_v96]
theorem post6_writes : (hostOps0_6 : List (HloOp τ sig (Elt F))).Forall fun op => op.writes ⊆ (post6W.map (Proc.devRef (τ := τ) .tc)).toFinset :=
  StableHlo.forall_writes_sub_of_map rfl

/-- What stretch 7 writes. -/
abbrev post7W : List (Ref sig .tc) := [main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_cst_17, main_v125, main_v126, main_cst_18, main_v127, main_v128, main_cst_19, main_v129, main_v130, main_v131, main_v132, main_v133, main_v134, main_v135, main_v136, main_v137, main_v138, main_v139, main_v140, main_cst_20, main_v141, main_v142, main_cst_21, main_v143, main_v144, main_cst_22, main_v145, main_v146, main_v147, main_v148, main_v149, main_v150, main_v151, main_v152, main_v153, main_v154, main_v155, main_v156, main_v157, main_v158, main_v159, main_v160, main_v161, main_cst_23, main_v162, main_v163, main_cst_24, main_v164, main_v165, main_v166, main_v167, main_v168, main_v169, main_v170, main_v171, main_v172, main_cst_25, main_v173, main_v174, main_cst_26, main_v175, main_v176, main_cst_27, main_v177, main_v178, main_v179, main_v180, main_v181, main_v182, main_v183, main_v184, main_cst_28, main_v185, main_v186, main_v187]
theorem post7_writes : (hostOps0_7 : List (HloOp τ sig (Elt F))).Forall fun op => op.writes ⊆ (post7W.map (Proc.devRef (τ := τ) .tc)).toFinset :=
  StableHlo.forall_writes_sub_of_map rfl
/-- What the stretches after the loop write. -/
abbrev postW : List (Ref sig .tc) := post5W ++ (post6W ++ post7W)

theorem kept_pre (V : Valuation τ sig (Elt F)) (b : Ref sig .tc) (h : b ∉ preW) : afterL preI V (Proc.devRef .tc b) = V (Proc.devRef .tc b) := by
  simp only [preW, List.mem_append, not_or] at h
  obtain ⟨h0, h1, h2, h3, h4⟩ := h
  simp only [afterL_cons, afterL_nil]
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

theorem kept_trip (V : Valuation τ sig (Elt F)) (b : Ref sig .tc) (h : b ∉ tripW) : afterL bodyI (after condOps V) (Proc.devRef .tc b) = V (Proc.devRef .tc b) := by
  simp only [tripW, List.mem_append, not_or] at h
  obtain ⟨hc, h0, h1, h2, h3, h4, h5, h6, h7, h8, h9⟩ := h
  simp only [afterL_cons, afterL_nil]
  rw [after_of_writes_sub _ _ while0Ops0_9_writes h9, after_of_writes_sub _ _ while0Ops0_8_writes h8, after_of_writes_sub _ _ while0Ops0_7_writes h7,
    after_of_writes_sub _ _ while0Ops0_6_writes h6, after_of_writes_sub _ _ while0Ops0_5_writes h5, after_of_writes_sub _ _ while0Ops0_4_writes h4,
    after_of_writes_sub _ _ while0Ops0_3_writes h3, after_of_writes_sub _ _ while0Ops0_2_writes h2, after_of_writes_sub _ _ while0Ops0_1_writes h1,
    after_of_writes_sub _ _ while0Ops0_writes h0, after_of_writes_sub _ _ condOps_writes hc]

theorem kept_cond (V : Valuation τ sig (Elt F)) (b : Ref sig .tc) (h : b ∉ tripW) : after condOps V (Proc.devRef .tc b) = V (Proc.devRef .tc b) := by
  simp only [tripW, List.mem_append, not_or] at h
  exact after_of_writes_sub _ _ condOps_writes h.1

theorem kept_loop (b : Ref sig .tc) (h : b ∉ tripW) : ∀ k, atK m k c (Proc.devRef .tc b) = entryContents preI m c (Proc.devRef .tc b)
  | 0 => rfl
  | k + 1 => (kept_trip _ b h).trans (kept_loop b h k)

theorem kept_post (V : Valuation τ sig (Elt F)) (b : Ref sig .tc) (h : b ∉ postW) : afterL postI V (Proc.devRef .tc b) = V (Proc.devRef .tc b) := by
  simp only [postW, List.mem_append, not_or] at h
  obtain ⟨h0, h1, h2⟩ := h
  simp only [afterL_cons, afterL_nil]
  rw [after_of_writes_sub _ _ post7_writes h2, after_of_writes_sub _ _ post6_writes h1, after_of_writes_sub _ _ post5_writes h0]

theorem kept (b : Ref sig .tc) (h0 : b ∉ preW) (h1 : b ∉ tripW) (h2 : b ∉ postW) :
    finalContents condOps preI bodyI postI 256 m c (Proc.devRef .tc b) = m ((c.tc : Thread nD τ).loc b) :=
  (kept_post _ b h2).trans ((kept_cond _ b h1).trans ((kept_loop m c b h1 256).trans (kept_pre _ b h0)))

attribute [local instance] Cert.MixRefIdeal.Gen.facts

theorem args (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v187) = finalContents condOps preI bodyI postI 256 m c (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c => ⟨h c main_v187 (by decide), (h c main_arg0 (by decide)).trans (kept m c main_arg0 (by decide +kernel) (by decide +kernel) (by decide +kernel)),
    (h c main_arg1 (by decide)).trans (kept m c main_arg1 (by decide +kernel) (by decide +kernel) (by decide +kernel)),
    (h c main_arg2 (by decide)).trans (kept m c main_arg2 (by decide +kernel) (by decide +kernel) (by decide +kernel)),
    (h c main_arg3 (by decide)).trans (kept m c main_arg3 (by decide +kernel) (by decide +kernel) (by decide +kernel)),
    (h c main_arg4 (by decide)).trans (kept m c main_arg4 (by decide +kernel) (by decide +kernel) (by decide +kernel)),
    (h c main_arg5 (by decide)).trans (kept m c main_arg5 (by decide +kernel) (by decide +kernel) (by decide +kernel)),
    (h c main_arg6 (by decide)).trans (kept m c main_arg6 (by decide +kernel) (by decide +kernel) (by decide +kernel)),
    (h c main_arg7 (by decide)).trans (kept m c main_arg7 (by decide +kernel) (by decide +kernel) (by decide +kernel)),
    (h c main_arg8 (by decide)).trans (kept m c main_arg8 (by decide +kernel) (by decide +kernel) (by decide +kernel)),
    (h c main_arg9 (by decide)).trans (kept m c main_arg9 (by decide +kernel) (by decide +kernel) (by decide +kernel)),
    (h c main_arg10 (by decide)).trans (kept m c main_arg10 (by decide +kernel) (by decide +kernel) (by decide +kernel)),
    (h c main_arg11 (by decide)).trans (kept m c main_arg11 (by decide +kernel) (by decide +kernel) (by decide +kernel))⟩) (run_fold (F := Ideal) m g)

theorem frame : Cert.quiescent_MixRefIdeal := fun m g _ =>
  (θ_run _ _ _).mono (fun r h => ⟨fun c => (h c).2, sem_eq_zero_of_no_sems (by decide) r.2⟩) (args m g)

end Hg.MR
-- ==== Proof.ProjTie.lean ====
/-
  The feed-forward and projection kernel's body at one grid point, in a small vocabulary of its loads: every result's
  stores as a list of pieces.
-/
module

public import proofs.«01_k».proof.Proof.Gen.ProjIdeal.Value
public import Idealize.ShloMosaic.Lib.Pipeline.Value

@[expose] public section

noncomputable section

namespace Hg.P

open Idealize.ShloMosaic Idealize.SL.Sem Cert.ProjIdeal Cert.ProjIdeal.Gen

variable {F : FTy → Type} [FloatOps F]

/-- What the body loads. -/
structure PLoads (F : FTy → Type) where
  /-- The rows. -/
  x : Vec F S512x1024 .f32
  /-- The norm weights. -/
  n : Fin 3 → Vec F S1x1024 .f32
  /-- The gate's left columns. -/
  g0 : Vec F S1024x1536 .bf16
  /-- The gate's right columns. -/
  g1 : Vec F S1024x1280 .bf16
  /-- The up projection's left columns. -/
  u0 : Vec F S1024x1536 .bf16
  /-- The up projection's right columns. -/
  u1 : Vec F S1024x1280 .bf16
  /-- The down projection's upper rows. -/
  d0 : Vec F S1536x1024 .bf16
  /-- The down projection's lower rows. -/
  d1 : Vec F S1280x1024 .bf16
  /-- The recurrence's columns. -/
  wz : Vec F S1024x2048 .bf16
  /-- The queries' columns. -/
  wq : Vec F S1024x256 .bf16
  /-- The keys' columns. -/
  wk : Vec F S1024x256 .bf16
  /-- The values' columns. -/
  wv : Vec F S1024x256 .bf16
  /-- The convolution's columns. -/
  wc : Vec F S1024x768 .bf16

/-- A norm weight lies inside the weights. -/
theorem inb_n (j : Fin 3) : ∀ a : Fin 2, (![j.val, 0] : Fin 2 → ℕ) a + S1x1024.size a ≤ S3x1024.size a := by
  intro a
  match a with
  | ⟨0, _⟩ => show j.val + 1 ≤ 3; omega
  | ⟨1, _⟩ => exact le_rfl

/-- The rows after the feed-forward part. -/
def yOf (L : PLoads F) : FVec F S512x1024 .f32 :=
  k0_pay12 (k0_pay6 L.x) (k0_pay8 L.x (L.n 0) L.g0 L.u0 L.d0) (k0_pay9 L.x (L.n 0) L.g1) (k0_pay10 L.x (L.n 0) L.u1)
    (k0_pay11 L.x (L.n 0) L.g1) L.d1 (L.n 1)

/-- The loads, from the windows' memrefs and contents. -/
def ploads (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
     (x0 : Vec F S512x1024 .f32) (x1 : Vec F S3x1024 .f32) (x2 : Vec F S1024x2816 .bf16) (x3 : Vec F S1024x2816 .bf16) (x4 : Vec F S2816x1024 .bf16) (x5 : Vec F S1024x3584 .bf16) : PLoads F where
  x := View.readAt (Elt F) arg1.view (Rect.unit (s := S512x1024) ![0, 0] S512x1024.size inb_S512x1024_S512x1024_0_0).toLoadRect (harg1.unread x0)
  n := fun j => View.readAt (Elt F) arg2.view (Rect.unit (s := S3x1024) ![j.val, 0] S1x1024.size (inb_n j)).toLoadRect (harg2.unread x1)
  g0 := View.readAt (Elt F) arg3.view (Rect.unit (s := S1024x2816) ![0, 0] S1024x1536.size inb_S1024x2816_S1024x1536_0_0).toLoadRect (harg3.unread x2)
  g1 := View.readAt (Elt F) arg3.view (Rect.unit (s := S1024x2816) ![0, 1536] S1024x1280.size inb_S1024x2816_S1024x1280_0_1536).toLoadRect (harg3.unread x2)
  u0 := View.readAt (Elt F) arg4.view (Rect.unit (s := S1024x2816) ![0, 0] S1024x1536.size inb_S1024x2816_S1024x1536_0_0).toLoadRect (harg4.unread x3)
  u1 := View.readAt (Elt F) arg4.view (Rect.unit (s := S1024x2816) ![0, 1536] S1024x1280.size inb_S1024x2816_S1024x1280_0_1536).toLoadRect (harg4.unread x3)
  d0 := View.readAt (Elt F) arg5.view (Rect.unit (s := S2816x1024) ![0, 0] S1536x1024.size inb_S2816x1024_S1536x1024_0_0).toLoadRect (harg5.unread x4)
  d1 := View.readAt (Elt F) arg5.view (Rect.unit (s := S2816x1024) ![1536, 0] S1280x1024.size inb_S2816x1024_S1280x1024_1536_0).toLoadRect (harg5.unread x4)
  wz := View.readAt (Elt F) arg6.view (Rect.unit (s := S1024x3584) ![0, 0] S1024x2048.size inb_S1024x3584_S1024x2048_0_0).toLoadRect (harg6.unread x5)
  wq := View.readAt (Elt F) arg6.view (Rect.unit (s := S1024x3584) ![0, 2048] S1024x256.size inb_S1024x3584_S1024x256_0_2048).toLoadRect (harg6.unread x5)
  wk := View.readAt (Elt F) arg6.view (Rect.unit (s := S1024x3584) ![0, 2304] S1024x256.size inb_S1024x3584_S1024x256_0_2304).toLoadRect (harg6.unread x5)
  wv := View.readAt (Elt F) arg6.view (Rect.unit (s := S1024x3584) ![0, 2560] S1024x256.size inb_S1024x3584_S1024x256_0_2560).toLoadRect (harg6.unread x5)
  wc := View.readAt (Elt F) arg6.view (Rect.unit (s := S1024x3584) ![0, 2816] S1024x768.size inb_S1024x3584_S1024x768_0_2816).toLoadRect (harg6.unread x5)

/-- The pieces stored into result 0. -/
def pcs6 (L : PLoads F) (Z : FVec F S512x1024 .f32) : List (View.Piece (Elt F) S512x1024 .f32) :=
  [⟨Rect.unit (s := S512x1024) ![0, 0] S512x1024.size inb_S512x1024_S512x1024_0_0, yOf L⟩]

/-- The pieces stored into result 1. -/
def pcs7 (L : PLoads F) (Z : FVec F S512x1024 .f32) : List (View.Piece (Elt F) S512x2048 .f32) :=
  [⟨Rect.unit (s := S512x2048) ![0, 0] S512x2048.size inb_S512x2048_S512x2048_0_0, k0_pay15 Z L.wz⟩]

/-- The pieces stored into result 2. -/
def pcs8 (L : PLoads F) (Z : FVec F S512x1024 .f32) : List (View.Piece (Elt F) S512x256 .f32) :=
  [⟨Rect.unit (s := S512x256) ![0, 0] S512x256.size inb_S512x256_S512x256_0_0, k0_pay16 Z L.wq⟩]

/-- The pieces stored into result 3. -/
def pcs9 (L : PLoads F) (Z : FVec F S512x1024 .f32) : List (View.Piece (Elt F) S2x256x256 .bf16) :=
  [⟨Rect.unit (s := S2x256x256) ![1, 0, 0] S1x256x256.size inb_S2x256x256_S1x256x256_1_0_0, k0_pay32 (k0_pay17 Z L.wk)⟩,
   ⟨Rect.unit (s := S2x256x256) ![0, 0, 0] S1x256x256.size inb_S2x256x256_S1x256x256_0_0_0, k0_pay23 Z L.wk⟩]

/-- The pieces stored into result 4. -/
def pcs10 (L : PLoads F) (Z : FVec F S512x1024 .f32) : List (View.Piece (Elt F) S2x4x80x256 .bf16) :=
  [⟨Rect.unit (s := S2x4x80x256) ![1, 3, 0, 0] S1x1x80x256.size inb_S2x4x80x256_S1x1x80x256_1_3_0_0, k0_pay4 k0_pay20 (k0_pay31 (k0_pay18 Z L.wv))⟩,
   ⟨Rect.unit (s := S2x4x80x256) ![1, 2, 0, 0] S1x1x80x256.size inb_S2x4x80x256_S1x1x80x256_1_2_0_0, k0_pay3 k0_pay20 (k0_pay31 (k0_pay18 Z L.wv))⟩,
   ⟨Rect.unit (s := S2x4x80x256) ![1, 1, 0, 0] S1x1x80x256.size inb_S2x4x80x256_S1x1x80x256_1_1_0_0, k0_pay2 k0_pay20 (k0_pay31 (k0_pay18 Z L.wv))⟩,
   ⟨Rect.unit (s := S2x4x80x256) ![1, 0, 0, 0] S1x1x80x256.size inb_S2x4x80x256_S1x1x80x256_1_0_0_0, k0_pay1 (k0_pay33 (k0_pay18 Z L.wv) k0_pay20)⟩,
   ⟨Rect.unit (s := S2x4x80x256) ![0, 3, 0, 0] S1x1x80x256.size inb_S2x4x80x256_S1x1x80x256_0_3_0_0, k0_pay28 k0_pay20 (k0_pay22 Z L.wv)⟩,
   ⟨Rect.unit (s := S2x4x80x256) ![0, 2, 0, 0] S1x1x80x256.size inb_S2x4x80x256_S1x1x80x256_0_2_0_0, k0_pay27 k0_pay20 (k0_pay22 Z L.wv)⟩,
   ⟨Rect.unit (s := S2x4x80x256) ![0, 1, 0, 0] S1x1x80x256.size inb_S2x4x80x256_S1x1x80x256_0_1_0_0, k0_pay26 k0_pay20 (k0_pay22 Z L.wv)⟩,
   ⟨Rect.unit (s := S2x4x80x256) ![0, 0, 0, 0] S1x1x80x256.size inb_S2x4x80x256_S1x1x80x256_0_0_0_0, k0_pay25 (k0_pay24 Z L.wv)⟩]

/-- The pieces stored into result 5. -/
def pcs11 (L : PLoads F) (Z : FVec F S512x1024 .f32) : List (View.Piece (Elt F) S16x256 .f32) :=
  [⟨Rect.unit (s := S16x256) ![8, 0] S8x256.size inb_S16x256_S8x256_8_0, k0_pay5 (k0_pay30 (k0_pay17 Z L.wk))⟩,
   ⟨Rect.unit (s := S16x256) ![0, 0] S8x256.size inb_S16x256_S8x256_0_0, k0_pay29 (k0_pay21 Z L.wk)⟩]

/-- The pieces stored into result 6. -/
def pcs12 (L : PLoads F) (Z : FVec F S512x1024 .f32) : List (View.Piece (Elt F) S512x768 .f32) :=
  [⟨Rect.unit (s := S512x768) ![0, 0] S512x768.size inb_S512x768_S512x768_0_0, k0_pay19 Z L.wc⟩]

/-- The rows the projections read: the stored ones normed again. -/
def zOf (a7 : Memref sig .tc .vmem S512x1024 .f32) (L : PLoads F) : FVec F S512x1024 .f32 :=
  k0_pay13 (a7.view.readCov [⟨Rect.unit (s := S512x1024) ![0, 0] S512x1024.size inb_S512x1024_S512x1024_0_0, yOf L⟩] (Rect.unit (s := S512x1024) ![0, 0] S512x1024.size inb_S512x1024_S512x1024_0_0).toLoadRect) (L.n 2)

/-- Read back at once, they are the stored rows. -/
theorem zOf_eq (a7 : Memref sig .tc .vmem S512x1024 .f32) (L : PLoads F) : zOf a7 L = k0_pay13 (yOf L) (L.n 2) := by
  unfold zOf
  rw [View.readCov_cons_toLoadRect]

theorem run6 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).1 =
      pcs6 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (zOf arg7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) := by
  sl_kernel_rfl

/-- Result 0's tile. -/
theorem out6 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    out0_A_6 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 =
      View.canon (pcs6 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (k0_pay13 (yOf (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) ((ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n 2))) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5), run6, zOf_eq]

theorem run7 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.1 =
      pcs7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (zOf arg7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) := by
  sl_kernel_rfl

/-- Result 1's tile. -/
theorem out7 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    out0_A_7 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 =
      View.canon (pcs7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (k0_pay13 (yOf (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) ((ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n 2))) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5), run7, zOf_eq]

theorem run8 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.1 =
      pcs8 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (zOf arg7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) := by
  sl_kernel_rfl

/-- Result 2's tile. -/
theorem out8 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    out0_A_8 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 =
      View.canon (pcs8 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (k0_pay13 (yOf (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) ((ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n 2))) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5), run8, zOf_eq]

theorem run9 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.1 =
      pcs9 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (zOf arg7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) := by
  sl_kernel_rfl

/-- Result 3's tile. -/
theorem out9 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    out0_A_9 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 =
      View.canon (pcs9 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (k0_pay13 (yOf (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) ((ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n 2))) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5), run9, zOf_eq]

theorem run10 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.2.1 =
      pcs10 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (zOf arg7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) := by
  sl_kernel_rfl

/-- Result 4's tile. -/
theorem out10 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    out0_A_10 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 =
      View.canon (pcs10 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (k0_pay13 (yOf (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) ((ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n 2))) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5), run10, zOf_eq]

theorem run11 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.2.2.1 =
      pcs11 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (zOf arg7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) := by
  sl_kernel_rfl

/-- Result 5's tile. -/
theorem out11 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    out0_A_11 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 =
      View.canon (pcs11 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (k0_pay13 (yOf (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) ((ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n 2))) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5), run11, zOf_eq]

theorem run12 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    (kernelRun0_A (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.2.2.2.2.1 =
      pcs12 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (zOf arg7 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) := by
  sl_kernel_rfl

/-- Result 6's tile. -/
theorem out12 (c : Dev nD) (i : grid0.Coords) (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
    (x0 : Vec F S512x1024 .f32) (x1 : Vec F S3x1024 .f32) (x2 : Vec F S1024x2816 .bf16) (x3 : Vec F S1024x2816 .bf16) (x4 : Vec F S2816x1024 .bf16) (x5 : Vec F S1024x3584 .bf16) :
    out0_A_12 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 =
      View.canon (pcs12 (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5) (k0_pay13 (yOf (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5)) ((ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n 2))) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5), run12, zOf_eq]

end Hg.P
-- ==== Proof.Row.lean ====
/-
  The row-wise operations both sides share, on rows of extended reals.
-/
module

public import Idealize.ShloMosaic.Lib.Pointwise
public import Idealize.ShloMosaic.Lib.ValueIdx
public import Idealize.ShloMosaic.PureOps.Ideal.Laws
public import Idealize.ShloMosaic.Lib.Pipeline.Value

@[expose] public section

noncomputable section

namespace Hg.Row

open Idealize.ShloMosaic

/-- A row normed by its root mean square and weighted. -/
def rms (x w : Fin 1024 → EReal) (j : Fin 1024) : EReal :=
  x j * Ideal.rsqrt (Ideal.div (∑ k, x k * x k) (Ideal.ofBits FTy.f32 1149239296#32) + Ideal.ofBits FTy.f32 897988541#32) * w j

/-- One hidden unit of the feed-forward part. -/
def hid {n : ℕ} (x : Fin 1024 → EReal) (g u : Fin 1024 → Fin n → EReal) (k : Fin n) : EReal :=
  (∑ i, x i * g i k) * Ideal.logistic (∑ i, x i * g i k) * ∑ i, x i * u i k

/-- The feed-forward part. -/
def ffn {n : ℕ} (x : Fin 1024 → EReal) (g u : Fin 1024 → Fin n → EReal) (d : Fin n → Fin 1024 → EReal) (j : Fin 1024) : EReal :=
  ∑ k, hid x g u k * d k j

/-- A residual plus half of a normed row. -/
def half (y x w : Fin 1024 → EReal) (j : Fin 1024) : EReal :=
  y j + Ideal.ofBits FTy.f32 1056964608#32 * rms x w j

/-- The rows after the first feed-forward part. -/
def yRow (x n0 n1 : Fin 1024 → EReal) (g u : Fin 1024 → Fin 2816 → EReal) (d : Fin 2816 → Fin 1024 → EReal) : Fin 1024 → EReal :=
  half x (ffn (rms x n0) g u d) n1

/-- One projected column. -/
def zRow {n : ℕ} (y n2 : Fin 1024 → EReal) (w : Fin 1024 → Fin n → EReal) (c : Fin n) : EReal :=
  ∑ k, rms y n2 k * w k c

/-- A feed-forward part splits over its hidden columns. -/
theorem ffn_split (x : Fin 1024 → EReal) (g u : Fin 1024 → Fin 2816 → EReal) (d : Fin 2816 → Fin 1024 → EReal) (j : Fin 1024) :
    ffn x g u d j = ffn x (fun i (k : Fin 1536) => g i ⟨k.val, by omega⟩) (fun i (k : Fin 1536) => u i ⟨k.val, by omega⟩) (fun k : Fin 1536 => d ⟨k.val, by omega⟩) j
      + ffn x (fun i (k : Fin 1280) => g i ⟨1536 + k.val, by omega⟩) (fun i (k : Fin 1280) => u i ⟨1536 + k.val, by omega⟩) (fun k : Fin 1280 => d ⟨1536 + k.val, by omega⟩) j := by
  unfold ffn
  exact Fin.sum_univ_add (a := 1536) (b := 1280) (fun k : Fin (1536 + 1280) => hid x g u k * d k j)

end Hg.Row
-- ==== Proof.ProjPay.lean ====
/-
  The feed-forward and projection kernel's tiles, read row by row.
-/
module

public import proofs.«01_k».proof.Proof.ProjTie
public import proofs.«01_k».proof.Proof.Row

@[expose] public section

noncomputable section

namespace Hg.P

open Idealize.ShloMosaic Cert.ProjIdeal Cert.ProjIdeal.Gen

variable (L : PLoads Ideal)

/-- The gate's columns, both parts. -/
def gAll (i : Fin 1024) (k : Fin 2816) : EReal := if h : k.val < 1536 then L.g0 (ix2 i ⟨k.val, h⟩) else L.g1 (ix2 i ⟨k.val - 1536, by omega⟩)
/-- The up projection's columns, both parts. -/
def uAll (i : Fin 1024) (k : Fin 2816) : EReal := if h : k.val < 1536 then L.u0 (ix2 i ⟨k.val, h⟩) else L.u1 (ix2 i ⟨k.val - 1536, by omega⟩)
/-- The down projection's rows, both parts. -/
def dAll (k : Fin 2816) (j : Fin 1024) : EReal := if h : k.val < 1536 then L.d0 (ix2 ⟨k.val, h⟩ j) else L.d1 (ix2 ⟨k.val - 1536, by omega⟩ j)

theorem pay7 (r : Fin 512) (j : Fin 1024) : k0_pay7 (F := Ideal) L.x (L.n 0) (ix2 r j) = Row.rms (fun k => L.x (ix2 r k)) (fun k => L.n 0 (ix2 0 k)) j := by
  unfold k0_pay7 k0_pay6
  pointwise
  rfl

theorem pay8 (r : Fin 512) (j : Fin 1024) : k0_pay8 (F := Ideal) L.x (L.n 0) L.g0 L.u0 L.d0 (ix2 r j) =
    Row.ffn (Row.rms (fun k => L.x (ix2 r k)) (fun k => L.n 0 (ix2 0 k))) (fun i k => L.g0 (ix2 i k)) (fun i k => L.u0 (ix2 i k)) (fun i k => L.d0 (ix2 i k)) j := by
  unfold k0_pay8
  pointwise
  simp only [pay7]
  rfl

theorem ffn_parts (x : Fin 1024 → EReal) (j : Fin 1024) : Row.ffn x (gAll L) (uAll L) (dAll L) j =
      Row.ffn x (fun i k => L.g0 (ix2 i k)) (fun i k => L.u0 (ix2 i k)) (fun i k => L.d0 (ix2 i k)) j
      + Row.ffn x (fun i k => L.g1 (ix2 i k)) (fun i k => L.u1 (ix2 i k)) (fun i k => L.d1 (ix2 i k)) j := by
  rw [Row.ffn_split]
  have e1 : (fun i (k : Fin 1536) => gAll L i ⟨k.val, by omega⟩) = fun i k => L.g0 (ix2 i k) := by
    funext i k; exact dif_pos k.isLt
  have e2 : (fun i (k : Fin 1536) => uAll L i ⟨k.val, by omega⟩) = fun i k => L.u0 (ix2 i k) := by
    funext i k; exact dif_pos k.isLt
  have e3 : (fun (k : Fin 1536) j => dAll L ⟨k.val, by omega⟩ j) = fun k j => L.d0 (ix2 k j) := by
    funext k j; exact dif_pos k.isLt
  have e4 : (fun i (k : Fin 1280) => gAll L i ⟨1536 + k.val, by omega⟩) = fun i k => L.g1 (ix2 i k) := by
    funext i k
    refine (dif_neg (by simp)).trans ?_
    have : (⟨1536 + k.val - 1536, by omega⟩ : Fin 1280) = k := Fin.ext (by simp)
    exact congrArg (fun k => L.g1 (ix2 i k)) this
  have e5 : (fun i (k : Fin 1280) => uAll L i ⟨1536 + k.val, by omega⟩) = fun i k => L.u1 (ix2 i k) := by
    funext i k
    refine (dif_neg (by simp)).trans ?_
    have : (⟨1536 + k.val - 1536, by omega⟩ : Fin 1280) = k := Fin.ext (by simp)
    exact congrArg (fun k => L.u1 (ix2 i k)) this
  have e6 : (fun (k : Fin 1280) j => dAll L ⟨1536 + k.val, by omega⟩ j) = fun k j => L.d1 (ix2 k j) := by
    funext k j
    refine (dif_neg (by simp)).trans ?_
    have : (⟨1536 + k.val - 1536, by omega⟩ : Fin 1280) = k := Fin.ext (by simp)
    exact congrArg (fun k => L.d1 (ix2 k j)) this
  rw [e1, e2, e3, e4, e5, e6]

theorem pay9 (w : Vec Ideal S1024x1280 .bf16) (r : Fin 512) (j : Fin 1280) : k0_pay9 (F := Ideal) L.x (L.n 0) w (ix2 r j) =
    ∑ i, Row.rms (fun k => L.x (ix2 r k)) (fun k => L.n 0 (ix2 0 k)) i * w (ix2 i j) := by
  unfold k0_pay9
  pointwise
  simp only [pay7]

theorem pay10 (w : Vec Ideal S1024x1280 .bf16) (r : Fin 512) (j : Fin 1280) : k0_pay10 (F := Ideal) L.x (L.n 0) w (ix2 r j) =
    ∑ i, Row.rms (fun k => L.x (ix2 r k)) (fun k => L.n 0 (ix2 0 k)) i * w (ix2 i j) := by
  unfold k0_pay10
  pointwise
  simp only [pay7]

theorem pay12 (a b : FVec Ideal S512x1024 .f32) (c d e : FVec Ideal S512x1280 .f32) (w : Vec Ideal S1280x1024 .bf16) (n : Vec Ideal S1x1024 .f32)
    (r : Fin 512) (j : Fin 1024) : k0_pay12 (F := Ideal) a b c d e w n (ix2 r j) =
    Row.half (fun j => a (ix2 r j)) (fun j => b (ix2 r j) + ∑ k, c (ix2 r k) * e (ix2 r k) * d (ix2 r k) * w (ix2 k j)) (fun k => n (ix2 0 k)) j := by
  unfold k0_pay12
  pointwise
  rfl

theorem pay6 (x : Vec Ideal S512x1024 .f32) (r : Fin 512) (j : Fin 1024) : k0_pay6 (F := Ideal) x (ix2 r j) = x (ix2 r j) := by
  unfold k0_pay6
  pointwise

theorem yOf_eq (r : Fin 512) (j : Fin 1024) : yOf L (ix2 r j) =
    Row.yRow (fun k => L.x (ix2 r k)) (fun k => L.n 0 (ix2 0 k)) (fun k => L.n 1 (ix2 0 k)) (gAll L) (uAll L) (dAll L) j := by
  unfold yOf Row.yRow
  rw [pay12]
  refine congr (congrFun (congrArg₂ Row.half ?_ ?_) _) rfl
  · funext j; exact pay6 ..
  · funext j
    rw [ffn_parts, pay8]
    refine congrArg₂ _ rfl (Finset.sum_congr rfl fun k _ => ?_)
    have hl : k0_pay11 (F := Ideal) L.x (L.n 0) L.g1 (ix2 r k) = Ideal.logistic (k0_pay9 (F := Ideal) L.x (L.n 0) L.g1 (ix2 r k)) := rfl
    rw [hl, pay9, pay10]
    rfl

theorem z13 (r : Fin 512) (j : Fin 1024) : k0_pay13 (F := Ideal) (yOf L) (L.n 2) (ix2 r j) = Row.rms (fun k => yOf L (ix2 r k)) (fun k => L.n 2 (ix2 0 k)) j := by
  unfold k0_pay13
  pointwise
  rfl

theorem p15 (Z : FVec Ideal S512x1024 .f32) (w : Vec Ideal S1024x2048 .bf16) (r : Fin 512) (j : Fin 2048) : k0_pay15 (F := Ideal) Z w (ix2 r j) = ∑ k, Z (ix2 r k) * w (ix2 k j) := by
  unfold k0_pay15 k0_pay14
  pointwise
theorem p16 (Z : FVec Ideal S512x1024 .f32) (w : Vec Ideal S1024x256 .bf16) (r : Fin 512) (j : Fin 256) : k0_pay16 (F := Ideal) Z w (ix2 r j) = ∑ k, Z (ix2 r k) * w (ix2 k j) := by
  unfold k0_pay16 k0_pay14
  pointwise
theorem p17 (Z : FVec Ideal S512x1024 .f32) (w : Vec Ideal S1024x256 .bf16) (r : Fin 512) (j : Fin 256) : k0_pay17 (F := Ideal) Z w (ix2 r j) = ∑ k, Z (ix2 r k) * w (ix2 k j) := by
  unfold k0_pay17 k0_pay14
  pointwise
theorem p18 (Z : FVec Ideal S512x1024 .f32) (w : Vec Ideal S1024x256 .bf16) (r : Fin 512) (j : Fin 256) : k0_pay18 (F := Ideal) Z w (ix2 r j) = ∑ k, Z (ix2 r k) * w (ix2 k j) := by
  unfold k0_pay18 k0_pay14
  pointwise
theorem p19 (Z : FVec Ideal S512x1024 .f32) (w : Vec Ideal S1024x768 .bf16) (r : Fin 512) (j : Fin 768) : k0_pay19 (F := Ideal) Z w (ix2 r j) = ∑ k, Z (ix2 r k) * w (ix2 k j) := by
  unfold k0_pay19 k0_pay14
  pointwise

theorem p23 (Z : FVec Ideal S512x1024 .f32) (w : Vec Ideal S1024x256 .bf16) (a : Fin 1) (r : Fin 256) (j : Fin 256) : k0_pay23 (F := Ideal) Z w (ix3 a r j) = ∑ k, Z (ix2 ⟨r.val, by omega⟩ k) * w (ix2 k j) := by
  unfold k0_pay23 k0_pay21
  pointwise
  simp only [p17]
theorem p32 (x : FVec Ideal S512x256 .f32) (a : Fin 1) (r : Fin 256) (j : Fin 256) : k0_pay32 (F := Ideal) x (ix3 a r j) = x (ix2 ⟨256 + r.val, by omega⟩ j) := by
  unfold k0_pay32 k0_pay30
  pointwise
theorem p29 (x : FVec Ideal S256x256 .f32) (r : Fin 8) (j : Fin 256) : k0_pay29 (F := Ideal) x (ix2 r j) = ∑ k : Fin 32, x (ix2 ⟨k.val * 8 + r.val, by omega⟩ j) := by
  unfold k0_pay29
  pointwise
theorem p5 (x : FVec Ideal S256x256 .f32) (r : Fin 8) (j : Fin 256) : k0_pay5 (F := Ideal) x (ix2 r j) = ∑ k : Fin 32, x (ix2 ⟨k.val * 8 + r.val, by omega⟩ j) := by
  unfold k0_pay5
  pointwise
theorem p26 (x : FVec Ideal S256x256 .f32) (a b : Fin 1) (e : Fin 80) (j : Fin 256) : k0_pay26 (F := Ideal) k0_pay20 x (ix4 a b e j) = if h : e.val < 64 then x (ix2 ⟨64 + e.val, by omega⟩ j) else 1 := by
  unfold k0_pay26 k0_pay20
  pointwise
theorem p21 (Z : FVec Ideal S512x1024 .f32) (w : Vec Ideal S1024x256 .bf16) (r : Fin 256) (j : Fin 256) : k0_pay21 (F := Ideal) Z w (ix2 r j) = ∑ k, Z (ix2 ⟨r.val, by omega⟩ k) * w (ix2 k j) := by
  unfold k0_pay21
  pointwise
  simp only [p17]
theorem p30 (x : FVec Ideal S512x256 .f32) (r : Fin 256) (j : Fin 256) : k0_pay30 (F := Ideal) x (ix2 r j) = x (ix2 ⟨256 + r.val, by omega⟩ j) := by
  unfold k0_pay30
  pointwise
theorem p22 (Z : FVec Ideal S512x1024 .f32) (w : Vec Ideal S1024x256 .bf16) (r : Fin 256) (j : Fin 256) : k0_pay22 (F := Ideal) Z w (ix2 r j) = ∑ k, Z (ix2 ⟨j.val, by omega⟩ k) * w (ix2 k r) := by
  unfold k0_pay22
  pointwise
  simp only [p18]
theorem p31 (x : FVec Ideal S512x256 .f32) (r : Fin 256) (j : Fin 256) : k0_pay31 (F := Ideal) x (ix2 r j) = x (ix2 ⟨256 + j.val, by omega⟩ r) := by
  unfold k0_pay31
  pointwise
theorem p27 (x : FVec Ideal S256x256 .f32) (a b : Fin 1) (e : Fin 80) (j : Fin 256) : k0_pay27 (F := Ideal) k0_pay20 x (ix4 a b e j) = if h : e.val < 64 then x (ix2 ⟨128 + e.val, by omega⟩ j) else 1 := by
  unfold k0_pay27 k0_pay20
  pointwise
theorem p28 (x : FVec Ideal S256x256 .f32) (a b : Fin 1) (e : Fin 80) (j : Fin 256) : k0_pay28 (F := Ideal) k0_pay20 x (ix4 a b e j) = if h : e.val < 64 then x (ix2 ⟨192 + e.val, by omega⟩ j) else 1 := by
  unfold k0_pay28 k0_pay20
  pointwise
theorem p2 (x : FVec Ideal S256x256 .f32) (a b : Fin 1) (e : Fin 80) (j : Fin 256) : k0_pay2 (F := Ideal) k0_pay20 x (ix4 a b e j) = if h : e.val < 64 then x (ix2 ⟨64 + e.val, by omega⟩ j) else 1 := by
  unfold k0_pay2 k0_pay20
  pointwise
theorem p3 (x : FVec Ideal S256x256 .f32) (a b : Fin 1) (e : Fin 80) (j : Fin 256) : k0_pay3 (F := Ideal) k0_pay20 x (ix4 a b e j) = if h : e.val < 64 then x (ix2 ⟨128 + e.val, by omega⟩ j) else 1 := by
  unfold k0_pay3 k0_pay20
  pointwise
theorem p4 (x : FVec Ideal S256x256 .f32) (a b : Fin 1) (e : Fin 80) (j : Fin 256) : k0_pay4 (F := Ideal) k0_pay20 x (ix4 a b e j) = if h : e.val < 64 then x (ix2 ⟨192 + e.val, by omega⟩ j) else 1 := by
  unfold k0_pay4 k0_pay20
  pointwise
theorem p25 (Z : FVec Ideal S512x1024 .f32) (w : Vec Ideal S1024x256 .bf16) (a b : Fin 1) (e : Fin 80) (j : Fin 256) : k0_pay25 (F := Ideal) (k0_pay24 Z w) (ix4 a b e j) = if h : e.val < 64 then k0_pay22 (F := Ideal) Z w (ix2 ⟨e.val, by omega⟩ j) else 1 := by
  unfold k0_pay25 k0_pay24 k0_pay20
  pointwise
theorem p1 (x : FVec Ideal S512x256 .f32) (a b : Fin 1) (e : Fin 80) (j : Fin 256) : k0_pay1 (F := Ideal) (k0_pay33 x k0_pay20) (ix4 a b e j) = if h : e.val < 64 then k0_pay31 (F := Ideal) x (ix2 ⟨e.val, by omega⟩ j) else 1 := by
  unfold k0_pay1 k0_pay33 k0_pay20
  pointwise

end Hg.P
-- ==== Proof.ProjVal.lean ====
/-
  The feed-forward and projection kernel's results: every block it writes back, as rows of its arguments.
-/
module

public import proofs.«01_k».proof.Proof.ProjPay
public import proofs.«01_k».proof.Proof.Gen.ProjIdeal.Value
public import Idealize.ShloMosaic.Lib.Pointwise
public import Idealize.ShloMosaic.Lib.StableHlo.Run

@[expose] public section

noncomputable section

namespace Hg.P

open Idealize.ShloMosaic Idealize.ShloMosaic.TcCoe Cert.ProjIdeal Cert.ProjIdeal.Gen

variable (m : (ℓ : Loc nD τ sig) → Buf (Elt Ideal) ℓ) (c : Dev nD)

/-! ## The arrays the kernel is called with -/

theorem cast0 (x : FVec Ideal S1x16384x1024 .f32) (r : Fin 16384) (k : Fin 1024) :
    shapeCast S16384x1024 x shapeCasts_S1x16384x1024_S16384x1024 (ix2 r k) = x (ix3 0 r k) := by
  pointwise

theorem V0 (r : Fin 16384) (k : Fin 1024) : V m c main_v0 (ix2 r k) = m (c, main_arg0) (ix3 0 r k) := by
  have e : V m c main_v0 = shapeCast S16384x1024 (m (c, main_arg0)) shapeCasts_S1x16384x1024_S16384x1024 := by
    show StableHlo.after hostOps0 _ _ = _
    after_results_simp
    rfl
  rw [e]
  exact cast0 _ r k

theorem cast1 (x : FVec Ideal S2x6x1024 .f32) (r : Fin 3) (k : Fin 1024) :
    (shapeCast S3x1024 (extractStridedSlice S1x3x1024 ![0, 0, 0] x slices_S2x6x1024_S1x3x1024_0_0_0) shapeCasts_S1x3x1024_S3x1024) (ix2 r k) = x (ix3 0 ⟨r.val, by omega⟩ k) := by
  pointwise

theorem V1 (r : Fin 3) (k : Fin 1024) : V m c main_v2 (ix2 r k) = m (c, main_arg1) (ix3 0 ⟨r.val, by omega⟩ k) := by
  have e : V m c main_v2 = shapeCast S3x1024 (extractStridedSlice S1x3x1024 ![0, 0, 0] (m (c, main_arg1)) slices_S2x6x1024_S1x3x1024_0_0_0) shapeCasts_S1x3x1024_S3x1024 := by
    show StableHlo.after hostOps0 _ _ = _
    after_results_simp
    rfl
  rw [e]
  exact cast1 _ r k

theorem cast2 (x : FVec Ideal S2x1024x2816 .f32) (r : Fin 1024) (k : Fin 2816) :
    (truncf (F := Ideal) .bf16 (shapeCast S1024x2816 (extractStridedSlice S1x1024x2816 ![0, 0, 0] x slices_S2x1024x2816_S1x1024x2816_0_0_0) shapeCasts_S1x1024x2816_S1024x2816) bitsLt_bf16_f32) (ix2 r k) = x (ix3 0 r k) := by
  pointwise

theorem V2 (r : Fin 1024) (k : Fin 2816) : V m c main_v5 (ix2 r k) = m (c, main_arg2) (ix3 0 r k) := by
  have e : V m c main_v5 = truncf (F := Ideal) .bf16 (shapeCast S1024x2816 (extractStridedSlice S1x1024x2816 ![0, 0, 0] (m (c, main_arg2)) slices_S2x1024x2816_S1x1024x2816_0_0_0) shapeCasts_S1x1024x2816_S1024x2816) bitsLt_bf16_f32 := by
    show StableHlo.after hostOps0 _ _ = _
    after_results_simp
    rfl
  rw [e]
  exact cast2 _ r k

theorem cast3 (x : FVec Ideal S2x1024x2816 .f32) (r : Fin 1024) (k : Fin 2816) :
    (truncf (F := Ideal) .bf16 (shapeCast S1024x2816 (extractStridedSlice S1x1024x2816 ![0, 0, 0] x slices_S2x1024x2816_S1x1024x2816_0_0_0) shapeCasts_S1x1024x2816_S1024x2816) bitsLt_bf16_f32) (ix2 r k) = x (ix3 0 r k) := by
  pointwise

theorem V3 (r : Fin 1024) (k : Fin 2816) : V m c main_v8 (ix2 r k) = m (c, main_arg3) (ix3 0 r k) := by
  have e : V m c main_v8 = truncf (F := Ideal) .bf16 (shapeCast S1024x2816 (extractStridedSlice S1x1024x2816 ![0, 0, 0] (m (c, main_arg3)) slices_S2x1024x2816_S1x1024x2816_0_0_0) shapeCasts_S1x1024x2816_S1024x2816) bitsLt_bf16_f32 := by
    show StableHlo.after hostOps0 _ _ = _
    after_results_simp
    rfl
  rw [e]
  exact cast3 _ r k

theorem cast4 (x : FVec Ideal S2x2816x1024 .f32) (r : Fin 2816) (k : Fin 1024) :
    (truncf (F := Ideal) .bf16 (shapeCast S2816x1024 (extractStridedSlice S1x2816x1024 ![0, 0, 0] x slices_S2x2816x1024_S1x2816x1024_0_0_0) shapeCasts_S1x2816x1024_S2816x1024) bitsLt_bf16_f32) (ix2 r k) = x (ix3 0 r k) := by
  pointwise

theorem V4 (r : Fin 2816) (k : Fin 1024) : V m c main_v11 (ix2 r k) = m (c, main_arg4) (ix3 0 r k) := by
  have e : V m c main_v11 = truncf (F := Ideal) .bf16 (shapeCast S2816x1024 (extractStridedSlice S1x2816x1024 ![0, 0, 0] (m (c, main_arg4)) slices_S2x2816x1024_S1x2816x1024_0_0_0) shapeCasts_S1x2816x1024_S2816x1024) bitsLt_bf16_f32 := by
    show StableHlo.after hostOps0 _ _ = _
    after_results_simp
    rfl
  rw [e]
  exact cast4 _ r k

theorem cast5 (x : FVec Ideal S2x1024x3584 .f32) (r : Fin 1024) (k : Fin 3584) :
    (truncf (F := Ideal) .bf16 (shapeCast S1024x3584 (extractStridedSlice S1x1024x3584 ![0, 0, 0] x slices_S2x1024x3584_S1x1024x3584_0_0_0) shapeCasts_S1x1024x3584_S1024x3584) bitsLt_bf16_f32) (ix2 r k) = x (ix3 0 r k) := by
  pointwise

theorem V5 (r : Fin 1024) (k : Fin 3584) : V m c main_v14 (ix2 r k) = m (c, main_arg5) (ix3 0 r k) := by
  have e : V m c main_v14 = truncf (F := Ideal) .bf16 (shapeCast S1024x3584 (extractStridedSlice S1x1024x3584 ![0, 0, 0] (m (c, main_arg5)) slices_S2x1024x3584_S1x1024x3584_0_0_0) shapeCasts_S1x1024x3584_S1024x3584) bitsLt_bf16_f32 := by
    show StableHlo.after hostOps0 _ _ = _
    after_results_simp
    rfl
  rw [e]
  exact cast5 _ r k

/-! ## The blocks the kernel reads -/

theorem N32 (t : Fin cfg0.N) : t.val < 32 := by
  have h : cfg0.N = 32 := N_0
  have := t.isLt
  omega

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)

theorem blk0 (t : Fin cfg0.N) (r : Fin 512) (k : Fin 1024) :
    (iblk m c 0 t : Vec Ideal S512x1024 .f32) (ix2 r k) = m (c, main_arg0) (ix3 0 ⟨512 * t.val + r.val, by have := N32 t; omega⟩ k) := by
  refine Eq.trans ?_ (V0 m c _ k)
  unfold iblk
  rw [View.read_apply]
  show V m c main_v0 _ = _
  congr 1
  funext a
  apply Fin.ext
  match a with
  | ⟨0, _⟩ => show win0_0.index t 0 * 512 + 1 * r.val = 512 * t.val + r.val; rw [(at0 t).1]; omega
  | ⟨1, _⟩ => show win0_0.index t 1 * 1024 + 1 * k.val = k.val; rw [(at0 t).2]; omega

theorem blk1 (t : Fin cfg0.N) (r : Fin 3) (k : Fin 1024) :
    (iblk m c 1 t : Vec Ideal S3x1024 .f32) (ix2 r k) = m (c, main_arg1) (ix3 0 ⟨r.val, by omega⟩ k) := by
  refine Eq.trans ?_ (V1 m c r k)
  unfold iblk
  rw [View.read_apply]
  show V m c main_v2 _ = _
  congr 1
  funext a
  apply Fin.ext
  match a with
  | ⟨0, _⟩ => show win0_1.index t 0 * 3 + 1 * r.val = r.val; rw [(at1 t).1]; omega
  | ⟨1, _⟩ => show win0_1.index t 1 * 1024 + 1 * k.val = k.val; rw [(at1 t).2]; omega

theorem blk2 (t : Fin cfg0.N) (r : Fin 1024) (k : Fin 2816) :
    (iblk m c 2 t : Vec Ideal S1024x2816 .bf16) (ix2 r k) = m (c, main_arg2) (ix3 0 r k) := by
  refine Eq.trans ?_ (V2 m c r k)
  unfold iblk
  rw [View.read_apply]
  show V m c main_v5 _ = _
  congr 1
  funext a
  apply Fin.ext
  match a with
  | ⟨0, _⟩ => show win0_2.index t 0 * 1024 + 1 * r.val = r.val; rw [(at2 t).1]; omega
  | ⟨1, _⟩ => show win0_2.index t 1 * 2816 + 1 * k.val = k.val; rw [(at2 t).2]; omega

theorem blk3 (t : Fin cfg0.N) (r : Fin 1024) (k : Fin 2816) :
    (iblk m c 3 t : Vec Ideal S1024x2816 .bf16) (ix2 r k) = m (c, main_arg3) (ix3 0 r k) := by
  refine Eq.trans ?_ (V3 m c r k)
  unfold iblk
  rw [View.read_apply]
  show V m c main_v8 _ = _
  congr 1
  funext a
  apply Fin.ext
  match a with
  | ⟨0, _⟩ => show win0_3.index t 0 * 1024 + 1 * r.val = r.val; rw [(at3 t).1]; omega
  | ⟨1, _⟩ => show win0_3.index t 1 * 2816 + 1 * k.val = k.val; rw [(at3 t).2]; omega

theorem blk4 (t : Fin cfg0.N) (r : Fin 2816) (k : Fin 1024) :
    (iblk m c 4 t : Vec Ideal S2816x1024 .bf16) (ix2 r k) = m (c, main_arg4) (ix3 0 r k) := by
  refine Eq.trans ?_ (V4 m c r k)
  unfold iblk
  rw [View.read_apply]
  show V m c main_v11 _ = _
  congr 1
  funext a
  apply Fin.ext
  match a with
  | ⟨0, _⟩ => show win0_4.index t 0 * 2816 + 1 * r.val = r.val; rw [(at4 t).1]; omega
  | ⟨1, _⟩ => show win0_4.index t 1 * 1024 + 1 * k.val = k.val; rw [(at4 t).2]; omega

theorem blk5 (t : Fin cfg0.N) (r : Fin 1024) (k : Fin 3584) :
    (iblk m c 5 t : Vec Ideal S1024x3584 .bf16) (ix2 r k) = m (c, main_arg5) (ix3 0 r k) := by
  refine Eq.trans ?_ (V5 m c r k)
  unfold iblk
  rw [View.read_apply]
  show V m c main_v14 _ = _
  congr 1
  funext a
  apply Fin.ext
  match a with
  | ⟨0, _⟩ => show win0_5.index t 0 * 1024 + 1 * r.val = r.val; rw [(at5 t).1]; omega
  | ⟨1, _⟩ => show win0_5.index t 1 * 3584 + 1 * k.val = k.val; rw [(at5 t).2]; omega

/-! ## The loads -/

section Loads
variable (arg1 : Memref sig .tc .vmem S512x1024 .f32) (harg1 : arg1.IsWhole) (arg2 : Memref sig .tc .vmem S3x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x3584 .bf16) (harg6 : arg6.IsWhole) (arg7 : Memref sig .tc .vmem S512x1024 .f32) (harg7 : arg7.IsWhole) (arg8 : Memref sig .tc .vmem S512x2048 .f32) (harg8 : arg8.IsWhole) (arg9 : Memref sig .tc .vmem S512x256 .f32) (harg9 : arg9.IsWhole) (arg10 : Memref sig .tc .vmem S2x256x256 .bf16) (harg10 : arg10.IsWhole) (arg11 : Memref sig .tc .vmem S2x4x80x256 .bf16) (harg11 : arg11.IsWhole) (arg12 : Memref sig .tc .vmem S16x256 .f32) (harg12 : arg12.IsWhole) (arg13 : Memref sig .tc .vmem S512x768 .f32) (harg13 : arg13.IsWhole)
  (x0 : Vec Ideal S512x1024 .f32) (x1 : Vec Ideal S3x1024 .f32) (x2 : Vec Ideal S1024x2816 .bf16) (x3 : Vec Ideal S1024x2816 .bf16) (x4 : Vec Ideal S2816x1024 .bf16) (x5 : Vec Ideal S1024x3584 .bf16)

theorem ld_x (r : Fin 512) (k : Fin 1024) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).x (ix2 r k) = x0 (ix2 r k) := by
  show View.readAt (Elt Ideal) arg1.view _ (harg1.unread x0) _ = _
  rw [View.readAt_eq_ld, harg1.read_unread]
  exact (congrFun (View.ld_unit (Val := Elt Ideal) x0 _ _ _) _).trans (by pointwise)

theorem ld_n (j : Fin 3) (r : Fin 1) (k : Fin 1024) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).n j (ix2 r k) = x1 (ix2 j k) := by
  show View.readAt (Elt Ideal) arg2.view _ (harg2.unread x1) _ = _
  rw [View.readAt_eq_ld, harg2.read_unread]
  refine (congrFun (View.ld_unit (Val := Elt Ideal) x1 _ _ _) _).trans ?_
  refine extractStridedSlice_apply _ _ _ _ _ ?_
  intro a
  have := r.isLt
  match a with
  | ⟨0, _⟩ => show j.val = j.val + r.val; omega
  | ⟨1, _⟩ => show k.val = 0 + k.val; omega

theorem ld_g0 (r : Fin 1024) (k : Fin 1536) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).g0 (ix2 r k) = x2 (ix2 r ⟨k.val, by omega⟩) := by
  show View.readAt (Elt Ideal) arg3.view _ (harg3.unread x2) _ = _
  rw [View.readAt_eq_ld, harg3.read_unread]
  exact (congrFun (View.ld_unit (Val := Elt Ideal) x2 _ _ _) _).trans (by pointwise)

theorem ld_g1 (r : Fin 1024) (k : Fin 1280) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).g1 (ix2 r k) = x2 (ix2 r ⟨1536 + k.val, by omega⟩) := by
  show View.readAt (Elt Ideal) arg3.view _ (harg3.unread x2) _ = _
  rw [View.readAt_eq_ld, harg3.read_unread]
  exact (congrFun (View.ld_unit (Val := Elt Ideal) x2 _ _ _) _).trans (by pointwise)

theorem ld_u0 (r : Fin 1024) (k : Fin 1536) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).u0 (ix2 r k) = x3 (ix2 r ⟨k.val, by omega⟩) := by
  show View.readAt (Elt Ideal) arg4.view _ (harg4.unread x3) _ = _
  rw [View.readAt_eq_ld, harg4.read_unread]
  exact (congrFun (View.ld_unit (Val := Elt Ideal) x3 _ _ _) _).trans (by pointwise)

theorem ld_u1 (r : Fin 1024) (k : Fin 1280) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).u1 (ix2 r k) = x3 (ix2 r ⟨1536 + k.val, by omega⟩) := by
  show View.readAt (Elt Ideal) arg4.view _ (harg4.unread x3) _ = _
  rw [View.readAt_eq_ld, harg4.read_unread]
  exact (congrFun (View.ld_unit (Val := Elt Ideal) x3 _ _ _) _).trans (by pointwise)

theorem ld_d0 (r : Fin 1536) (k : Fin 1024) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).d0 (ix2 r k) = x4 (ix2 ⟨r.val, by omega⟩ k) := by
  show View.readAt (Elt Ideal) arg5.view _ (harg5.unread x4) _ = _
  rw [View.readAt_eq_ld, harg5.read_unread]
  exact (congrFun (View.ld_unit (Val := Elt Ideal) x4 _ _ _) _).trans (by pointwise)

theorem ld_d1 (r : Fin 1280) (k : Fin 1024) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).d1 (ix2 r k) = x4 (ix2 ⟨1536 + r.val, by omega⟩ k) := by
  show View.readAt (Elt Ideal) arg5.view _ (harg5.unread x4) _ = _
  rw [View.readAt_eq_ld, harg5.read_unread]
  exact (congrFun (View.ld_unit (Val := Elt Ideal) x4 _ _ _) _).trans (by pointwise)

theorem ld_wz (r : Fin 1024) (k : Fin 2048) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).wz (ix2 r k) = x5 (ix2 r ⟨k.val, by omega⟩) := by
  show View.readAt (Elt Ideal) arg6.view _ (harg6.unread x5) _ = _
  rw [View.readAt_eq_ld, harg6.read_unread]
  exact (congrFun (View.ld_unit (Val := Elt Ideal) x5 _ _ _) _).trans (by pointwise)

theorem ld_wq (r : Fin 1024) (k : Fin 256) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).wq (ix2 r k) = x5 (ix2 r ⟨2048 + k.val, by omega⟩) := by
  show View.readAt (Elt Ideal) arg6.view _ (harg6.unread x5) _ = _
  rw [View.readAt_eq_ld, harg6.read_unread]
  exact (congrFun (View.ld_unit (Val := Elt Ideal) x5 _ _ _) _).trans (by pointwise)

theorem ld_wk (r : Fin 1024) (k : Fin 256) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).wk (ix2 r k) = x5 (ix2 r ⟨2304 + k.val, by omega⟩) := by
  show View.readAt (Elt Ideal) arg6.view _ (harg6.unread x5) _ = _
  rw [View.readAt_eq_ld, harg6.read_unread]
  exact (congrFun (View.ld_unit (Val := Elt Ideal) x5 _ _ _) _).trans (by pointwise)

theorem ld_wv (r : Fin 1024) (k : Fin 256) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).wv (ix2 r k) = x5 (ix2 r ⟨2560 + k.val, by omega⟩) := by
  show View.readAt (Elt Ideal) arg6.view _ (harg6.unread x5) _ = _
  rw [View.readAt_eq_ld, harg6.read_unread]
  exact (congrFun (View.ld_unit (Val := Elt Ideal) x5 _ _ _) _).trans (by pointwise)

theorem ld_wc (r : Fin 1024) (k : Fin 768) : (ploads arg1 harg1 arg2 harg2 arg3 harg3 arg4 harg4 arg5 harg5 arg6 harg6 arg7 harg7 arg8 harg8 arg9 harg9 arg10 harg10 arg11 harg11 arg12 harg12 arg13 harg13 x0 x1 x2 x3 x4 x5).wc (ix2 r k) = x5 (ix2 r ⟨2816 + k.val, by omega⟩) := by
  show View.readAt (Elt Ideal) arg6.view _ (harg6.unread x5) _ = _
  rw [View.readAt_eq_ld, harg6.read_unread]
  exact (congrFun (View.ld_unit (Val := Elt Ideal) x5 _ _ _) _).trans (by pointwise)

end Loads

end Hg.P
-- ==== Proof.ProjRef.lean ====
/-
  The feed-forward and projection reference, read row by row.
-/
module

public import proofs.«01_k».proof.Proof.Gen.ProjRefIdeal.Read
public import proofs.«01_k».proof.Proof.Row

@[expose] public section

noncomputable section

namespace Hg.PR

open Idealize.ShloMosaic Cert.ProjRefIdeal Cert.ProjRefIdeal.Gen Cert.ProjRefIdeal.Read

variable (x0 : (⟨S1x16384x1024, .f32⟩ : BufTy).Contents (Elt Ideal)) (x1 : (⟨S2x6x1024, .f32⟩ : BufTy).Contents (Elt Ideal))
  (x2 x3 : (⟨S2x1024x2816, .f32⟩ : BufTy).Contents (Elt Ideal)) (x4 : (⟨S2x2816x1024, .f32⟩ : BufTy).Contents (Elt Ideal))
  (x5 : (⟨S2x1024x3584, .f32⟩ : BufTy).Contents (Elt Ideal))

theorem v15 (r : Fin 16384) (j : Fin 1024) : val_main_v15 (F := Ideal) x0 x1 (ix2 r j) = Row.rms (fun k => x0 (ix3 0 r k)) (fun k => x1 (ix3 0 0 k)) j := by
  unfold val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem v31 (r : Fin 16384) (j : Fin 2816) : val_main_v31 (F := Ideal) x0 x1 x2 x3 (ix2 r j) =
    Row.hid (Row.rms (fun k => x0 (ix3 0 r k)) (fun k => x1 (ix3 0 0 k))) (fun i k => x2 (ix3 0 i k)) (fun i k => x3 (ix3 0 i k)) j := by
  unfold val_main_v31 val_main_v30 val_main_v29 val_main_v28 val_main_v27 val_main_v26 val_main_v25 val_main_v24 val_main_v23 val_main_v22 val_main_v19 val_main_v18 val_main_v17 val_main_v16 val_main_cst_2 val_main_cst_3
  pointwise
  simp only [v15]
  rfl

/-- The rows after the feed-forward part. -/
def Y (r : Fin 16384) : Fin 1024 → EReal :=
  Row.yRow (fun k => x0 (ix3 0 r k)) (fun k => x1 (ix3 0 0 k)) (fun k => x1 (ix3 0 1 k)) (fun i k => x2 (ix3 0 i k)) (fun i k => x3 (ix3 0 i k)) (fun i k => x4 (ix3 0 i k))

/-- The projected rows. -/
def Z (r : Fin 16384) (c : Fin 3584) : EReal :=
  Row.zRow (Y x0 x1 x2 x3 x4 r) (fun k => x1 (ix3 0 2 k)) (fun i k => x5 (ix3 0 i k)) c

theorem v32 (r : Fin 16384) (j : Fin 1024) : val_main_v32 (F := Ideal) x0 x1 x2 x3 x4 (ix2 r j) =
    Row.ffn (Row.rms (fun k => x0 (ix3 0 r k)) (fun k => x1 (ix3 0 0 k))) (fun i k => x2 (ix3 0 i k)) (fun i k => x3 (ix3 0 i k)) (fun i k => x4 (ix3 0 i k)) j := by
  unfold val_main_v32 val_main_v21 val_main_v20
  pointwise
  simp only [v31]
  rfl

theorem v50 (r : Fin 16384) (j : Fin 1024) : val_main_v50 (F := Ideal) x0 x1 x2 x3 x4 (ix2 r j) = Y x0 x1 x2 x3 x4 r j := by
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v0 val_main_cst_4 val_main_cst_5 val_main_cst_6 val_main_cst_7
  pointwise
  simp only [v32]
  rfl

theorem v65 (r : Fin 16384) (j : Fin 1024) : val_main_v65 (F := Ideal) x0 x1 x2 x3 x4 (ix2 r j) = Row.rms (Y x0 x1 x2 x3 x4 r) (fun k => x1 (ix3 0 2 k)) j := by
  unfold val_main_v65 val_main_v64 val_main_v63 val_main_v62 val_main_v61 val_main_v60 val_main_v59 val_main_v58 val_main_v57 val_main_v56 val_main_v55 val_main_v54 val_main_v53 val_main_v52 val_main_v51 val_main_cst_8 val_main_cst_9 val_main_cst_10
  pointwise
  simp only [v50]
  rfl

theorem v68 (r : Fin 16384) (j : Fin 3584) : val_main_v68 (F := Ideal) x0 x1 x2 x3 x4 x5 (ix2 r j) = Z x0 x1 x2 x3 x4 x5 r j := by
  unfold val_main_v68 val_main_v67 val_main_v66
  pointwise
  simp only [v65]
  rfl

theorem v69 (r : Fin 16384) (j : Fin 2048) : val_main_v69 (F := Ideal) x0 x1 x2 x3 x4 x5 (ix2 r j) = Z x0 x1 x2 x3 x4 x5 r ⟨j.val, by omega⟩ := by
  unfold val_main_v69
  pointwise
  simp only [v68]

theorem v70 (r : Fin 16384) (j : Fin 256) : val_main_v70 (F := Ideal) x0 x1 x2 x3 x4 x5 (ix2 r j) = Z x0 x1 x2 x3 x4 x5 r ⟨2048 + j.val, by omega⟩ := by
  unfold val_main_v70
  pointwise
  simp only [v68]

theorem v73 (r : Fin 16384) (j : Fin 768) : val_main_v73 (F := Ideal) x0 x1 x2 x3 x4 x5 (ix2 r j) = Z x0 x1 x2 x3 x4 x5 r ⟨2816 + j.val, by omega⟩ := by
  unfold val_main_v73
  pointwise
  simp only [v68]

theorem v82 (b : Fin 64) (r : Fin 256) (j : Fin 256) : val_main_v82 (F := Ideal) x0 x1 x2 x3 x4 x5 (ix3 b r j) = Z x0 x1 x2 x3 x4 x5 ⟨b.val * 256 + r.val, by omega⟩ ⟨2304 + j.val, by omega⟩ := by
  unfold val_main_v82 val_main_v74 val_main_v71
  pointwise
  simp only [v68]

theorem v81 (r : Fin 512) (j : Fin 256) : val_main_v81 (F := Ideal) x0 x1 x2 x3 x4 x5 (ix2 r j) =
   ∑ k : Fin 32, Z x0 x1 x2 x3 x4 x5 ⟨r.val / 8 * 256 + k.val * 8 + r.val % 8, by omega⟩ ⟨2304 + j.val, by omega⟩ := by
  unfold val_main_v81 val_main_v80 val_main_v79 val_main_v71 val_main_cst_12
  pointwise
  simp only [v68]

theorem v83 (b : Fin 64) (h : Fin 4) (e : Fin 80) (r : Fin 256) : val_main_v83 (F := Ideal) x0 x1 x2 x3 x4 x5 (ix4 b h e r) =
   if he : e.val < 64 then Z x0 x1 x2 x3 x4 x5 ⟨b.val * 256 + r.val, by omega⟩ ⟨2560 + (h.val * 64 + e.val), by omega⟩ else 1 := by
  unfold val_main_v83 val_main_v78 val_main_v77 val_main_v76 val_main_v75 val_main_v72 val_main_cst_11
  pointwise
  simp only [v68]

end Hg.PR
-- ==== Proof.ProjOut.lean ====
/-
  The feed-forward and projection kernel's results: the arrays it leaves, as the specification's rows of its arguments.
-/
module

public import proofs.«01_k».proof.Proof.ProjVal
public import proofs.«01_k».proof.Proof.ProjRef

@[expose] public section

noncomputable section

namespace Hg.P

open Idealize.ShloMosaic Idealize.ShloMosaic.TcCoe Cert.ProjIdeal Cert.ProjIdeal.Gen Cert.ProjIdeal.Value

variable (m : (ℓ : Loc nD τ sig) → Buf (Elt Ideal) ℓ) (c : Dev nD)

/-- The loads of grid point `t`. -/
def PL (t : Fin cfg0.N) : PLoads Ideal :=
  ploads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t)

/-- The rows after the feed-forward part, of the arguments in memory. -/
abbrev Ym (r : Fin 16384) (j : Fin 1024) : EReal := PR.Y (m (c, main_arg0)) (m (c, main_arg1)) (m (c, main_arg2)) (m (c, main_arg3)) (m (c, main_arg4)) r j

/-- The projected rows, of the arguments in memory. -/
abbrev Zm (r : Fin 16384) (j : Fin 3584) : EReal := PR.Z (m (c, main_arg0)) (m (c, main_arg1)) (m (c, main_arg2)) (m (c, main_arg3)) (m (c, main_arg4)) (m (c, main_arg5)) r j

theorem y_eq (t : Fin cfg0.N) (r : Fin 512) (j : Fin 1024) : yOf (PL m c t) (ix2 r j) = Ym m c ⟨512 * t.val + r.val, by have := N32 t; omega⟩ j := by
  rw [yOf_eq]
  unfold Ym PR.Y
  have ex : (fun k => (PL m c t).x (ix2 r k)) = fun k => m (c, main_arg0) (ix3 0 ⟨512 * t.val + r.val, by have := N32 t; omega⟩ k) := by
    funext k; exact (ld_x ..).trans (blk0 m c t r k)
  have e0 : (fun k => (PL m c t).n 0 (ix2 0 k)) = fun k => m (c, main_arg1) (ix3 0 0 k) := by
    funext k; exact (ld_n (j := 0) ..).trans (blk1 m c t 0 k)
  have e1 : (fun k => (PL m c t).n 1 (ix2 0 k)) = fun k => m (c, main_arg1) (ix3 0 1 k) := by
    funext k; exact (ld_n (j := 1) ..).trans (blk1 m c t 1 k)
  have eg : gAll (PL m c t) = fun i k => m (c, main_arg2) (ix3 0 i k) := by
    funext i k
    unfold gAll
    split
    · exact (ld_g0 ..).trans (blk2 m c t i _)
    · refine ((ld_g1 ..).trans (blk2 m c t i _)).trans ?_
      exact congrArg (fun k => m (c, main_arg2) (ix3 0 i k)) (Fin.ext (by simp; omega))
  have eu : uAll (PL m c t) = fun i k => m (c, main_arg3) (ix3 0 i k) := by
    funext i k
    unfold uAll
    split
    · exact (ld_u0 ..).trans (blk3 m c t i _)
    · refine ((ld_u1 ..).trans (blk3 m c t i _)).trans ?_
      exact congrArg (fun k => m (c, main_arg3) (ix3 0 i k)) (Fin.ext (by simp; omega))
  have ed : dAll (PL m c t) = fun k j => m (c, main_arg4) (ix3 0 k j) := by
    funext k j
    unfold dAll
    split
    · exact (ld_d0 ..).trans (blk4 m c t _ j)
    · refine ((ld_d1 ..).trans (blk4 m c t _ j)).trans ?_
      exact congrArg (fun k => m (c, main_arg4) (ix3 0 k j)) (Fin.ext (by simp; omega))
  rw [ex, e0, e1, eg, eu, ed]

theorem z_eq (t : Fin cfg0.N) (r : Fin 512) (j : Fin 1024) :
    k0_pay13 (F := Ideal) (yOf (PL m c t)) ((PL m c t).n 2) (ix2 r j) = Row.rms (Ym m c ⟨512 * t.val + r.val, by have := N32 t; omega⟩) (fun k => m (c, main_arg1) (ix3 0 2 k)) j := by
  rw [z13]
  have e2 : (fun k => (PL m c t).n 2 (ix2 0 k)) = fun k => m (c, main_arg1) (ix3 0 2 k) := by
    funext k; exact (ld_n (j := 2) ..).trans (blk1 m c t 2 k)
  rw [e2]
  have ey : (fun k => yOf (PL m c t) (ix2 r k)) = Ym m c ⟨512 * t.val + r.val, by have := N32 t; omega⟩ := by
    funext k; exact y_eq ..
  rw [ey]

theorem z_wz (t : Fin cfg0.N) (r : Fin 512) (j : Fin 2048) :
    (∑ k, k0_pay13 (F := Ideal) (yOf (PL m c t)) ((PL m c t).n 2) (ix2 r k) * (PL m c t).wz (ix2 k j)) = Zm m c ⟨512 * t.val + r.val, by have := N32 t; omega⟩ ⟨j.val, by omega⟩ := by
  unfold Zm PR.Z Row.zRow
  refine Finset.sum_congr rfl fun k _ => ?_
  rw [z_eq]
  exact congrArg _ ((ld_wz ..).trans (blk5 m c t k _))

theorem z_wq (t : Fin cfg0.N) (r : Fin 512) (j : Fin 256) :
    (∑ k, k0_pay13 (F := Ideal) (yOf (PL m c t)) ((PL m c t).n 2) (ix2 r k) * (PL m c t).wq (ix2 k j)) = Zm m c ⟨512 * t.val + r.val, by have := N32 t; omega⟩ ⟨2048 + j.val, by omega⟩ := by
  unfold Zm PR.Z Row.zRow
  refine Finset.sum_congr rfl fun k _ => ?_
  rw [z_eq]
  exact congrArg _ ((ld_wq ..).trans (blk5 m c t k _))

theorem z_wk (t : Fin cfg0.N) (r : Fin 512) (j : Fin 256) :
    (∑ k, k0_pay13 (F := Ideal) (yOf (PL m c t)) ((PL m c t).n 2) (ix2 r k) * (PL m c t).wk (ix2 k j)) = Zm m c ⟨512 * t.val + r.val, by have := N32 t; omega⟩ ⟨2304 + j.val, by omega⟩ := by
  unfold Zm PR.Z Row.zRow
  refine Finset.sum_congr rfl fun k _ => ?_
  rw [z_eq]
  exact congrArg _ ((ld_wk ..).trans (blk5 m c t k _))

theorem z_wv (t : Fin cfg0.N) (r : Fin 512) (j : Fin 256) :
    (∑ k, k0_pay13 (F := Ideal) (yOf (PL m c t)) ((PL m c t).n 2) (ix2 r k) * (PL m c t).wv (ix2 k j)) = Zm m c ⟨512 * t.val + r.val, by have := N32 t; omega⟩ ⟨2560 + j.val, by omega⟩ := by
  unfold Zm PR.Z Row.zRow
  refine Finset.sum_congr rfl fun k _ => ?_
  rw [z_eq]
  exact congrArg _ ((ld_wv ..).trans (blk5 m c t k _))

theorem z_wc (t : Fin cfg0.N) (r : Fin 512) (j : Fin 768) :
    (∑ k, k0_pay13 (F := Ideal) (yOf (PL m c t)) ((PL m c t).n 2) (ix2 r k) * (PL m c t).wc (ix2 k j)) = Zm m c ⟨512 * t.val + r.val, by have := N32 t; omega⟩ ⟨2816 + j.val, by omega⟩ := by
  unfold Zm PR.Z Row.zRow
  refine Finset.sum_congr rfl fun k _ => ?_
  rw [z_eq]
  exact congrArg _ ((ld_wc ..).trans (blk5 m c t k _))

theorem hz2 : (![0, 0] : Fin 2 → ℕ) = fun _ => 0 := funext fun a => by fin_cases a <;> rfl

theorem at6 : ∀ t : Fin cfg0.N, win0_6.index t 0 = t.val ∧ win0_6.index t 1 = 0 :=
  (by decide +kernel : ∀ t : Fin grid0.N, win0_6.index t 0 = t.val ∧ win0_6.index t 1 = 0)

theorem res6 (R : Fin 16384) (j : Fin 1024) : ((dats m 0 c).arrAt 6 cfg0.N : FVec Ideal S16384x1024 .f32) (ix2 R j) = Ym m c R j := by
  let t : Fin cfg0.N := ⟨R.val / 512, by have h : cfg0.N = 32 := N_0; omega⟩
  let r : Fin 512 := ⟨R.val % 512, Nat.mod_lt _ (by norm_num)⟩
  have hR : 512 * t.val + r.val = R.val := Nat.div_add_mod R.val 512
  have e : (ix2 R j : S16384x1024.Idx) = ((cfg0.win 6).blk t).view.emb (ix2 r j) := by
    funext a
    apply Fin.ext
    match a with
    | ⟨0, _⟩ => show R.val = win0_6.index t 0 * 512 + 1 * r.val; rw [(at6 t).1]; omega
    | ⟨1, _⟩ => show j.val = win0_6.index t 1 * 1024 + 1 * j.val; rw [(at6 t).2]; omega
  have h := (dats m 0 c).arrAt_emb_eq_flushed 6 disjoint6 t (flush0_6 t) (ix2 r j)
  rw [← e] at h
  refine h.trans ?_
  show (dats m 0 c).flushed 6 t (ix2 r j) = _
  rw [flushed6_A, out6]
  show View.canon (pcs6 (PL m c t) (k0_pay13 (yOf (PL m c t)) ((PL m c t).n 2))) (ix2 r j) = _
  unfold pcs6
  rw [View.canon_unit_zero hz2]
  have hrow : (⟨512 * t.val + r.val, by omega⟩ : Fin 16384) = R := Fin.ext hR
  refine (y_eq m c t r j).trans ?_
  rw [hrow]

theorem at7 : ∀ t : Fin cfg0.N, win0_7.index t 0 = t.val ∧ win0_7.index t 1 = 0 :=
  (by decide +kernel : ∀ t : Fin grid0.N, win0_7.index t 0 = t.val ∧ win0_7.index t 1 = 0)

theorem res7 (R : Fin 16384) (j : Fin 2048) : ((dats m 0 c).arrAt 7 cfg0.N : FVec Ideal S16384x2048 .f32) (ix2 R j) = Zm m c R ⟨j.val, by omega⟩ := by
  let t : Fin cfg0.N := ⟨R.val / 512, by have h : cfg0.N = 32 := N_0; omega⟩
  let r : Fin 512 := ⟨R.val % 512, Nat.mod_lt _ (by norm_num)⟩
  have hR : 512 * t.val + r.val = R.val := Nat.div_add_mod R.val 512
  have e : (ix2 R j : S16384x2048.Idx) = ((cfg0.win 7).blk t).view.emb (ix2 r j) := by
    funext a
    apply Fin.ext
    match a with
    | ⟨0, _⟩ => show R.val = win0_7.index t 0 * 512 + 1 * r.val; rw [(at7 t).1]; omega
    | ⟨1, _⟩ => show j.val = win0_7.index t 1 * 2048 + 1 * j.val; rw [(at7 t).2]; omega
  have h := (dats m 0 c).arrAt_emb_eq_flushed 7 disjoint7 t (flush0_7 t) (ix2 r j)
  rw [← e] at h
  refine h.trans ?_
  show (dats m 0 c).flushed 7 t (ix2 r j) = _
  rw [flushed7_A, out7]
  show View.canon (pcs7 (PL m c t) (k0_pay13 (yOf (PL m c t)) ((PL m c t).n 2))) (ix2 r j) = _
  unfold pcs7
  rw [View.canon_unit_zero hz2]
  have hrow : (⟨512 * t.val + r.val, by omega⟩ : Fin 16384) = R := Fin.ext hR
  refine ((p15 ..).trans (z_wz m c t r j)).trans ?_
  rw [hrow]

theorem at8 : ∀ t : Fin cfg0.N, win0_8.index t 0 = t.val ∧ win0_8.index t 1 = 0 :=
  (by decide +kernel : ∀ t : Fin grid0.N, win0_8.index t 0 = t.val ∧ win0_8.index t 1 = 0)

theorem res8 (R : Fin 16384) (j : Fin 256) : ((dats m 0 c).arrAt 8 cfg0.N : FVec Ideal S16384x256 .f32) (ix2 R j) = Zm m c R ⟨2048 + j.val, by omega⟩ := by
  let t : Fin cfg0.N := ⟨R.val / 512, by have h : cfg0.N = 32 := N_0; omega⟩
  let r : Fin 512 := ⟨R.val % 512, Nat.mod_lt _ (by norm_num)⟩
  have hR : 512 * t.val + r.val = R.val := Nat.div_add_mod R.val 512
  have e : (ix2 R j : S16384x256.Idx) = ((cfg0.win 8).blk t).view.emb (ix2 r j) := by
    funext a
    apply Fin.ext
    match a with
    | ⟨0, _⟩ => show R.val = win0_8.index t 0 * 512 + 1 * r.val; rw [(at8 t).1]; omega
    | ⟨1, _⟩ => show j.val = win0_8.index t 1 * 256 + 1 * j.val; rw [(at8 t).2]; omega
  have h := (dats m 0 c).arrAt_emb_eq_flushed 8 disjoint8 t (flush0_8 t) (ix2 r j)
  rw [← e] at h
  refine h.trans ?_
  show (dats m 0 c).flushed 8 t (ix2 r j) = _
  rw [flushed8_A, out8]
  show View.canon (pcs8 (PL m c t) (k0_pay13 (yOf (PL m c t)) ((PL m c t).n 2))) (ix2 r j) = _
  unfold pcs8
  rw [View.canon_unit_zero hz2]
  have hrow : (⟨512 * t.val + r.val, by omega⟩ : Fin 16384) = R := Fin.ext hR
  refine ((p16 ..).trans (z_wq m c t r j)).trans ?_
  rw [hrow]

theorem at12 : ∀ t : Fin cfg0.N, win0_12.index t 0 = t.val ∧ win0_12.index t 1 = 0 :=
  (by decide +kernel : ∀ t : Fin grid0.N, win0_12.index t 0 = t.val ∧ win0_12.index t 1 = 0)

theorem res12 (R : Fin 16384) (j : Fin 768) : ((dats m 0 c).arrAt 12 cfg0.N : FVec Ideal S16384x768 .f32) (ix2 R j) = Zm m c R ⟨2816 + j.val, by omega⟩ := by
  let t : Fin cfg0.N := ⟨R.val / 512, by have h : cfg0.N = 32 := N_0; omega⟩
  let r : Fin 512 := ⟨R.val % 512, Nat.mod_lt _ (by norm_num)⟩
  have hR : 512 * t.val + r.val = R.val := Nat.div_add_mod R.val 512
  have e : (ix2 R j : S16384x768.Idx) = ((cfg0.win 12).blk t).view.emb (ix2 r j) := by
    funext a
    apply Fin.ext
    match a with
    | ⟨0, _⟩ => show R.val = win0_12.index t 0 * 512 + 1 * r.val; rw [(at12 t).1]; omega
    | ⟨1, _⟩ => show j.val = win0_12.index t 1 * 768 + 1 * j.val; rw [(at12 t).2]; omega
  have h := (dats m 0 c).arrAt_emb_eq_flushed 12 disjoint12 t (flush0_12 t) (ix2 r j)
  rw [← e] at h
  refine h.trans ?_
  show (dats m 0 c).flushed 12 t (ix2 r j) = _
  rw [flushed12_A, out12]
  show View.canon (pcs12 (PL m c t) (k0_pay13 (yOf (PL m c t)) ((PL m c t).n 2))) (ix2 r j) = _
  unfold pcs12
  rw [View.canon_unit_zero hz2]
  have hrow : (⟨512 * t.val + r.val, by omega⟩ : Fin 16384) = R := Fin.ext hR
  refine ((p19 ..).trans (z_wc m c t r j)).trans ?_
  rw [hrow]

theorem at9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

theorem res9 (b : Fin 64) (r : Fin 256) (j : Fin 256) :
    ((dats m 0 c).arrAt 9 cfg0.N : FVec Ideal S64x256x256 .bf16) (ix3 b r j) = Zm m c ⟨b.val * 256 + r.val, by omega⟩ ⟨2304 + j.val, by omega⟩ := by
  let t : Fin cfg0.N := ⟨b.val / 2, by have h : cfg0.N = 32 := N_0; omega⟩
  let b' : Fin 2 := ⟨b.val % 2, Nat.mod_lt _ (by norm_num)⟩
  have hR : 2 * t.val + b'.val = b.val := Nat.div_add_mod b.val 2
  have e : (ix3 b r j : S64x256x256.Idx) = ((cfg0.win 9).blk t).view.emb (ix3 b' r j) := by
    funext a
    apply Fin.ext
    match a with
    | ⟨0, _⟩ => show b.val = win0_9.index t 0 * 2 + 1 * b'.val; rw [(at9 t).1]; omega
    | ⟨1, _⟩ => show r.val = win0_9.index t 1 * 256 + 1 * r.val; rw [(at9 t).2.1]; omega
    | ⟨2, _⟩ => show j.val = win0_9.index t 2 * 256 + 1 * j.val; rw [(at9 t).2.2]; omega
  have h := (dats m 0 c).arrAt_emb_eq_flushed 9 disjoint9 t (flush0_9 t) (ix3 b' r j)
  rw [← e] at h
  refine h.trans ?_
  show (dats m 0 c).flushed 9 t (ix3 b' r j) = _
  rw [flushed9_A, out9]
  show View.canon (pcs9 (PL m c t) (k0_pay13 (yOf (PL m c t)) ((PL m c t).n 2))) (ix3 b' r j) = _
  refine (View.canon_apply_of_pieces (fun y : S2x256x256.Idx => Zm m c ⟨(2 * t.val + (y 0).val) * 256 + (y 1).val, by
      have := N32 t; have h0 : (y 0).val < 2 := (y 0).isLt; have h1 : (y 1).val < 256 := (y 1).isLt; omega⟩
      ⟨2304 + (y 2).val, by have h1 : (y 2).val < 256 := (y 2).isLt; omega⟩) _ ?_ _ (by have h := cover0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t); rw [run9, zOf_eq] at h; exact h _)).trans ?_
  · have hi : ∀ x : S1x256x256.Idx, x = ix3 (x 0) (x 1) (x 2) := by
      intro x; funext a; match a with | ⟨0, _⟩ => rfl | ⟨1, _⟩ => rfl | ⟨2, _⟩ => rfl
    intro p hp
    simp only [pcs9, List.mem_cons, List.not_mem_nil, or_false] at hp
    rcases hp with rfl | rfl
    · intro x
      have h0 : (x 0).val < 1 := (x 0).isLt
      have h1 : (x 1).val < 256 := (x 1).isLt
      dsimp only
      rw [hi x]
      refine ((p32 _ (x 0) (x 1) (x 2)).trans ((p17 ..).trans (z_wk m c t _ (x 2)))).trans ?_
      refine congrArg₂ (Zm m c) (Fin.ext ?_) (Fin.ext ?_)
      · show 512 * t.val + (256 + (x 1).val) = (2 * t.val + (1 + 1 * (x 0).val)) * 256 + (0 + 1 * (x 1).val); omega
      · show 2304 + (x 2).val = 2304 + (0 + 1 * (x 2).val); omega
    · intro x
      have h0 : (x 0).val < 1 := (x 0).isLt
      have h1 : (x 1).val < 256 := (x 1).isLt
      dsimp only
      rw [hi x]
      refine ((p23 _ _ (x 0) (x 1) (x 2)).trans (z_wk m c t _ (x 2))).trans ?_
      refine congrArg₂ (Zm m c) (Fin.ext ?_) (Fin.ext ?_)
      · show 512 * t.val + (x 1).val = (2 * t.val + (0 + 1 * (x 0).val)) * 256 + (0 + 1 * (x 1).val); omega
      · show 2304 + (x 2).val = 2304 + (0 + 1 * (x 2).val); omega
  · refine congrArg₂ (Zm m c) (Fin.ext ?_) rfl
    show (2 * t.val + b'.val) * 256 + r.val = b.val * 256 + r.val
    omega

theorem at11 : ∀ t : Fin cfg0.N, win0_11.index t 0 = t.val ∧ win0_11.index t 1 = 0 :=
  (by decide +kernel : ∀ t : Fin grid0.N, win0_11.index t 0 = t.val ∧ win0_11.index t 1 = 0)

theorem res11 (R : Fin 512) (j : Fin 256) : ((dats m 0 c).arrAt 11 cfg0.N : FVec Ideal S512x256 .f32) (ix2 R j) =
    ∑ k : Fin 32, Zm m c ⟨R.val / 8 * 256 + k.val * 8 + R.val % 8, by omega⟩ ⟨2304 + j.val, by omega⟩ := by
  let t : Fin cfg0.N := ⟨R.val / 16, by have h : cfg0.N = 32 := N_0; omega⟩
  let r : Fin 16 := ⟨R.val % 16, Nat.mod_lt _ (by norm_num)⟩
  have hR : 16 * t.val + r.val = R.val := Nat.div_add_mod R.val 16
  have e : (ix2 R j : S512x256.Idx) = ((cfg0.win 11).blk t).view.emb (ix2 r j) := by
    funext a
    apply Fin.ext
    match a with
    | ⟨0, _⟩ => show R.val = win0_11.index t 0 * 16 + 1 * r.val; rw [(at11 t).1]; omega
    | ⟨1, _⟩ => show j.val = win0_11.index t 1 * 256 + 1 * j.val; rw [(at11 t).2]; omega
  have h := (dats m 0 c).arrAt_emb_eq_flushed 11 disjoint11 t (flush0_11 t) (ix2 r j)
  rw [← e] at h
  refine h.trans ?_
  show (dats m 0 c).flushed 11 t (ix2 r j) = _
  rw [flushed11_A, out11]
  show View.canon (pcs11 (PL m c t) (k0_pay13 (yOf (PL m c t)) ((PL m c t).n 2))) (ix2 r j) = _
  refine (View.canon_apply_of_pieces (fun y : S16x256.Idx => ∑ k : Fin 32, Zm m c ⟨(2 * t.val + (y 0).val / 8) * 256 + k.val * 8 + (y 0).val % 8, by
      have := N32 t; have h0 : (y 0).val < 16 := (y 0).isLt; omega⟩
      ⟨2304 + (y 1).val, by have h1 : (y 1).val < 256 := (y 1).isLt; omega⟩) _ ?_ _ (by have h := cover0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t); rw [run11, zOf_eq] at h; exact h _)).trans ?_
  · have hi : ∀ x : S8x256.Idx, x = ix2 (x 0) (x 1) := by
      intro x; funext a; match a with | ⟨0, _⟩ => rfl | ⟨1, _⟩ => rfl
    intro p hp
    simp only [pcs11, List.mem_cons, List.not_mem_nil, or_false] at hp
    rcases hp with rfl | rfl
    · intro x
      have h0 : (x 0).val < 8 := (x 0).isLt
      dsimp only
      rw [hi x]
      refine ((p5 _ (x 0) (x 1)).trans (Finset.sum_congr rfl fun k _ => (p30 _ _ _).trans ((p17 ..).trans (z_wk m c t _ (x 1))))).trans ?_
      refine Finset.sum_congr rfl fun k _ => congrArg₂ (Zm m c) (Fin.ext ?_) (Fin.ext ?_)
      · show 512 * t.val + (256 + (k.val * 8 + (x 0).val)) = (2 * t.val + (8 + 1 * (x 0).val) / 8) * 256 + k.val * 8 + (8 + 1 * (x 0).val) % 8; omega
      · show 2304 + (x 1).val = 2304 + (0 + 1 * (x 1).val); omega
    · intro x
      have h0 : (x 0).val < 8 := (x 0).isLt
      dsimp only
      rw [hi x]
      refine ((p29 _ (x 0) (x 1)).trans (Finset.sum_congr rfl fun k _ => (p21 _ _ _ _).trans (z_wk m c t _ (x 1)))).trans ?_
      refine Finset.sum_congr rfl fun k _ => congrArg₂ (Zm m c) (Fin.ext ?_) (Fin.ext ?_)
      · show 512 * t.val + (k.val * 8 + (x 0).val) = (2 * t.val + (0 + 1 * (x 0).val) / 8) * 256 + k.val * 8 + (0 + 1 * (x 0).val) % 8; omega
      · show 2304 + (x 1).val = 2304 + (0 + 1 * (x 1).val); omega
  · refine Finset.sum_congr rfl fun k _ => congrArg₂ (Zm m c) (Fin.ext ?_) rfl
    show (2 * t.val + r.val / 8) * 256 + k.val * 8 + r.val % 8 = R.val / 8 * 256 + k.val * 8 + R.val % 8
    omega

/-- A value row, or a row of ones past the sixty-fourth. -/
def orOne (n : ℕ) (f : n < 64 → EReal) : EReal := if h : n < 64 then f h else 1

theorem orOne_congr (n n' : ℕ) (f : n < 64 → EReal) (f' : n' < 64 → EReal) (h : n = n') (hf : ∀ h h', f h = f' h') : orOne n f = orOne n' f' := by
  subst h
  unfold orOne
  split
  · exact hf _ _
  · rfl

theorem at10 : ∀ t : Fin cfg0.N, win0_10.index t 0 = t.val ∧ win0_10.index t 1 = 0 ∧ win0_10.index t 2 = 0 ∧ win0_10.index t 3 = 0 :=
  (by decide +kernel : ∀ t : Fin grid0.N, win0_10.index t 0 = t.val ∧ win0_10.index t 1 = 0 ∧ win0_10.index t 2 = 0 ∧ win0_10.index t 3 = 0)

/-- The values of rows 0 to 255 of a tile, turned. -/
theorem v_lo (t : Fin cfg0.N) (r : Fin 256) (j : Fin 256) :
    k0_pay22 (F := Ideal) (k0_pay13 (yOf (PL m c t)) ((PL m c t).n 2)) (PL m c t).wv (ix2 r j) = Zm m c ⟨512 * t.val + j.val, by have := N32 t; omega⟩ ⟨2560 + r.val, by omega⟩ :=
  (p22 ..).trans (z_wv m c t ⟨j.val, by omega⟩ r)

/-- The values of rows 256 to 511 of a tile, turned. -/
theorem v_hi (t : Fin cfg0.N) (r : Fin 256) (j : Fin 256) :
    k0_pay31 (F := Ideal) (k0_pay18 (k0_pay13 (yOf (PL m c t)) ((PL m c t).n 2)) (PL m c t).wv) (ix2 r j) = Zm m c ⟨512 * t.val + (256 + j.val), by have := N32 t; omega⟩ ⟨2560 + r.val, by omega⟩ :=
  (p31 ..).trans ((p18 ..).trans (z_wv m c t ⟨256 + j.val, by omega⟩ r))

theorem res10 (b : Fin 64) (h : Fin 4) (e : Fin 80) (r : Fin 256) :
    ((dats m 0 c).arrAt 10 cfg0.N : FVec Ideal S64x4x80x256 .bf16) (ix4 b h e r) =
      if he : e.val < 64 then Zm m c ⟨b.val * 256 + r.val, by omega⟩ ⟨2560 + (h.val * 64 + e.val), by omega⟩ else 1 := by
  let t : Fin cfg0.N := ⟨b.val / 2, by have h : cfg0.N = 32 := N_0; omega⟩
  let b' : Fin 2 := ⟨b.val % 2, Nat.mod_lt _ (by norm_num)⟩
  have hR : 2 * t.val + b'.val = b.val := Nat.div_add_mod b.val 2
  have e' : (ix4 b h e r : S64x4x80x256.Idx) = ((cfg0.win 10).blk t).view.emb (ix4 b' h e r) := by
    funext a
    apply Fin.ext
    match a with
    | ⟨0, _⟩ => show b.val = win0_10.index t 0 * 2 + 1 * b'.val; rw [(at10 t).1]; omega
    | ⟨1, _⟩ => show h.val = win0_10.index t 1 * 4 + 1 * h.val; rw [(at10 t).2.1]; omega
    | ⟨2, _⟩ => show e.val = win0_10.index t 2 * 80 + 1 * e.val; rw [(at10 t).2.2.1]; omega
    | ⟨3, _⟩ => show r.val = win0_10.index t 3 * 256 + 1 * r.val; rw [(at10 t).2.2.2]; omega
  have hf := (dats m 0 c).arrAt_emb_eq_flushed 10 disjoint10 t (flush0_10 t) (ix4 b' h e r)
  rw [← e'] at hf
  refine hf.trans ?_
  show (dats m 0 c).flushed 10 t (ix4 b' h e r) = _
  rw [flushed10_A, out10]
  show View.canon (pcs10 (PL m c t) (k0_pay13 (yOf (PL m c t)) ((PL m c t).n 2))) (ix4 b' h e r) = _
  refine (View.canon_apply_of_pieces (fun y : S2x4x80x256.Idx =>
      orOne (y 2).val fun he => Zm m c ⟨(2 * t.val + (y 0).val) * 256 + (y 3).val, by
        have := N32 t; have h0 : (y 0).val < 2 := (y 0).isLt; have h1 : (y 3).val < 256 := (y 3).isLt; omega⟩
        ⟨2560 + ((y 1).val * 64 + (y 2).val), by have h1 : (y 1).val < 4 := (y 1).isLt; omega⟩) _ ?_ _ (by have h := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t); rw [run10, zOf_eq] at h; exact h _)).trans ?_
  · have hi : ∀ x : S1x1x80x256.Idx, x = ix4 (x 0) (x 1) (x 2) (x 3) := by
      intro x; funext a; match a with | ⟨0, _⟩ => rfl | ⟨1, _⟩ => rfl | ⟨2, _⟩ => rfl | ⟨3, _⟩ => rfl
    intro p hp
    simp only [pcs10, List.mem_cons, List.not_mem_nil, or_false] at hp
    rcases hp with rfl | rfl | rfl | rfl | rfl | rfl | rfl | rfl
    · intro x
      have h0 : (x 0).val < 1 := (x 0).isLt
      have h1 : (x 1).val < 1 := (x 1).isLt
      dsimp only
      rw [hi x]
      refine (p4 _ (x 0) (x 1) (x 2) (x 3)).trans (orOne_congr (x 2).val _ _ _ ?_ fun he he' => ?_)
      · show (x 2).val = 0 + 1 * (x 2).val; omega
      · refine (v_hi m c t _ (x 3)).trans (congrArg₂ (Zm m c) (Fin.ext ?_) (Fin.ext ?_))
        · show 512 * t.val + (256 + (x 3).val) = (2 * t.val + (1 + 1 * (x 0).val)) * 256 + (0 + 1 * (x 3).val); omega
        · show 2560 + (192 + (x 2).val) = 2560 + ((3 + 1 * (x 1).val) * 64 + (0 + 1 * (x 2).val)); omega
    · intro x
      have h0 : (x 0).val < 1 := (x 0).isLt
      have h1 : (x 1).val < 1 := (x 1).isLt
      dsimp only
      rw [hi x]
      refine (p3 _ (x 0) (x 1) (x 2) (x 3)).trans (orOne_congr (x 2).val _ _ _ ?_ fun he he' => ?_)
      · show (x 2).val = 0 + 1 * (x 2).val; omega
      · refine (v_hi m c t _ (x 3)).trans (congrArg₂ (Zm m c) (Fin.ext ?_) (Fin.ext ?_))
        · show 512 * t.val + (256 + (x 3).val) = (2 * t.val + (1 + 1 * (x 0).val)) * 256 + (0 + 1 * (x 3).val); omega
        · show 2560 + (128 + (x 2).val) = 2560 + ((2 + 1 * (x 1).val) * 64 + (0 + 1 * (x 2).val)); omega
    · intro x
      have h0 : (x 0).val < 1 := (x 0).isLt
      have h1 : (x 1).val < 1 := (x 1).isLt
      dsimp only
      rw [hi x]
      refine (p2 _ (x 0) (x 1) (x 2) (x 3)).trans (orOne_congr (x 2).val _ _ _ ?_ fun he he' => ?_)
      · show (x 2).val = 0 + 1 * (x 2).val; omega
      · refine (v_hi m c t _ (x 3)).trans (congrArg₂ (Zm m c) (Fin.ext ?_) (Fin.ext ?_))
        · show 512 * t.val + (256 + (x 3).val) = (2 * t.val + (1 + 1 * (x 0).val)) * 256 + (0 + 1 * (x 3).val); omega
        · show 2560 + (64 + (x 2).val) = 2560 + ((1 + 1 * (x 1).val) * 64 + (0 + 1 * (x 2).val)); omega
    · intro x
      have h0 : (x 0).val < 1 := (x 0).isLt
      have h1 : (x 1).val < 1 := (x 1).isLt
      dsimp only
      rw [hi x]
      refine (p1 _ (x 0) (x 1) (x 2) (x 3)).trans (orOne_congr (x 2).val _ _ _ ?_ fun he he' => ?_)
      · show (x 2).val = 0 + 1 * (x 2).val; omega
      · refine (v_hi m c t _ (x 3)).trans (congrArg₂ (Zm m c) (Fin.ext ?_) (Fin.ext ?_))
        · show 512 * t.val + (256 + (x 3).val) = (2 * t.val + (1 + 1 * (x 0).val)) * 256 + (0 + 1 * (x 3).val); omega
        · show 2560 + (x 2).val = 2560 + ((0 + 1 * (x 1).val) * 64 + (0 + 1 * (x 2).val)); omega
    · intro x
      have h0 : (x 0).val < 1 := (x 0).isLt
      have h1 : (x 1).val < 1 := (x 1).isLt
      dsimp only
      rw [hi x]
      refine (p28 _ (x 0) (x 1) (x 2) (x 3)).trans (orOne_congr (x 2).val _ _ _ ?_ fun he he' => ?_)
      · show (x 2).val = 0 + 1 * (x 2).val; omega
      · refine (v_lo m c t _ (x 3)).trans (congrArg₂ (Zm m c) (Fin.ext ?_) (Fin.ext ?_))
        · show 512 * t.val + (x 3).val = (2 * t.val + (0 + 1 * (x 0).val)) * 256 + (0 + 1 * (x 3).val); omega
        · show 2560 + (192 + (x 2).val) = 2560 + ((3 + 1 * (x 1).val) * 64 + (0 + 1 * (x 2).val)); omega
    · intro x
      have h0 : (x 0).val < 1 := (x 0).isLt
      have h1 : (x 1).val < 1 := (x 1).isLt
      dsimp only
      rw [hi x]
      refine (p27 _ (x 0) (x 1) (x 2) (x 3)).trans (orOne_congr (x 2).val _ _ _ ?_ fun he he' => ?_)
      · show (x 2).val = 0 + 1 * (x 2).val; omega
      · refine (v_lo m c t _ (x 3)).trans (congrArg₂ (Zm m c) (Fin.ext ?_) (Fin.ext ?_))
        · show 512 * t.val + (x 3).val = (2 * t.val + (0 + 1 * (x 0).val)) * 256 + (0 + 1 * (x 3).val); omega
        · show 2560 + (128 + (x 2).val) = 2560 + ((2 + 1 * (x 1).val) * 64 + (0 + 1 * (x 2).val)); omega
    · intro x
      have h0 : (x 0).val < 1 := (x 0).isLt
      have h1 : (x 1).val < 1 := (x 1).isLt
      dsimp only
      rw [hi x]
      refine (p26 _ (x 0) (x 1) (x 2) (x 3)).trans (orOne_congr (x 2).val _ _ _ ?_ fun he he' => ?_)
      · show (x 2).val = 0 + 1 * (x 2).val; omega
      · refine (v_lo m c t _ (x 3)).trans (congrArg₂ (Zm m c) (Fin.ext ?_) (Fin.ext ?_))
        · show 512 * t.val + (x 3).val = (2 * t.val + (0 + 1 * (x 0).val)) * 256 + (0 + 1 * (x 3).val); omega
        · show 2560 + (64 + (x 2).val) = 2560 + ((1 + 1 * (x 1).val) * 64 + (0 + 1 * (x 2).val)); omega
    · intro x
      have h0 : (x 0).val < 1 := (x 0).isLt
      have h1 : (x 1).val < 1 := (x 1).isLt
      dsimp only
      rw [hi x]
      refine (p25 _ _ (x 0) (x 1) (x 2) (x 3)).trans (orOne_congr (x 2).val _ _ _ ?_ fun he he' => ?_)
      · show (x 2).val = 0 + 1 * (x 2).val; omega
      · refine (v_lo m c t _ (x 3)).trans (congrArg₂ (Zm m c) (Fin.ext ?_) (Fin.ext ?_))
        · show 512 * t.val + (x 3).val = (2 * t.val + (0 + 1 * (x 0).val)) * 256 + (0 + 1 * (x 3).val); omega
        · show 2560 + (x 2).val = 2560 + ((0 + 1 * (x 1).val) * 64 + (0 + 1 * (x 2).val)); omega
  · refine orOne_congr e.val e.val _ _ rfl fun he he' => congrArg₂ (Zm m c) (Fin.ext ?_) rfl
    show (2 * t.val + b'.val) * 256 + r.val = b.val * 256 + r.val
    omega

end Hg.P
-- ==== Proof.ProjClaim.lean ====
/-
  The feed-forward and projection kernel against its reference: the same seven arrays.
-/
module

public import proofs.«01_k».proof.Defs
public import proofs.«01_k».proof.Proof.ProjOut

@[expose] public section

noncomputable section

namespace Hg.P

open Idealize.ShloMosaic Idealize.ShloMosaic.TcCoe Idealize.SL.Sem

attribute [local instance] Cert.ProjIdeal.Gen.facts Cert.ProjRefIdeal.Gen.facts

variable (m : (ℓ : Loc Cert.ProjIdeal.nD Cert.ProjIdeal.τ Cert.ProjIdeal.sig) → Buf (Elt Ideal) ℓ)
  (m' : (ℓ : Loc Cert.ProjRefIdeal.nD Cert.ProjRefIdeal.τ Cert.ProjRefIdeal.sig) → Buf (Elt Ideal) ℓ)

/-- The two memories hold the same arguments. -/
def Same (c : Dev Cert.ProjIdeal.nD) : Prop :=
  m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
  ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
  ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
  ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
  ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
  ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)

theorem same0 (c : Dev Cert.ProjIdeal.nD) (h : Same m m' c) :
    Cert.ProjRefIdeal.Value.res_main_v50 (F := Ideal) m' c = (Cert.ProjIdeal.Gen.dats m 0 c).arrAt 6 Cert.ProjIdeal.cfg0.N := by
  obtain ⟨h0, h1, h2, h3, h4, h5⟩ := h
  rw [Cert.ProjRefIdeal.Read.val_main_v50_eq]
  funext (x : Cert.ProjIdeal.S16384x1024.Idx)
  have hx : x = ix2 (x 0) (x 1) := by
    funext a; match a with | ⟨0, _⟩ => rfl | ⟨1, _⟩ => rfl
  rw [hx]
  refine (PR.v50 _ _ _ _ _ (x 0) (x 1)).trans ?_
  refine Eq.trans ?_ (res6 m c (x 0) (x 1)).symm
  rw [h0, h1, h2, h3, h4]

theorem same1 (c : Dev Cert.ProjIdeal.nD) (h : Same m m' c) :
    Cert.ProjRefIdeal.Value.res_main_v69 (F := Ideal) m' c = (Cert.ProjIdeal.Gen.dats m 0 c).arrAt 7 Cert.ProjIdeal.cfg0.N := by
  obtain ⟨h0, h1, h2, h3, h4, h5⟩ := h
  rw [Cert.ProjRefIdeal.Read.val_main_v69_eq]
  funext (x : Cert.ProjIdeal.S16384x2048.Idx)
  have hx : x = ix2 (x 0) (x 1) := by
    funext a; match a with | ⟨0, _⟩ => rfl | ⟨1, _⟩ => rfl
  rw [hx]
  refine (PR.v69 _ _ _ _ _ _ (x 0) (x 1)).trans ?_
  refine Eq.trans ?_ (res7 m c (x 0) (x 1)).symm
  rw [h0, h1, h2, h3, h4, h5]

theorem same2 (c : Dev Cert.ProjIdeal.nD) (h : Same m m' c) :
    Cert.ProjRefIdeal.Value.res_main_v70 (F := Ideal) m' c = (Cert.ProjIdeal.Gen.dats m 0 c).arrAt 8 Cert.ProjIdeal.cfg0.N := by
  obtain ⟨h0, h1, h2, h3, h4, h5⟩ := h
  rw [Cert.ProjRefIdeal.Read.val_main_v70_eq]
  funext (x : Cert.ProjIdeal.S16384x256.Idx)
  have hx : x = ix2 (x 0) (x 1) := by
    funext a; match a with | ⟨0, _⟩ => rfl | ⟨1, _⟩ => rfl
  rw [hx]
  refine (PR.v70 _ _ _ _ _ _ (x 0) (x 1)).trans ?_
  refine Eq.trans ?_ (res8 m c (x 0) (x 1)).symm
  rw [h0, h1, h2, h3, h4, h5]

theorem same3 (c : Dev Cert.ProjIdeal.nD) (h : Same m m' c) :
    Cert.ProjRefIdeal.Value.res_main_v82 (F := Ideal) m' c = (Cert.ProjIdeal.Gen.dats m 0 c).arrAt 9 Cert.ProjIdeal.cfg0.N := by
  obtain ⟨h0, h1, h2, h3, h4, h5⟩ := h
  rw [Cert.ProjRefIdeal.Read.val_main_v82_eq]
  funext (x : Cert.ProjIdeal.S64x256x256.Idx)
  have hx : x = ix3 (x 0) (x 1) (x 2) := by
    funext a; match a with | ⟨0, _⟩ => rfl | ⟨1, _⟩ => rfl | ⟨2, _⟩ => rfl
  rw [hx]
  refine (PR.v82 _ _ _ _ _ _ (x 0) (x 1) (x 2)).trans ?_
  refine Eq.trans ?_ (res9 m c (x 0) (x 1) (x 2)).symm
  rw [h0, h1, h2, h3, h4, h5]

theorem same4 (c : Dev Cert.ProjIdeal.nD) (h : Same m m' c) :
    Cert.ProjRefIdeal.Value.res_main_v83 (F := Ideal) m' c = (Cert.ProjIdeal.Gen.dats m 0 c).arrAt 10 Cert.ProjIdeal.cfg0.N := by
  obtain ⟨h0, h1, h2, h3, h4, h5⟩ := h
  rw [Cert.ProjRefIdeal.Read.val_main_v83_eq]
  funext (x : Cert.ProjIdeal.S64x4x80x256.Idx)
  have hx : x = ix4 (x 0) (x 1) (x 2) (x 3) := by
    funext a; match a with | ⟨0, _⟩ => rfl | ⟨1, _⟩ => rfl | ⟨2, _⟩ => rfl | ⟨3, _⟩ => rfl
  rw [hx]
  refine (PR.v83 _ _ _ _ _ _ (x 0) (x 1) (x 2) (x 3)).trans ?_
  refine Eq.trans ?_ (res10 m c (x 0) (x 1) (x 2) (x 3)).symm
  rw [h0, h1, h2, h3, h4, h5]

theorem same5 (c : Dev Cert.ProjIdeal.nD) (h : Same m m' c) :
    Cert.ProjRefIdeal.Value.res_main_v81 (F := Ideal) m' c = (Cert.ProjIdeal.Gen.dats m 0 c).arrAt 11 Cert.ProjIdeal.cfg0.N := by
  obtain ⟨h0, h1, h2, h3, h4, h5⟩ := h
  rw [Cert.ProjRefIdeal.Read.val_main_v81_eq]
  funext (x : Cert.ProjIdeal.S512x256.Idx)
  have hx : x = ix2 (x 0) (x 1) := by
    funext a; match a with | ⟨0, _⟩ => rfl | ⟨1, _⟩ => rfl
  rw [hx]
  refine (PR.v81 _ _ _ _ _ _ (x 0) (x 1)).trans ?_
  refine Eq.trans ?_ (res11 m c (x 0) (x 1)).symm
  rw [h0, h1, h2, h3, h4, h5]

theorem same6 (c : Dev Cert.ProjIdeal.nD) (h : Same m m' c) :
    Cert.ProjRefIdeal.Value.res_main_v73 (F := Ideal) m' c = (Cert.ProjIdeal.Gen.dats m 0 c).arrAt 12 Cert.ProjIdeal.cfg0.N := by
  obtain ⟨h0, h1, h2, h3, h4, h5⟩ := h
  rw [Cert.ProjRefIdeal.Read.val_main_v73_eq]
  funext (x : Cert.ProjIdeal.S16384x768.Idx)
  have hx : x = ix2 (x 0) (x 1) := by
    funext a; match a with | ⟨0, _⟩ => rfl | ⟨1, _⟩ => rfl
  rw [hx]
  refine (PR.v73 _ _ _ _ _ _ (x 0) (x 1)).trans ?_
  refine Eq.trans ?_ (res12 m c (x 0) (x 1)).symm
  rw [h0, h1, h2, h3, h4, h5]

theorem algebraic : Cert.algebraic_ProjIdeal_ProjRefIdeal := by
  intro m g m' g' _ h
  refine ⟨fun c => (Cert.ProjIdeal.Gen.dats m 0 c).arrAt 6 Cert.ProjIdeal.cfg0.N, fun c => (Cert.ProjIdeal.Gen.dats m 0 c).arrAt 7 Cert.ProjIdeal.cfg0.N, fun c => (Cert.ProjIdeal.Gen.dats m 0 c).arrAt 8 Cert.ProjIdeal.cfg0.N, fun c => (Cert.ProjIdeal.Gen.dats m 0 c).arrAt 9 Cert.ProjIdeal.cfg0.N, fun c => (Cert.ProjIdeal.Gen.dats m 0 c).arrAt 10 Cert.ProjIdeal.cfg0.N, fun c => (Cert.ProjIdeal.Gen.dats m 0 c).arrAt 11 Cert.ProjIdeal.cfg0.N, fun c => (Cert.ProjIdeal.Gen.dats m 0 c).arrAt 12 Cert.ProjIdeal.cfg0.N, ?_, ?_⟩
  · exact Cert.ProjIdeal.Value.run_blocks m g
  · refine (θ_run _ _ _).mono (fun r hr c => ?_) (Cert.ProjRefIdeal.Value.run (F := Ideal) m' g')
    obtain ⟨r0, r1, r2, r3, r4, r5, r6, ra⟩ := hr c
    exact ⟨r0.trans (same0 m m' c (h c)), r1.trans (same1 m m' c (h c)), r2.trans (same2 m m' c (h c)), r3.trans (same3 m m' c (h c)),
      r4.trans (same4 m m' c (h c)), r5.trans (same5 m m' c (h c)), r6.trans (same6 m m' c (h c)), ra⟩

end Hg.P
-- ==== Proof.Unit.lean ====
/-
  The recurrence's inner step as one vocabulary: what the kernel does for one head and one chunk of 256 tokens, from the
  chunk's four projections, the head's forget bound, its norm weight and the state the previous chunk left.
-/
module

public import proofs.«01_k».proof.Proof.Gen.MixIdeal
public import Idealize.ShloMosaic.Lib.MatmulPlain

@[expose] public section

noncomputable section

namespace Hg

open Idealize.ShloMosaic Cert.MixIdeal Cert.MixIdeal.Facts₀

variable {F : FTy → Type} [FloatOps F] [Named F]

/-- A matrix shape. -/
abbrev Sh (R C : ℕ) : Shape := ⟨2, ![R, C]⟩

/-- `H` rows from row `r` lie inside `R` rows. -/
theorem slices_rows {R C r H : ℕ} (h : r + H ≤ R) : (Sh R C).Slices ![r, 0] (Sh H C) :=
  ⟨rfl, fun a => by
    match a with
    | ⟨0, _⟩ => exact h
    | ⟨1, _⟩ => exact (Nat.zero_add C).le⟩

/-- `H` rows from row `r`. -/
def rows {α : Type} {R C : ℕ} (r H : ℕ) (h : r + H ≤ R) (x : (Sh R C).Idx → α) : (Sh H C).Idx → α :=
  extractStridedSlice (Sh H C) ![r, 0] x (slices_rows h)

/-- One row stretches over `H` rows. -/
theorem broadcasts_row (H C : ℕ) : (Sh 1 C).Broadcasts (Sh H C) :=
  ⟨le_rfl, fun a => by
    match a with
    | ⟨0, _⟩ => exact Or.inl rfl
    | ⟨1, _⟩ => exact Or.inr fun _ => rfl⟩

/-- One row over `H` rows. -/
def over {α : Type} {C : ℕ} (H : ℕ) (x : (Sh 1 C).Idx → α) : (Sh H C).Idx → α :=
  broadcastTo (Sh H C) x (broadcasts_row H C)

/-- `N` blocks of `H` rows make `R` rows. -/
theorem concats_blocks {α : Type} {N H C R : ℕ} (f : Fin N → ((Sh H C).Idx → α)) (h2 : 2 ≤ N) (hR : N * H = R) :
    Shape.Concatenates ((List.ofFn fun n : Fin N => (⟨Sh H C, f n⟩ : (s : Shape) × (s.Idx → α))).map (·.1)) (Sh R C) 0 := by
  have e : (List.ofFn fun n : Fin N => (⟨Sh H C, f n⟩ : (s : Shape) × (s.Idx → α))).map (·.1) = List.replicate N (Sh H C) := by
    rw [List.map_ofFn]; exact List.ofFn_const N (Sh H C)
  rw [e]
  refine ⟨by simpa using h2, fun s hs => ?_, ?_⟩
  · obtain rfl := List.eq_of_mem_replicate hs
    refine ⟨rfl, fun b hb => ?_⟩
    match b with
    | ⟨0, _⟩ => exact absurd rfl hb
    | ⟨1, _⟩ => rfl
  · rw [List.map_replicate, List.sum_replicate, smul_eq_mul]
    exact hR

/-- `N` blocks of `H` rows, one under the other. -/
def stack {α : Type} {H C : ℕ} (R N : ℕ) (h2 : 2 ≤ N) (hR : N * H = R) (f : Fin N → ((Sh H C).Idx → α)) : (Sh R C).Idx → α :=
  concatenate (Sh R C) 0 (List.ofFn fun n : Fin N => (⟨Sh H C, f n⟩ : (s : Shape) × (s.Idx → α))) (concats_blocks f h2 hR)

/-- Rows of height `A` and `B` make `R` rows. -/
theorem concats_pair {A B C R : ℕ} (hR : A + B = R) : Shape.Concatenates [Sh A C, Sh B C] (Sh R C) 0 := by
  refine ⟨le_rfl, fun s hs => ?_, ?_⟩
  · simp only [List.mem_cons, List.not_mem_nil, or_false] at hs
    rcases hs with rfl | rfl <;> exact ⟨rfl, fun b hb => by
      match b with
      | ⟨0, _⟩ => exact absurd rfl hb
      | ⟨1, _⟩ => rfl⟩
  · exact hR

/-- A block of `A` rows over a block of `B` rows. -/
def pair {α : Type} {A B C : ℕ} (R : ℕ) (hR : A + B = R) (x : (Sh A C).Idx → α) (y : (Sh B C).Idx → α) : (Sh R C).Idx → α :=
  concatenate (Sh R C) 0 [⟨Sh A C, x⟩, ⟨Sh B C, y⟩] (concats_pair hR)

/-- Zeros. -/
def zer (s : Shape) : FVec F s .f32 := broadcast s (Scalar.ofBits .f32 0x00000000#32 : F .f32)
/-- Ones. -/
def one (s : Shape) : FVec F s .f32 := broadcast s (Scalar.ofBits .f32 0x3F800000#32 : F .f32)

/-! ## The gates of one head -/

/-- `exp(-f)` as a power of two, the exponent cut at 126. -/
def gE (f : FVec F S256x128 .f32) : FVec F S256x128 .f32 :=
  exp2 (minimumf (mulf f (broadcast S256x128 (Named.named κ "neg_log2e" 0xBFB8AA3B#32 : F .f32)))
    (broadcast S256x128 (Scalar.ofBits .f32 0x42FC0000#32 : F .f32)))
/-- The sigmoid of `f`. -/
def gS (f : FVec F S256x128 .f32) : FVec F S256x128 .f32 := divf (one S256x128) (addf (one S256x128) (gE f))
/-- The base-two logarithm of the forget gate. -/
def gL (f : FVec F S256x128 .f32) (lb : FVec F S1x128 .f32) : FVec F S256x128 .f32 :=
  mulf (log (addf (over 256 lb) (mulf (over 256 (subf (one S1x128) lb)) (gS f))))
    (broadcast S256x128 (Named.named κ "log2e" 0x3FB8AA3B#32 : F .f32))
/-- The input gate. -/
def gK (f : FVec F S256x128 .f32) (lb : FVec F S1x128 .f32) : FVec F S256x128 .f32 :=
  mulf (over 256 (subf (one S1x128) lb)) (mulf (gE f) (gS f))
/-- The values. -/
def gV (i : FVec F S256x128 .f32) : FVec F S256x128 .bf16 := truncf .bf16 i bitsLt_bf16_f32

/-! ## The running sum of a chunk -/

/-- The row number of each entry. -/
def rowNo : IVec S256x128 32 := iota .tc S256x128 32 [0] iota_S256x128_d0_w32

/-- Each row plus the row `n` above it, for the short distances. -/
def step (n : BitVec 32) (x : FVec F S256x128 .f32) : FVec F S256x128 .f32 :=
  addf x (pair 256 (A := 8) (B := 248) rfl
    (select (cmpi .sge (rows 0 8 (by decide) rowNo) (broadcast S8x128 n))
      (rows 0 8 (by decide) (dynamicRotate 0 n none x rotates_S256x128_d0)) (zer S8x128))
    (rows 8 248 (by decide) (dynamicRotate 0 n none x rotates_S256x128_d0)))

/-- Each row plus the row `A` above it, for the long distances. -/
def jump (A B : ℕ) (hR : A + B = 256) (x : FVec F S256x128 .f32) : FVec F S256x128 .f32 :=
  pair 256 hR (rows 0 A (by omega) x) (addf (rows A B (by omega) x) (rows 0 B (by omega) x))

/-- The running sum of a chunk's rows. -/
def psum (x : FVec F S256x128 .f32) : FVec F S256x128 .f32 :=
  jump 128 128 rfl (jump 64 192 rfl (jump 32 224 rfl (jump 16 240 rfl (jump 8 248 rfl
    (step 4#32 (step 2#32 (step 1#32 x)))))))

/-! ## The scores of a chunk, level by level -/

/-- The row and column numbers of a score. -/
def rowI : IVec S256x256 32 := iota .tc S256x256 32 [0] iota_S256x256_d0_w32
/-- The column number of a score. -/
def colI : IVec S256x256 32 := iota .tc S256x256 32 [1] iota_S256x256_d1_w32
/-- Row and column agree on the bits of `m`. -/
def same (m : BitVec 32) : IVec S256x256 1 := cmpi .eq (andi rowI (broadcast S256x256 m)) (andi colI (broadcast S256x256 m))

/-- Scores of all rows against all rows. -/
def sc256 (q k : FVec F S256x128 .f32) : FVec F S256x256 .f32 :=
  matmul (DotDims.transposedRhs 256 128 256) none (truncf .bf16 q bitsLt_bf16_f32) (truncf .bf16 k bitsLt_bf16_f32)
    (constant S256x256 .f32 0x00000000#32)
/-- Scores of half as many rows against all rows. -/
def sc128 (q : FVec F S128x128 .f32) (k : FVec F S256x128 .f32) : FVec F S128x256 .f32 :=
  matmul (DotDims.transposedRhs 128 128 256) none (truncf .bf16 q bitsLt_bf16_f32) (truncf .bf16 k bitsLt_bf16_f32)
    (constant S128x256 .f32 0x00000000#32)

/-- The diagonal. -/
def diag (q k : FVec F S256x128 .f32) : FVec F S256x256 .f32 :=
  select (cmpi .eq rowI colI) (sc256 q k) (zer S256x256)

/-- Queries of `H` rows from `r`, decayed from the row before them. -/
def qpart (H r : ℕ) (h0 : 0 < r) (h : r + H ≤ 256) (q b : FVec F S256x128 .f32) : FVec F (Sh H 128) .f32 :=
  mulf (rows r H h q) (exp2 (subf (rows r H h b) (over H (rows (r - 1) 1 (by omega) b))))
/-- Keys of `H` rows from `r`, decayed to the last of them. -/
def kpart (H r : ℕ) (h0 : 0 < H) (h : r + H ≤ 256) (k b : FVec F S256x128 .f32) : FVec F (Sh H 128) .f32 :=
  mulf (rows r H h k) (exp2 (subf (over H (rows (r + H - 1) 1 (by omega) b)) (rows r H h b)))

/-- The level of the two halves. -/
def top (q k b : FVec F S256x128 .f32) (old : FVec F S256x256 .f32) : FVec F S256x256 .f32 :=
  pair 256 (A := 128) (B := 128) rfl (rows 0 128 (by decide) old)
    (addf (rows 128 128 (by decide) old)
      (sc128 (qpart 128 128 (by decide) (by decide) q b)
        (pair 256 (A := 128) (B := 128) rfl (kpart 128 0 (by decide) (by decide) k b) (zer S128x128))))

theorem bnd_even {H N n : ℕ} (hN : N * H = 256) (hn : n < N) : n * H + H ≤ 256 := by
  rw [← hN, ← Nat.succ_mul]; exact Nat.mul_le_mul_right H hn

theorem bnd_odd {H NB p : ℕ} (hN : 2 * NB * H = 256) (hp : p < NB) : (2 * p + 1) * H + H ≤ 256 :=
  bnd_even hN (by omega)

theorem bnd_half {H NB n : ℕ} (hN : NB * H = 128) (hn : n < 2 * NB) : n / 2 * H + H ≤ 128 := by
  rw [← hN, ← Nat.succ_mul]; exact Nat.mul_le_mul_right H (by omega)

/-- The products of the level with blocks of `H` rows: the odd blocks' queries against the even blocks' keys. -/
def lvlM (H NB : ℕ) (h0 : 0 < H) (h2 : 2 ≤ NB) (hN : NB * H = 128) (q k b : FVec F S256x128 .f32) : FVec F S128x256 .f32 :=
  sc128
    (stack 128 NB h2 hN fun p : Fin NB =>
      qpart H ((2 * p.val + 1) * H) (Nat.mul_pos (Nat.succ_pos _) h0) (bnd_odd (by rw [Nat.mul_assoc, hN]) p.isLt) q b)
    (stack 256 (2 * NB) (by omega) (by rw [Nat.mul_assoc, hN]) fun n : Fin (2 * NB) =>
      if n.val % 2 = 0 then kpart H (n.val * H) h0 (bnd_even (by rw [Nat.mul_assoc, hN]) n.isLt) k b else zer (Sh H 128))

/-- The level with blocks of `H` rows: each odd block's rows gain their scores against the even block before it. -/
def lvl (H NB : ℕ) (h0 : 0 < H) (h2 : 2 ≤ NB) (hN : NB * H = 128) (m : BitVec 32) (q k b : FVec F S256x128 .f32)
    (old : FVec F S256x256 .f32) : FVec F S256x256 .f32 :=
  stack 256 (2 * NB) (by omega) (by rw [Nat.mul_assoc, hN]) fun n : Fin (2 * NB) =>
    if n.val % 2 = 0 then rows (n.val * H) H (bnd_even (by rw [Nat.mul_assoc, hN]) n.isLt) old
    else addf (rows (n.val * H) H (bnd_even (by rw [Nat.mul_assoc, hN]) n.isLt) old)
      (select (rows (n.val * H) H (bnd_even (by rw [Nat.mul_assoc, hN]) n.isLt) (same m))
        (rows (n.val / 2 * H) H (bnd_half hN n.isLt) (lvlM H NB h0 h2 hN q k b)) (zer (Sh H 256)))

/-- A level below a tile's eight rows: masked scores of the chosen rows' queries against the other rows' keys, both
    weighted by `w`. -/
def tiny (m : BitVec 32) (sel : IVec S256x128 1) (w q k : FVec F S256x128 .f32) (old : FVec F S256x256 .f32) : FVec F S256x256 .f32 :=
  addf old (select (same m) (sc256 (select sel (mulf q w) (zer S256x128)) (select sel (zer S256x128) (mulf k w))) (zer S256x256))

/-- The rows whose number has at least `n` on the bits of `m`. -/
def chosen (m n : BitVec 32) : IVec S256x128 1 :=
  cmpi .sge (andi rowNo (broadcast S256x128 m)) (broadcast S256x128 n)

/-- Row 3 of each eight. -/
def mid4 (b : FVec F S256x128 .f32) : FVec F S256x128 .f32 :=
  shapeCast S256x128 (broadcastTo S32x8x128 (shapeCast S32x1x128
    (extractStridedSlice S32x1x128 ![0, 3, 0] (shapeCast S32x8x128 b shapeCasts_S256x128_S32x8x128) slices_S32x8x128_o0_3_0_S32x1x128)
    shapeCasts_S32x1x128_S32x1x128) broadcasts_S32x1x128_S32x8x128) shapeCasts_S32x8x128_S256x128
/-- Row 1 or row 5 of each eight. -/
def mid2 (b : FVec F S256x128 .f32) : FVec F S256x128 .f32 :=
  shapeCast S256x128
    (select (cmpi .sge (iota .tc S32x8x128 32 [1] iota_S32x8x128_d1_w32) (broadcast S32x8x128 4#32))
      (broadcastTo S32x8x128 (shapeCast S32x1x128
        (extractStridedSlice S32x1x128 ![0, 5, 0] (shapeCast S32x8x128 b shapeCasts_S256x128_S32x8x128) slices_S32x8x128_o0_5_0_S32x1x128)
        shapeCasts_S32x1x128_S32x1x128) broadcasts_S32x1x128_S32x8x128)
      (broadcastTo S32x8x128 (shapeCast S32x1x128
        (extractStridedSlice S32x1x128 ![0, 1, 0] (shapeCast S32x8x128 b shapeCasts_S256x128_S32x8x128) slices_S32x8x128_o0_1_0_S32x1x128)
        shapeCasts_S32x1x128_S32x1x128) broadcasts_S32x1x128_S32x8x128)) shapeCasts_S32x8x128_S256x128
/-- The weight of a row by its distance from a middle row. -/
def near (b m : FVec F S256x128 .f32) : FVec F S256x128 .f32 := exp2 (subf (zer S256x128) (absf (subf b m)))

/-- The scores of a chunk down to blocks of eight rows. -/
def big (q k b : FVec F S256x128 .f32) : FVec F S256x256 .f32 :=
  lvl 8 16 (by decide) (by decide) rfl 4294967280#32 q k b
    (lvl 16 8 (by decide) (by decide) rfl 4294967264#32 q k b
      (lvl 32 4 (by decide) (by decide) rfl 4294967232#32 q k b
        (lvl 64 2 (by decide) (by decide) rfl 4294967168#32 q k b (top q k b (diag q k)))))

/-- All scores of a chunk; `l` is the logarithm of the forget gate and `b` its running sum. -/
def scores (q k l b : FVec F S256x128 .f32) : FVec F S256x256 .f32 :=
  tiny 4294967294#32 (chosen 1#32 1#32) (exp2 (select (chosen 1#32 1#32) l (zer S256x128))) q k
    (tiny 4294967292#32 (chosen 3#32 2#32) (near b (mid2 b)) q k
      (tiny 4294967288#32 (chosen 7#32 4#32) (near b (mid4 b)) q k (big q k b)))

/-! ## What a chunk reads out and what it leaves -/

/-- The chunk's outputs of one head before the norm. -/
def readout (sc : FVec F S256x256 .f32) (q b : FVec F S256x128 .f32) (v : FVec F S256x128 .bf16) (st : FVec F S128x128 .f32) :
    FVec F S256x128 .f32 :=
  addf
    (matmul (DotDims.plain 256 256 128) none (truncf .bf16 sc bitsLt_bf16_f32) v (constant S256x128 .f32 0x00000000#32))
    (matmul (DotDims.transposedRhs 256 128 128) none (truncf .bf16 (mulf q (exp2 b)) bitsLt_bf16_f32)
      (truncf .bf16 st bitsLt_bf16_f32) (constant S256x128 .f32 0x00000000#32))

/-- The state after the chunk. -/
def nextSt (k b : FVec F S256x128 .f32) (v : FVec F S256x128 .bf16) (st : FVec F S128x128 .f32) : FVec F S128x128 .f32 :=
  addf (mulf st (over 128 (exp2 (rows 255 1 (by decide) b))))
    (matmul dot_S256x128_S256x128_S128x128_0_0_1_1_n_n none v
      (truncf .bf16 (mulf k (exp2 (subf (over 256 (rows 255 1 (by decide) b)) b))) bitsLt_bf16_f32)
      (constant S128x128 .f32 0x00000000#32))

/-- The chunk's outputs of one head: normed, weighted, gated. -/
def gated (o g : FVec F S256x128 .f32) (wn : FVec F S1x128 .f32) : FVec F S256x128 .bf16 :=
  truncf .bf16
    (mulf (mulf (mulf o (broadcastTo S256x128 (rsqrt (addf (divf (shapeCast S256x1
        (multiReduction .add [1] S256 (mulf o o) 0x00000000#32 reduces_S256x128_S256 (.inl rfl) rfl) shapeCasts_S256_S256x1)
        (broadcast S256x1 (Scalar.ofBits .f32 0x43000000#32 : F .f32)))
        (broadcast S256x1 (Scalar.ofBits .f32 0x358637BD#32 : F .f32)))) broadcasts_S256x1_S256x128))
      (over 256 wn)) (mulf g (logistic g))) bitsLt_bf16_f32

/-- The running logarithm of a chunk's forget gates. -/
def gB (f : FVec F S256x128 .f32) (lb : FVec F S1x128 .f32) : FVec F S256x128 .f32 := psum (gL f lb)

/-- One head's chunk: the gated outputs. -/
def unitO (q f i g : FVec F S256x128 .f32) (lb wn : FVec F S1x128 .f32) (st : FVec F S128x128 .f32) : FVec F S256x128 .bf16 :=
  gated (readout (scores q (gK f lb) (gL f lb) (gB f lb)) q (gB f lb) (gV i) st) g wn

/-- One head's chunk: the state it leaves. -/
def unitS (f i : FVec F S256x128 .f32) (lb : FVec F S1x128 .f32) (st : FVec F S128x128 .f32) : FVec F S128x128 .f32 :=
  nextSt (gK f lb) (gB f lb) (gV i) st

end Hg
-- ==== Proof.Tie.lean ====
/-
  What one grid point's body leaves in the two carried scratches, in the vocabulary of one head's chunk: the run's pieces,
  unit by unit (two chunks of four heads), with the states read back from the pieces stored before.
-/
module

public import proofs.«01_k».proof.Proof.Unit
public import proofs.«01_k».proof.Proof.Gen.MixIdeal.Frame.RunA
public import proofs.«01_k».proof.Proof.Gen.MixIdeal.Frame.RunB
public import Idealize.ShloMosaic.Lib.Tactic

@[expose] public section

noncomputable section

namespace Hg

open Idealize.ShloMosaic Idealize.SL.Sem Cert.MixIdeal Cert.MixIdeal.Gen

variable {F : FTy → Type} [FloatOps F] [Named F]

/-- The block of chunk `rb` and head `h` lies inside a tile. -/
theorem inb_blk (rb : Fin 2) (h : Fin 4) : ∀ a : Fin 2, (![256 * rb.val, 128 * h.val] : Fin 2 → ℕ) a + S256x128.size a ≤ S512x512.size a := by
  intro a
  match a with
  | ⟨0, _⟩ => show 256 * rb.val + 256 ≤ 512; omega
  | ⟨1, _⟩ => show 128 * h.val + 128 ≤ 512; omega

/-- A head's bound lies inside the bounds. -/
theorem slices_lb (h : Fin 4) : S1x512.Slices ![0, 128 * h.val] S1x128 :=
  ⟨rfl, fun a => by
    match a with
    | ⟨0, _⟩ => exact le_rfl
    | ⟨1, _⟩ => show 128 * h.val + 128 ≤ 512; omega⟩

/-- A head's state lies inside the states. -/
theorem inb_st (h : Fin 4) : ∀ a : Fin 3, (![h.val, 0, 0] : Fin 3 → ℕ) a + S1x128x128.size a ≤ S4x128x128.size a := by
  intro a
  match a with
  | ⟨0, _⟩ => show h.val + 1 ≤ 4; omega
  | ⟨1, _⟩ => exact le_rfl
  | ⟨2, _⟩ => exact le_rfl

/-- The rectangle of a block. -/
def rB (rb : Fin 2) (h : Fin 4) : Rect S512x512 := Rect.unit ![256 * rb.val, 128 * h.val] S256x128.size (inb_blk rb h)
/-- The rectangle of a head's state. -/
def rS (h : Fin 4) : Rect S4x128x128 := Rect.unit ![h.val, 0, 0] S1x128x128.size (inb_st h)

/-- What the body loads for its units. -/
structure Loads (F : FTy → Type) where
  /-- The queries. -/
  q : Fin 2 → Fin 4 → FVec F S256x128 .f32
  /-- The forget projections. -/
  f : Fin 2 → Fin 4 → FVec F S256x128 .f32
  /-- The values. -/
  i : Fin 2 → Fin 4 → FVec F S256x128 .f32
  /-- The output gates. -/
  g : Fin 2 → Fin 4 → FVec F S256x128 .f32
  /-- The bounds of the forget gates. -/
  lb : FVec F S1x512 .f32
  /-- The norm's weight. -/
  wn : FVec F S1x128 .f32

/-- A head's bound. -/
def lbOf (lb : FVec F S1x512 .f32) (h : Fin 4) : FVec F S1x128 .f32 := extractStridedSlice S1x128 ![0, 128 * h.val] lb (slices_lb h)

/-- The chunk and head of unit `u`. -/
def uR (u : ℕ) : Fin 2 := ⟨u / 4 % 2, Nat.mod_lt _ (by decide)⟩
/-- The head of unit `u`. -/
def uH (u : ℕ) : Fin 4 := ⟨u % 4, Nat.mod_lt _ (by decide)⟩

/-- The piece a unit stores into the states. -/
def pcS (L : Loads F) (u : ℕ) (st : FVec F S1x128x128 .f32) : View.Piece (Elt F) S4x128x128 .f32 :=
  ⟨rS (uH u), shapeCast S1x128x128
    (unitS (L.f (uR u) (uH u)) (L.i (uR u) (uH u)) (lbOf L.lb (uH u)) (shapeCast S128x128 st shapeCasts_S1x128x128_S128x128))
    shapeCasts_S128x128_S1x128x128⟩

/-- The piece a unit stores into the outputs. -/
def pcO (L : Loads F) (u : ℕ) (st : FVec F S1x128x128 .f32) : View.Piece (Elt F) S512x512 .bf16 :=
  ⟨rB (uR u) (uH u), shapeCast S256x128
    (unitO (L.q (uR u) (uH u)) (L.f (uR u) (uH u)) (L.i (uR u) (uH u)) (L.g (uR u) (uH u)) (lbOf L.lb (uH u)) L.wn
      (shapeCast S128x128 st shapeCasts_S1x128x128_S128x128))
    shapeCasts_S256x128_S256x128⟩

section
variable (L : Loads F) (a19 : Memref sig .tc .vmem S4x128x128 .f32)

/-- The states' pieces after `u` units, at the first grid point (all states set to zero first). -/
def psA : ℕ → List (View.Piece (Elt F) S4x128x128 .f32)
  | 0 => [⟨Rect.unit ![0, 0, 0] S4x128x128.size inb_S4x128x128_S4x128x128_0_0_0, shapeCast S4x128x128 (zer S4x128x128) shapeCasts_S4x128x128_S4x128x128⟩]
  | u + 1 => pcS L u (a19.view.readCov (psA u) (rS (uH u)).toLoadRect) :: psA u

/-- The outputs' pieces after `u` units, at the first grid point. -/
def poA : ℕ → List (View.Piece (Elt F) S512x512 .bf16)
  | 0 => [⟨Rect.unit ![0, 0] S512x512.size inb_S512x512_S512x512_0_0,
      shapeCast S512x512 (broadcast S512x512 (Scalar.ofBits .bf16 0x0000#16 : F .bf16)) shapeCasts_S512x512_S512x512⟩]
  | u + 1 => pcO L u (a19.view.readCov (psA L a19 u) (rS (uH u)).toLoadRect) :: poA u

variable (s0 : Fin 4 → FVec F S1x128x128 .f32)

/-- The state a unit starts from, at a later grid point: from the point before, or from the chunk before. -/
def inB (ps : List (View.Piece (Elt F) S4x128x128 .f32)) (u : ℕ) : FVec F S1x128x128 .f32 :=
  if u < 4 then s0 (uH u) else a19.view.readCov ps (rS (uH u)).toLoadRect

/-- The states' pieces after `u` units, at a later grid point. -/
def psB : ℕ → List (View.Piece (Elt F) S4x128x128 .f32)
  | 0 => []
  | u + 1 => pcS L u (inB a19 s0 (psB u) u) :: psB u

/-- The outputs' pieces after `u` units, at a later grid point. -/
def poB : ℕ → List (View.Piece (Elt F) S512x512 .bf16)
  | 0 => []
  | u + 1 => pcO L u (inB a19 s0 (psB L a19 s0 u) u) :: poB u
end

/-- A block as the body loads it. -/
def rdB (a : Memref sig .tc .vmem S512x512 .f32) (ha : a.IsWhole) (x : Vec F S512x512 .f32) (rb : Fin 2) (h : Fin 4) : FVec F S256x128 .f32 :=
  View.readAt (Elt F) a.view (rB rb h).toLoadRect (ha.unread x)

/-- The body's loads, from the windows' memrefs and contents. -/
def loads (arg11 : Memref sig .tc .vmem S512x512 .f32) (harg11 : arg11.IsWhole) (arg12 : Memref sig .tc .vmem S512x512 .f32) (harg12 : arg12.IsWhole)
    (arg13 : Memref sig .tc .vmem S512x512 .f32) (harg13 : arg13.IsWhole) (arg14 : Memref sig .tc .vmem S512x512 .f32) (harg14 : arg14.IsWhole)
    (arg15 : Memref sig .tc .vmem S2x512 .f32) (harg15 : arg15.IsWhole) (arg16 : Memref sig .tc .vmem S1x128 .f32) (harg16 : arg16.IsWhole)
    (x10 x11 x12 x13 : Vec F S512x512 .f32) (x14 : Vec F S2x512 .f32) (x15 : Vec F S1x128 .f32) : Loads F where
  q := rdB arg11 harg11 x10
  f := rdB arg12 harg12 x11
  i := rdB arg13 harg13 x12
  g := rdB arg14 harg14 x13
  lb := k0_pay15 (View.readAt (Elt F) arg15.view (Rect.unit (s := S2x512) ![0, 0] S2x512.size inb_S2x512_S2x512_0_0).toLoadRect (harg15.unread x14))
  wn := shapeCast S1x128 (View.readAt (Elt F) arg16.view (Rect.unit (s := S1x128) ![0, 0] S1x128.size inb_S1x128_S1x128_0_0).toLoadRect (harg16.unread x15)) shapeCasts_S1x128_S1x128

/-- The states' pieces of the first grid point. -/
theorem runA_st  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x768 .f32) (harg3 : arg3.IsWhole) (arg4 : Memref sig .tc .vmem S8x768 .f32) (harg4 : arg4.IsWhole) (arg5 : Memref sig .tc .vmem S3x256 .f32) (harg5 : arg5.IsWhole) (arg6 : Memref sig .tc .vmem S1024x1024 .bf16) (harg6 : arg6.IsWhole) (arg7 : Memref sig .tc .vmem S3x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S2x512 .f32) (harg15 : arg15.IsWhole) (arg16 : Memref sig .tc .vmem S1x128 .f32) (harg16 : arg16.IsWhole) (arg17 : Memref sig .tc .vmem S512x1024 .f32) (harg17 : arg17.IsWhole) (arg18 : Memref sig .tc .vmem S512x512 .bf16) (harg18 : arg18.IsWhole) (arg19 : Memref sig .tc .vmem S4x128x128 .f32) (harg19 : arg19.IsWhole) (hc0 : cond0_0 i)
    (x0 : Vec F S512x1024 .f32) (x1 : Vec F S512x256 .bf16) (x2 : Vec F S512x768 .f32) (x3 : Vec F S8x768 .f32) (x4 : Vec F S3x256 .f32) (x5 : Vec F S1024x1024 .bf16) (x6 : Vec F S3x1024 .f32) (x7 : Vec F S1024x2816 .bf16) (x8 : Vec F S1024x2816 .bf16) (x9 : Vec F S2816x1024 .bf16) (x10 : Vec F S512x512 .f32) (x11 : Vec F S512x512 .f32) (x12 : Vec F S512x512 .f32) (x13 : Vec F S512x512 .f32) (x14 : Vec F S2x512 .f32) (x15 : Vec F S1x128 .f32)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).2.2.1 = psA (loads arg11 harg11 arg12 harg12 arg13 harg13 arg14 harg14 arg15 harg15 arg16 harg16 x10 x11 x12 x13 x14 x15) arg19 8 := by
  sl_kernel_rfl

/-- The outputs' pieces of the first grid point. -/
theorem runA_oh  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x768 .f32) (harg3 : arg3.IsWhole) (arg4 : Memref sig .tc .vmem S8x768 .f32) (harg4 : arg4.IsWhole) (arg5 : Memref sig .tc .vmem S3x256 .f32) (harg5 : arg5.IsWhole) (arg6 : Memref sig .tc .vmem S1024x1024 .bf16) (harg6 : arg6.IsWhole) (arg7 : Memref sig .tc .vmem S3x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S2x512 .f32) (harg15 : arg15.IsWhole) (arg16 : Memref sig .tc .vmem S1x128 .f32) (harg16 : arg16.IsWhole) (arg17 : Memref sig .tc .vmem S512x1024 .f32) (harg17 : arg17.IsWhole) (arg18 : Memref sig .tc .vmem S512x512 .bf16) (harg18 : arg18.IsWhole) (arg19 : Memref sig .tc .vmem S4x128x128 .f32) (harg19 : arg19.IsWhole) (hc0 : cond0_0 i)
    (x0 : Vec F S512x1024 .f32) (x1 : Vec F S512x256 .bf16) (x2 : Vec F S512x768 .f32) (x3 : Vec F S8x768 .f32) (x4 : Vec F S3x256 .f32) (x5 : Vec F S1024x1024 .bf16) (x6 : Vec F S3x1024 .f32) (x7 : Vec F S1024x2816 .bf16) (x8 : Vec F S1024x2816 .bf16) (x9 : Vec F S2816x1024 .bf16) (x10 : Vec F S512x512 .f32) (x11 : Vec F S512x512 .f32) (x12 : Vec F S512x512 .f32) (x13 : Vec F S512x512 .f32) (x14 : Vec F S2x512 .f32) (x15 : Vec F S1x128 .f32)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15).2.1 = poA (loads arg11 harg11 arg12 harg12 arg13 harg13 arg14 harg14 arg15 harg15 arg16 harg16 x10 x11 x12 x13 x14 x15) arg19 8 := by
  sl_kernel_rfl

/-- The states' pieces of a later grid point. -/
theorem runB_st  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x768 .f32) (harg3 : arg3.IsWhole) (arg4 : Memref sig .tc .vmem S8x768 .f32) (harg4 : arg4.IsWhole) (arg5 : Memref sig .tc .vmem S3x256 .f32) (harg5 : arg5.IsWhole) (arg6 : Memref sig .tc .vmem S1024x1024 .bf16) (harg6 : arg6.IsWhole) (arg7 : Memref sig .tc .vmem S3x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S2x512 .f32) (harg15 : arg15.IsWhole) (arg16 : Memref sig .tc .vmem S1x128 .f32) (harg16 : arg16.IsWhole) (arg17 : Memref sig .tc .vmem S512x1024 .f32) (harg17 : arg17.IsWhole) (arg18 : Memref sig .tc .vmem S512x512 .bf16) (harg18 : arg18.IsWhole) (arg19 : Memref sig .tc .vmem S4x128x128 .f32) (harg19 : arg19.IsWhole) (hc0 : ¬cond0_0 i)
    (x0 : Vec F S512x1024 .f32) (x1 : Vec F S512x256 .bf16) (x2 : Vec F S512x768 .f32) (x3 : Vec F S8x768 .f32) (x4 : Vec F S3x256 .f32) (x5 : Vec F S1024x1024 .bf16) (x6 : Vec F S3x1024 .f32) (x7 : Vec F S1024x2816 .bf16) (x8 : Vec F S1024x2816 .bf16) (x9 : Vec F S2816x1024 .bf16) (x10 : Vec F S512x512 .f32) (x11 : Vec F S512x512 .f32) (x12 : Vec F S512x512 .f32) (x13 : Vec F S512x512 .f32) (x14 : Vec F S2x512 .f32) (x15 : Vec F S1x128 .f32) (xs0 : Vec F S512x512 .bf16) (xs1 : Vec F S4x128x128 .f32)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xs0 xs1).2.2.1 = psB (loads arg11 harg11 arg12 harg12 arg13 harg13 arg14 harg14 arg15 harg15 arg16 harg16 x10 x11 x12 x13 x14 x15) arg19 (fun h => View.readAt (Elt F) arg19.view (rS h).toLoadRect (harg19.unread xs1)) 8 := by
  sl_kernel_rfl

/-- The outputs' pieces of a later grid point. -/
theorem runB_oh  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x768 .f32) (harg3 : arg3.IsWhole) (arg4 : Memref sig .tc .vmem S8x768 .f32) (harg4 : arg4.IsWhole) (arg5 : Memref sig .tc .vmem S3x256 .f32) (harg5 : arg5.IsWhole) (arg6 : Memref sig .tc .vmem S1024x1024 .bf16) (harg6 : arg6.IsWhole) (arg7 : Memref sig .tc .vmem S3x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S2x512 .f32) (harg15 : arg15.IsWhole) (arg16 : Memref sig .tc .vmem S1x128 .f32) (harg16 : arg16.IsWhole) (arg17 : Memref sig .tc .vmem S512x1024 .f32) (harg17 : arg17.IsWhole) (arg18 : Memref sig .tc .vmem S512x512 .bf16) (harg18 : arg18.IsWhole) (arg19 : Memref sig .tc .vmem S4x128x128 .f32) (harg19 : arg19.IsWhole) (hc0 : ¬cond0_0 i)
    (x0 : Vec F S512x1024 .f32) (x1 : Vec F S512x256 .bf16) (x2 : Vec F S512x768 .f32) (x3 : Vec F S8x768 .f32) (x4 : Vec F S3x256 .f32) (x5 : Vec F S1024x1024 .bf16) (x6 : Vec F S3x1024 .f32) (x7 : Vec F S1024x2816 .bf16) (x8 : Vec F S1024x2816 .bf16) (x9 : Vec F S2816x1024 .bf16) (x10 : Vec F S512x512 .f32) (x11 : Vec F S512x512 .f32) (x12 : Vec F S512x512 .f32) (x13 : Vec F S512x512 .f32) (x14 : Vec F S2x512 .f32) (x15 : Vec F S1x128 .f32) (xs0 : Vec F S512x512 .bf16) (xs1 : Vec F S4x128x128 .f32)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xs0 xs1).2.1 = poB (loads arg11 harg11 arg12 harg12 arg13 harg13 arg14 harg14 arg15 harg15 arg16 harg16 x10 x11 x12 x13 x14 x15) arg19 (fun h => View.readAt (Elt F) arg19.view (rS h).toLoadRect (harg19.unread xs1)) 8 := by
  sl_kernel_rfl

end Hg
-- ==== Proof.Tail.lean ====
/-
  What one grid point's body stores into the result, in the vocabulary of its steps: the short convolution, the output
  projection, the residual and the feed-forward part in eleven slabs of 256 columns.
-/
module

public import proofs.«01_k».proof.Proof.Tie

@[expose] public section

noncomputable section

namespace Hg

open Idealize.ShloMosaic Idealize.SL.Sem Cert.MixIdeal Cert.MixIdeal.Gen

variable {F : FTy → Type} [FloatOps F] [Named F]

/-- A row normed by its root mean square and weighted. -/
def rmsW (x : FVec F S512x1024 .f32) (w : FVec F S1x1024 .f32) : FVec F S512x1024 .f32 :=
  mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32 : F .f32)))
      (broadcast S512x1 (Scalar.ofBits .f32 0x358637BD#32 : F .f32)))) broadcasts_S512x1_S512x1024))
    (over 512 w)

/-- One slab of the feed-forward part. -/
def slab (xn : FVec F S512x1024 .bf16) (wg wu : FVec F S1024x256 .bf16) (wd : FVec F S256x1024 .bf16) : FVec F S512x1024 .f32 :=
  let a := matmul (DotDims.plain 512 1024 256) none xn (shapeCast S1024x256 wg shapeCasts_S1024x256_S1024x256) (constant S512x256 .f32 0x00000000#32)
  let u := matmul (DotDims.plain 512 1024 256) none xn (shapeCast S1024x256 wu shapeCasts_S1024x256_S1024x256) (constant S512x256 .f32 0x00000000#32)
  matmul (DotDims.plain 512 256 1024) none (truncf .bf16 (mulf (mulf a (logistic a)) u) bitsLt_bf16_f32)
    (shapeCast S256x1024 wd shapeCasts_S256x1024_S256x1024) (constant S512x1024 .f32 0x00000000#32)

/-- What the body loads for the tail. -/
structure TLoads (F : FTy → Type) where
  /-- The residual. -/
  x : FVec F S512x1024 .f32
  /-- The recurrence's outputs. -/
  oh : FVec F S512x512 .bf16
  /-- The attention's outputs. -/
  oa : FVec F S512x256 .bf16
  /-- The convolution's projections. -/
  zc : FVec F S512x768 .f32
  /-- The last rows of the tile before. -/
  zp : FVec F S8x768 .f32
  /-- The convolution's weights. -/
  cw : FVec F S3x256 .f32
  /-- The projection's rows of the recurrence. -/
  w0 : FVec F S512x1024 .bf16
  /-- The projection's rows of the attention. -/
  w1 : FVec F S256x1024 .bf16
  /-- The projection's rows of the convolution. -/
  w2 : FVec F S256x1024 .bf16
  /-- The three norm weights. -/
  n : Fin 3 → FVec F S1x1024 .f32
  /-- The gate slabs. -/
  fg : ℕ → FVec F S1024x256 .bf16
  /-- The up slabs. -/
  fu : ℕ → FVec F S1024x256 .bf16
  /-- The down slabs. -/
  fd : ℕ → FVec F S256x1024 .bf16

/-- The convolution's gated input. -/
def cIn (zc : FVec F S512x768 .f32) : FVec F S512x256 .f32 :=
  mulf (extractStridedSlice S512x256 ![0, 256] zc slices_S512x768_o0_256_S512x256)
    (extractStridedSlice S512x256 ![0, 512] zc slices_S512x768_o0_512_S512x256)

/-- The row number in a tile. -/
def rowT : IVec S512x256 32 := iota .tc S512x256 32 [0] iota_S512x256_d0_w32

/-- The input one row up. -/
def up1 (p : FVec F S8x256 .f32) (x : FVec F S512x256 .f32) : FVec F S512x256 .f32 :=
  select (cmpi .eq rowT (broadcast S512x256 0#32))
    (over 512 (shapeCast S1x256 (rows 7 1 (by decide) p) shapeCasts_S1x256_S1x256)) (dynamicRotate 0 1#32 none x rotates_S512x256_d0)
/-- The input two rows up. -/
def up2 (p : FVec F S8x256 .f32) (x : FVec F S512x256 .f32) : FVec F S512x256 .f32 :=
  select (cmpi .eq rowT (broadcast S512x256 0#32))
    (over 512 (shapeCast S1x256 (rows 6 1 (by decide) p) shapeCasts_S1x256_S1x256))
    (select (cmpi .eq rowT (broadcast S512x256 1#32))
      (over 512 (shapeCast S1x256 (rows 7 1 (by decide) p) shapeCasts_S1x256_S1x256)) (dynamicRotate 0 2#32 none x rotates_S512x256_d0))

/-- The short convolution. -/
def conv (p : FVec F S8x256 .f32) (zc : FVec F S512x768 .f32) (cw : FVec F S3x256 .f32) : FVec F S512x256 .f32 :=
  mulf (extractStridedSlice S512x256 ![0, 0] zc slices_S512x768_o0_0_S512x256)
    (addf (addf (mulf (over 512 (rows 0 1 (by decide) (shapeCast S3x256 cw shapeCasts_S3x256_S3x256))) (up2 p (cIn zc)))
      (mulf (over 512 (rows 1 1 (by decide) (shapeCast S3x256 cw shapeCasts_S3x256_S3x256))) (up1 p (cIn zc))))
      (mulf (over 512 (rows 2 1 (by decide) (shapeCast S3x256 cw shapeCasts_S3x256_S3x256))) (cIn zc)))

/-- The output projection. -/
def proj (L : TLoads F) (i : grid0.Coords) : FVec F S512x1024 .f32 :=
  addf (addf
    (matmul (DotDims.plain 512 512 1024) none L.oh (shapeCast S512x1024 L.w0 shapeCasts_S512x1024_S512x1024) (constant S512x1024 .f32 0x00000000#32))
    (matmul (DotDims.plain 512 256 1024) none L.oa (shapeCast S256x1024 L.w1 shapeCasts_S256x1024_S256x1024) (constant S512x1024 .f32 0x00000000#32)))
    (matmul (DotDims.plain 512 256 1024) none (truncf .bf16 (conv (k0_pay4 i L.zp) L.zc L.cw) bitsLt_bf16_f32)
      (shapeCast S256x1024 L.w2 shapeCasts_S256x1024_S256x1024) (constant S512x1024 .f32 0x00000000#32))

/-- The residual after the mixers. -/
def mid (L : TLoads F) (i : grid0.Coords) : FVec F S512x1024 .f32 :=
  addf L.x (rmsW (proj L i) (shapeCast S1x1024 (L.n 0) shapeCasts_S1x1024_S1x1024))

/-- The feed-forward part's input. -/
def ffnIn (L : TLoads F) (i : grid0.Coords) : FVec F S512x1024 .bf16 :=
  truncf .bf16 (rmsW (mid L i) (shapeCast S1x1024 (L.n 1) shapeCasts_S1x1024_S1x1024)) bitsLt_bf16_f32

/-- The slabs up to number `n` summed. -/
def ffnUp (L : TLoads F) (i : grid0.Coords) : ℕ → FVec F S512x1024 .f32
  | 0 => slab (ffnIn L i) (L.fg 0) (L.fu 0) (L.fd 0)
  | n + 1 => addf (ffnUp L i n) (slab (ffnIn L i) (L.fg (n + 1)) (L.fu (n + 1)) (L.fd (n + 1)))

/-- The result's tile. -/
def tailOut (L : TLoads F) (i : grid0.Coords) : FVec F S512x1024 .f32 :=
  addf (mid L i) (mulf (broadcast S512x1024 (Scalar.ofBits .f32 0x3F000000#32 : F .f32))
    (rmsW (ffnUp L i 10) (shapeCast S1x1024 (L.n 2) shapeCasts_S1x1024_S1x1024)))

/-- A norm weight lies inside the weights. -/
theorem inb_n (j : Fin 3) : ∀ a : Fin 2, (![j.val, 0] : Fin 2 → ℕ) a + S1x1024.size a ≤ S3x1024.size a := by
  intro a
  match a with
  | ⟨0, _⟩ => show j.val + 1 ≤ 3; omega
  | ⟨1, _⟩ => exact le_rfl

/-- A slab's columns lie inside the gate's. -/
theorem inb_col (n : ℕ) : ∀ a : Fin 2, (![0, n % 11 * 256] : Fin 2 → ℕ) a + S1024x256.size a ≤ S1024x2816.size a := by
  intro a
  match a with
  | ⟨0, _⟩ => exact le_rfl
  | ⟨1, _⟩ => show n % 11 * 256 + 256 ≤ 2816; omega

/-- A slab's rows lie inside the down projection's. -/
theorem inb_row (n : ℕ) : ∀ a : Fin 2, (![n % 11 * 256, 0] : Fin 2 → ℕ) a + S256x1024.size a ≤ S2816x1024.size a := by
  intro a
  match a with
  | ⟨0, _⟩ => show n % 11 * 256 + 256 ≤ 2816; omega
  | ⟨1, _⟩ => exact le_rfl

/-- The tail's loads, from the windows' memrefs and contents. -/
def tloads (arg1 : Memref sig .tc .vmem S512x1024 .f32) (harg1 : arg1.IsWhole) (arg2 : Memref sig .tc .vmem S512x256 .bf16) (harg2 : arg2.IsWhole)
    (arg3 : Memref sig .tc .vmem S512x768 .f32) (harg3 : arg3.IsWhole) (arg4 : Memref sig .tc .vmem S8x768 .f32) (harg4 : arg4.IsWhole)
    (arg5 : Memref sig .tc .vmem S3x256 .f32) (harg5 : arg5.IsWhole) (arg6 : Memref sig .tc .vmem S1024x1024 .bf16) (harg6 : arg6.IsWhole)
    (arg7 : Memref sig .tc .vmem S3x1024 .f32) (harg7 : arg7.IsWhole) (arg8 : Memref sig .tc .vmem S1024x2816 .bf16) (harg8 : arg8.IsWhole)
    (arg9 : Memref sig .tc .vmem S1024x2816 .bf16) (harg9 : arg9.IsWhole) (arg10 : Memref sig .tc .vmem S2816x1024 .bf16) (harg10 : arg10.IsWhole)
    (x0 : Vec F S512x1024 .f32) (x1 : Vec F S512x256 .bf16) (x2 : Vec F S512x768 .f32) (x3 : Vec F S8x768 .f32) (x4 : Vec F S3x256 .f32)
    (x5 : Vec F S1024x1024 .bf16) (x6 : Vec F S3x1024 .f32) (x7 : Vec F S1024x2816 .bf16) (x8 : Vec F S1024x2816 .bf16) (x9 : Vec F S2816x1024 .bf16)
    (oh : FVec F S512x512 .bf16) : TLoads F where
  x := View.readAt (Elt F) arg1.view (Rect.unit (s := S512x1024) ![0, 0] S512x1024.size inb_S512x1024_S512x1024_0_0).toLoadRect (harg1.unread x0)
  oh := oh
  oa := View.readAt (Elt F) arg2.view (Rect.unit (s := S512x256) ![0, 0] S512x256.size inb_S512x256_S512x256_0_0).toLoadRect (harg2.unread x1)
  zc := View.readAt (Elt F) arg3.view (Rect.unit (s := S512x768) ![0, 0] S512x768.size inb_S512x768_S512x768_0_0).toLoadRect (harg3.unread x2)
  zp := View.readAt (Elt F) arg4.view (Rect.unit (s := S8x768) ![0, 0] S8x768.size inb_S8x768_S8x768_0_0).toLoadRect (harg4.unread x3)
  cw := View.readAt (Elt F) arg5.view (Rect.unit (s := S3x256) ![0, 0] S3x256.size inb_S3x256_S3x256_0_0).toLoadRect (harg5.unread x4)
  w0 := View.readAt (Elt F) arg6.view (Rect.unit (s := S1024x1024) ![0, 0] S512x1024.size inb_S1024x1024_S512x1024_0_0).toLoadRect (harg6.unread x5)
  w1 := View.readAt (Elt F) arg6.view (Rect.unit (s := S1024x1024) ![512, 0] S256x1024.size inb_S1024x1024_S256x1024_512_0).toLoadRect (harg6.unread x5)
  w2 := View.readAt (Elt F) arg6.view (Rect.unit (s := S1024x1024) ![768, 0] S256x1024.size inb_S1024x1024_S256x1024_768_0).toLoadRect (harg6.unread x5)
  n := fun j => View.readAt (Elt F) arg7.view (Rect.unit (s := S3x1024) ![j.val, 0] S1x1024.size (inb_n j)).toLoadRect (harg7.unread x6)
  fg := fun n => View.readAt (Elt F) arg8.view (Rect.unit (s := S1024x2816) ![0, n % 11 * 256] S1024x256.size (inb_col n)).toLoadRect (harg8.unread x7)
  fu := fun n => View.readAt (Elt F) arg9.view (Rect.unit (s := S1024x2816) ![0, n % 11 * 256] S1024x256.size (inb_col n)).toLoadRect (harg9.unread x8)
  fd := fun n => View.readAt (Elt F) arg10.view (Rect.unit (s := S2816x1024) ![n % 11 * 256, 0] S256x1024.size (inb_row n)).toLoadRect (harg10.unread x9)

/-- The result's piece at a later grid point. -/
theorem runB_out  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x768 .f32) (harg3 : arg3.IsWhole) (arg4 : Memref sig .tc .vmem S8x768 .f32) (harg4 : arg4.IsWhole) (arg5 : Memref sig .tc .vmem S3x256 .f32) (harg5 : arg5.IsWhole) (arg6 : Memref sig .tc .vmem S1024x1024 .bf16) (harg6 : arg6.IsWhole) (arg7 : Memref sig .tc .vmem S3x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S2x512 .f32) (harg15 : arg15.IsWhole) (arg16 : Memref sig .tc .vmem S1x128 .f32) (harg16 : arg16.IsWhole) (arg17 : Memref sig .tc .vmem S512x1024 .f32) (harg17 : arg17.IsWhole) (arg18 : Memref sig .tc .vmem S512x512 .bf16) (harg18 : arg18.IsWhole) (arg19 : Memref sig .tc .vmem S4x128x128 .f32) (harg19 : arg19.IsWhole) (hc0 : ¬cond0_0 i)
    (x0 : Vec F S512x1024 .f32) (x1 : Vec F S512x256 .bf16) (x2 : Vec F S512x768 .f32) (x3 : Vec F S8x768 .f32) (x4 : Vec F S3x256 .f32) (x5 : Vec F S1024x1024 .bf16) (x6 : Vec F S3x1024 .f32) (x7 : Vec F S1024x2816 .bf16) (x8 : Vec F S1024x2816 .bf16) (x9 : Vec F S2816x1024 .bf16) (x10 : Vec F S512x512 .f32) (x11 : Vec F S512x512 .f32) (x12 : Vec F S512x512 .f32) (x13 : Vec F S512x512 .f32) (x14 : Vec F S2x512 .f32) (x15 : Vec F S1x128 .f32) (xs0 : Vec F S512x512 .bf16) (xs1 : Vec F S4x128x128 .f32)  :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 xs0 xs1).1 = [⟨Rect.unit ![0, 0] S512x1024.size inb_S512x1024_S512x1024_0_0, tailOut (tloads arg1 harg1 arg2 harg2 arg3 harg3 arg4 harg4 arg5 harg5 arg6 harg6 arg7 harg7 arg8 harg8 arg9 harg9 arg10 harg10 x0 x1 x2 x3 x4 x5 x6 x7 x8 x9
      (View.readAt (Elt F) arg18.view (Rect.unit (s := S512x512) ![0, 0] S512x512.size inb_S512x512_S512x512_0_0).toLoadRect (harg18.unread xs0))) i⟩] := by
  sl_kernel_rfl

end Hg
-- ==== Proof.Reals.lean ====
/-
  Vectors whose entries are real numbers, described by functions of row and column, and what the kernel's operations do
  to the descriptions.
-/
module

public import proofs.«01_k».proof.Proof.Unit
public import Idealize.ShloMosaic.Lib.Pointwise
public import Idealize.ShloMosaic.Lib.ValueIdx
public import Idealize.ShloMosaic.Lib.KernelVsHost
public import Idealize.ShloMosaic.PureOps.Ideal.Laws
public import Idealize.ShloMosaic.Lib.Pipeline.Value

@[expose] public section

noncomputable section

namespace Hg

open Idealize.ShloMosaic Cert.MixIdeal Cert.MixIdeal.Facts₀

/-- The entries of `x` are the reals `X` of row and column. -/
def Re {R C : ℕ} {φ : FTy} (x : FVec Ideal (Sh R C) φ) (X : ℕ → ℕ → ℝ) : Prop :=
  ∀ (t : Fin R) (j : Fin C), x (ix2 t j) = ((X t.val j.val : ℝ) : EReal)

namespace Re

variable {R C : ℕ} {φ : FTy}

theorem congr {x : FVec Ideal (Sh R C) φ} {X Y : ℕ → ℕ → ℝ} (h : Re x X) (e : ∀ t < R, ∀ j < C, X t j = Y t j) : Re x Y :=
  fun t j => (h t j).trans (congrArg _ (e t t.isLt j j.isLt))

theorem mul {x y : FVec Ideal (Sh R C) φ} {X Y : ℕ → ℕ → ℝ} (hx : Re x X) (hy : Re y Y) : Re (mulf x y) (fun t j => X t j * Y t j) := fun t j => by
  show x (ix2 t j) * y (ix2 t j) = _
  rw [hx, hy, EReal.coe_mul]
theorem add {x y : FVec Ideal (Sh R C) φ} {X Y : ℕ → ℕ → ℝ} (hx : Re x X) (hy : Re y Y) : Re (addf x y) (fun t j => X t j + Y t j) := fun t j => by
  show x (ix2 t j) + y (ix2 t j) = _
  rw [hx, hy, EReal.coe_add]
theorem sub {x y : FVec Ideal (Sh R C) φ} {X Y : ℕ → ℕ → ℝ} (hx : Re x X) (hy : Re y Y) : Re (subf x y) (fun t j => X t j - Y t j) := fun t j => by
  show x (ix2 t j) - y (ix2 t j) = _
  rw [hx, hy, EReal.coe_sub]
theorem exp2 {x : FVec Ideal (Sh R C) φ} {X : ℕ → ℕ → ℝ} (hx : Re x X) : Re (exp2 x) (fun t j => (2 : ℝ) ^ (X t j)) := fun t j => by
  show Ideal.exp2 (x (ix2 t j)) = _
  rw [hx]; rfl
theorem abs {x : FVec Ideal (Sh R C) φ} {X : ℕ → ℕ → ℝ} (hx : Re x X) : Re (absf x) (fun t j => |X t j|) := fun t j => by
  show max (x (ix2 t j)) (-(x (ix2 t j))) = _
  rw [hx, ← EReal.coe_neg, ← EReal.coe_strictMono.monotone.map_max]; rfl
theorem zer : Re (zer (F := Ideal) (Sh R C)) (fun _ _ => 0) := fun t j => by
  show Ideal.ofBits .f32 0#32 = _
  simp
theorem one : Re (one (F := Ideal) (Sh R C)) (fun _ _ => 1) := fun t j => by
  show Ideal.ofBits .f32 0x3F800000#32 = _
  simp
theorem sel {x y : FVec Ideal (Sh R C) φ} {X Y : ℕ → ℕ → ℝ} {p : IVec (Sh R C) 1} {P : ℕ → ℕ → Prop} [∀ t j, Decidable (P t j)] (hx : Re x X) (hy : Re y Y)
    (hp : ∀ (t : Fin R) (j : Fin C), p (ix2 t j) = 1#1 ↔ P t.val j.val) : Re (select p x y) (fun t j => if P t j then X t j else Y t j) := fun t j => by
  show (if p (ix2 t j) = 1#1 then x (ix2 t j) else y (ix2 t j)) = _
  by_cases h : P t.val j.val
  · rw [if_pos ((hp t j).2 h), hx]; simp only [if_pos h]
  · rw [if_neg (fun e => h ((hp t j).1 e)), hy]; simp only [if_neg h]

end Re

theorem rows_at {α : Type} {R C : ℕ} (r H : ℕ) (h : r + H ≤ R) (x : (Sh R C).Idx → α) (t : Fin H) (j : Fin C) :
    rows r H h x (ix2 t j) = x (ix2 ⟨r + t.val, by omega⟩ j) :=
  extractStridedSlice_apply _ x _ (ix2 t j) (ix2 ⟨r + t.val, by omega⟩ j) fun a => by
    match a with
    | ⟨0, _⟩ => rfl
    | ⟨1, _⟩ => exact (Nat.zero_add _).symm

theorem over_at {α : Type} {C : ℕ} (H : ℕ) (x : (Sh 1 C).Idx → α) (t : Fin H) (j : Fin C) : over H x (ix2 t j) = x (ix2 0 j) :=
  broadcastTo_apply x _ (ix2 t j) (ix2 0 j) fun a => by
    match a with
    | ⟨0, _⟩ => rfl
    | ⟨1, _⟩ =>
      show j.val = if C = 1 then 0 else j.val
      split
      · have := j.isLt; omega
      · rfl

theorem stack_at {α : Type} {H C : ℕ} (R N : ℕ) (h2 : 2 ≤ N) (hR : N * H = R) (h0 : 0 < H) (f : Fin N → ((Sh H C).Idx → α)) (t : Fin R) (j : Fin C) :
    stack R N h2 hR f (ix2 t j) = f ⟨t.val / H, (Nat.div_lt_iff_lt_mul h0).2 (by rw [hR]; exact t.isLt)⟩ (ix2 ⟨t.val % H, Nat.mod_lt _ h0⟩ j) :=
  concatenate_ofFn_apply (s₁ := Sh H C) (t := Sh R C) 0 f _ rfl H rfl (ix2 t j) ⟨t.val / H, _⟩ rfl (ix2 ⟨t.val % H, _⟩ j) rfl fun b hb => by
    match b with
    | ⟨0, _⟩ => exact absurd rfl hb
    | ⟨1, _⟩ => rfl

theorem pair_at_left {α : Type} {A B C : ℕ} (R : ℕ) (hR : A + B = R) (x : (Sh A C).Idx → α) (y : (Sh B C).Idx → α) (t : Fin R) (j : Fin C) (h : t.val < A) :
    pair R hR x y (ix2 t j) = x (ix2 ⟨t.val, h⟩ j) :=
  concatenate_pair_apply_left (s₁ := Sh A C) (s₂ := Sh B C) (t := Sh R C) 0 x y _ (ix2 t j) rfl (ix2 ⟨t.val, h⟩ j) fun b => by
    match b with
    | ⟨0, _⟩ => rfl
    | ⟨1, _⟩ => rfl

theorem pair_at_right {α : Type} {A B C : ℕ} (R : ℕ) (hR : A + B = R) (x : (Sh A C).Idx → α) (y : (Sh B C).Idx → α) (t : Fin R) (j : Fin C) (h : A ≤ t.val) :
    pair R hR x y (ix2 t j) = y (ix2 ⟨t.val - A, by have := t.isLt; omega⟩ j) :=
  concatenate_pair_apply_right (s₁ := Sh A C) (s₂ := Sh B C) (t := Sh R C) 0 x y _ (ix2 t j) rfl rfl (ix2 ⟨t.val - A, _⟩ j) (fun b hb => by
    match b with
    | ⟨0, _⟩ => exact absurd rfl hb
    | ⟨1, _⟩ => rfl) (Nat.sub_add_cancel h)

namespace Re

variable {R C : ℕ} {φ : FTy}

theorem rows {x : FVec Ideal (Sh R C) φ} {X : ℕ → ℕ → ℝ} (hx : Re x X) (r H : ℕ) (h : r + H ≤ R) : Re (φ := φ) (Hg.rows r H h x) (fun t j => X (r + t) j) :=
  fun t j => (rows_at r H h x t j).trans (hx _ j)
theorem over {x : FVec Ideal (Sh 1 C) φ} {X : ℕ → ℕ → ℝ} (hx : Re x X) (H : ℕ) : Re (φ := φ) (Hg.over H x) (fun _ j => X 0 j) :=
  fun t j => (over_at H x t j).trans (hx 0 j)
theorem stack {H N : ℕ} {f : Fin N → FVec Ideal (Sh H C) φ} {X : ℕ → ℕ → ℝ} (h2 : 2 ≤ N) (hR : N * H = R) (h0 : 0 < H)
    (hf : ∀ n : Fin N, Re (f n) (fun t j => X (n.val * H + t) j)) : Re (φ := φ) (Hg.stack R N h2 hR f) X := fun t j => by
  refine (stack_at R N h2 hR h0 f t j).trans ((hf _ _ j).trans ?_)
  show ((X (t.val / H * H + t.val % H) j.val : ℝ) : EReal) = _
  rw [Nat.div_add_mod']
theorem pair {A B : ℕ} (hR : A + B = R) {x : FVec Ideal (Sh A C) φ} {y : FVec Ideal (Sh B C) φ} {X : ℕ → ℕ → ℝ} (hx : Re x X) (hy : Re y (fun t j => X (A + t) j)) :
    Re (φ := φ) (Hg.pair R hR x y) X := fun t j => by
  by_cases h : t.val < A
  · exact (pair_at_left R hR x y t j h).trans (hx _ j)
  · refine (pair_at_right R hR x y t j (not_lt.1 h)).trans ((hy _ j).trans ?_)
    show ((X (A + (t.val - A)) j.val : ℝ) : EReal) = _
    rw [Nat.add_sub_cancel' (not_lt.1 h)]

/-- A sum of products of reals. -/
theorem coe_dot {n : ℕ} (a b : ℕ → ℝ) : ∑ c : Fin n, ((a c.val : ℝ) : EReal) * ((b c.val : ℝ) : EReal) = ((∑ c : Fin n, a c.val * b c.val : ℝ) : EReal) := by
  simp only [← EReal.coe_mul]
  exact (map_sum (⟨⟨fun r : ℝ => (r : EReal), EReal.coe_zero⟩, EReal.coe_add⟩ : ℝ →+ EReal) (fun c : Fin n => a c.val * b c.val) Finset.univ).symm

theorem dotT {M K N : ℕ} {φ₁ φ₂ : FTy} {x : FVec Ideal (Sh M K) φ₁} {y : FVec Ideal (Sh N K) φ₂} {X Y : ℕ → ℕ → ℝ} (hx : Re x X) (hy : Re y Y) :
    Re (φ := .f32) (matmul (DotDims.transposedRhs M K N) none x y (constant (Sh M N) .f32 0x00000000#32)) (fun t s => ∑ c : Fin K, X t c * Y s c) := fun t s => by
  refine (Ideal.matmul_transposedRhs_apply none x y _ t s).trans ?_
  refine (congrArg (_ + ·) ((Finset.sum_congr rfl fun c _ => congrArg₂ (· * ·) (hx t c) (hy s c)).trans (coe_dot (X t.val) (Y s.val)))).trans ?_
  show Ideal.ofBits .f32 0#32 + _ = _
  simp
theorem dot {M K N : ℕ} {φ₁ φ₂ : FTy} {x : FVec Ideal (Sh M K) φ₁} {y : FVec Ideal (Sh K N) φ₂} {X Y : ℕ → ℕ → ℝ} (hx : Re x X) (hy : Re y Y) :
    Re (φ := .f32) (matmul (DotDims.plain M K N) none x y (constant (Sh M N) .f32 0x00000000#32)) (fun t s => ∑ c : Fin K, X t c * Y c s) := fun t s => by
  refine (Ideal.matmul_plain_apply none x y _ t s).trans ?_
  refine (congrArg (_ + ·) ((Finset.sum_congr rfl fun c _ => congrArg₂ (· * ·) (hx t c) (hy c s)).trans (coe_dot (X t.val) (fun c => Y c s.val)))).trans ?_
  show Ideal.ofBits .f32 0#32 + _ = _
  simp

end Re

/-! ## The running sum -/

/-- The sum of the `n` entries up to row `t`. -/
def win (X : ℕ → ℕ → ℝ) (n t j : ℕ) : ℝ := ∑ i ∈ Finset.range n, if i ≤ t then X (t - i) j else 0

theorem win_double (X : ℕ → ℕ → ℝ) (n t j : ℕ) : win X (n + n) t j = win X n t j + if n ≤ t then win X n (t - n) j else 0 := by
  unfold win
  rw [Finset.sum_range_add]
  congr 1
  split
  · rename_i h
    refine Finset.sum_congr rfl fun i _ => ?_
    by_cases hi : i ≤ t - n
    · rw [if_pos hi, if_pos (by omega), Nat.sub_sub]
    · rw [if_neg hi, if_neg (by omega)]
  · rename_i h
    exact Finset.sum_eq_zero fun i _ => if_neg (by omega)

/-- The running sum over rows. -/
def pre (X : ℕ → ℕ → ℝ) (t j : ℕ) : ℝ := ∑ s ∈ Finset.range (t + 1), X s j

theorem win_full (X : ℕ → ℕ → ℝ) (t j : ℕ) (h : t < 256) : win X 256 t j = pre X t j := by
  unfold win pre
  rw [← Finset.sum_range_reflect (fun s => X s j) (t + 1)]
  obtain ⟨d, hd⟩ : ∃ d, 256 = (t + 1) + d := ⟨256 - (t + 1), by omega⟩
  rw [hd, Finset.sum_range_add]
  have h0 : ∑ i ∈ Finset.range d, (if t + 1 + i ≤ t then X (t - (t + 1 + i)) j else 0) = 0 := Finset.sum_eq_zero fun i _ => if_neg (by omega)
  rw [h0, add_zero]
  refine Finset.sum_congr rfl fun i hi => ?_
  have := Finset.mem_range.1 hi
  rw [if_pos (by omega)]; congr 1

theorem rotate_at {α : Type} (n : ℕ) (hn : n < 256) (x : S256x128.Idx → α) (t : Fin 256) (j : Fin 128) :
    dynamicRotate 0 (BitVec.ofNat 32 n) none x rotates_S256x128_d0 (ix2 t j) = x (ix2 ⟨(t.val + 256 - n) % 256, Nat.mod_lt _ (by decide)⟩ j) :=
  dynamicRotate_apply (s := S256x128) 0 (BitVec.ofNat 32 n) x _ (ix2 t j) (ix2 ⟨(t.val + 256 - n) % 256, _⟩ j) fun b => by
    match b with
    | ⟨0, _⟩ =>
      show (t.val + 256 - n) % 256 = (t.val + 256 - (BitVec.ofNat 32 n).toNat % 256) % 256
      rw [BitVec.toNat_ofNat, Nat.mod_eq_of_lt (show n < 2 ^ 32 by omega), Nat.mod_eq_of_lt hn]
    | ⟨1, _⟩ => rfl

theorem Re.rotate {x : FVec Ideal S256x128 .f32} {X : ℕ → ℕ → ℝ} (hx : Re x X) (n : ℕ) (hn : n < 256) :
    Re (φ := .f32) (R := 256) (C := 128) (dynamicRotate 0 (BitVec.ofNat 32 n) none x rotates_S256x128_d0) (fun t j => X ((t + 256 - n) % 256) j) :=
  fun t j => (rotate_at n hn x t j).trans (hx _ j)

theorem rowNo_at (t : Fin 256) (j : Fin 128) : rowNo (ix2 t j) = BitVec.ofNat 32 t.val := by
  show BitVec.ofNat 32 (0 * 256 + t.val) = _
  rw [Nat.zero_mul, Nat.zero_add]

theorem sge_iff : ∀ n : Fin 8, ∀ t : Fin 8, (Scalar.cmpi .sge (BitVec.ofNat 32 (0 + t.val)) (BitVec.ofNat 32 n.val) = 1#1) ↔ n.val ≤ t.val := by decide

theorem Re.step {x : FVec Ideal S256x128 .f32} {X : ℕ → ℕ → ℝ} (hx : Re x X) (n : ℕ) (hn : n < 8) :
    Re (Hg.step (BitVec.ofNat 32 n) x) (fun t j => X t j + if n ≤ t then X (t - n) j else 0) := by
  unfold Hg.step
  refine hx.add ?_
  refine Re.pair (C := 128) (R := 256) (A := 8) (B := 248) rfl ?_ ?_
  · refine (Re.sel (P := fun t _ => n ≤ t) ((hx.rotate n (by omega)).rows 0 8 (by decide)) Re.zer fun t j => ?_).congr fun t ht j hj => ?_
    · show Scalar.cmpi .sge (Hg.rows 0 8 (by decide) rowNo (ix2 t j)) (BitVec.ofNat 32 n) = 1#1 ↔ _
      rw [rows_at, rowNo_at]
      exact sge_iff ⟨n, hn⟩ t
    · by_cases h : n ≤ t
      · simp only [if_pos h]; congr 1; omega
      · simp only [if_neg h]
  · refine ((hx.rotate n (by omega)).rows 8 248 (by decide)).congr fun t ht j hj => ?_
    rw [if_pos (by omega)]
    congr 1; omega

theorem Re.jump {x : FVec Ideal S256x128 .f32} {X : ℕ → ℕ → ℝ} (hx : Re x X) (A B : ℕ) (hR : A + B = 256) :
    Re (Hg.jump A B hR x) (fun t j => X t j + if A ≤ t then X (t - A) j else 0) := by
  unfold Hg.jump
  refine Re.pair (C := 128) (R := 256) hR ?_ ?_
  · refine (hx.rows 0 A (by omega)).congr fun t ht j hj => ?_
    rw [if_neg (by omega), add_zero, Nat.zero_add]
  · refine ((hx.rows A B (by omega)).add (hx.rows 0 B (by omega))).congr fun t ht j hj => ?_
    rw [if_pos (by omega)]
    congr 2; omega

/-- The kernel's running sum is the running sum. -/
theorem Re.psum {x : FVec Ideal S256x128 .f32} {X : ℕ → ℕ → ℝ} (hx : Re x X) : Re (Hg.psum x) (pre X) := by
  have h0 : Re x (win X 1) := hx.congr fun t _ j _ => by simp [win]
  have w : ∀ n : ℕ, (fun t j => win X n t j + if n ≤ t then win X n (t - n) j else 0) = win X (n + n) := fun n => by
    funext t j; exact (win_double X n t j).symm
  have h1 : Re _ (win X 2) := (w 1) ▸ h0.step 1 (by decide)
  have h2 : Re _ (win X 4) := (w 2) ▸ h1.step 2 (by decide)
  have h3 : Re _ (win X 8) := (w 4) ▸ h2.step 4 (by decide)
  have h4 : Re _ (win X 16) := (w 8) ▸ h3.jump 8 248 rfl
  have h5 : Re _ (win X 32) := (w 16) ▸ h4.jump 16 240 rfl
  have h6 : Re _ (win X 64) := (w 32) ▸ h5.jump 32 224 rfl
  have h7 : Re _ (win X 128) := (w 64) ▸ h6.jump 64 192 rfl
  have h8 : Re _ (win X 256) := (w 128) ▸ h7.jump 128 128 rfl
  exact h8.congr fun t ht j _ => win_full X t j ht

end Hg
-- ==== Proof.Scores.lean ====
/-
  The scores of a chunk: the levels add up to all causal pairs, each with its decay.
-/
module

public import proofs.«01_k».proof.Proof.Reals

@[expose] public section

noncomputable section

namespace Hg

open Idealize.ShloMosaic Cert.MixIdeal Cert.MixIdeal.Facts₀

/-- A score with its decay. -/
def D (Q K B : ℕ → ℕ → ℝ) (t s : ℕ) : ℝ := ∑ c : Fin 128, Q t c * K s c * (2 : ℝ) ^ (B t c - B s c)

/-- The scores known once the levels down to blocks of `H` rows are in. -/
def Sc (E : ℕ → ℕ → ℝ) (H t s : ℕ) : ℝ := if t = s ∨ s / H < t / H then E t s else 0

variable {q k b : FVec Ideal S256x128 .f32} {Q K B : ℕ → ℕ → ℝ} {old : FVec Ideal S256x256 .f32}

theorem two_mul_pow (x y z : ℝ) : (2 : ℝ) ^ (x - y) * (2 : ℝ) ^ (y - z) = (2 : ℝ) ^ (x - z) := by
  rw [← Real.rpow_add two_pos]; congr 1; ring

theorem Re.trunc {R C : ℕ} {φ ψ : FTy} {x : FVec Ideal (Sh R C) φ} {X : ℕ → ℕ → ℝ} (h : ψ.bits < φ.bits) (hx : Re x X) : Re (φ := ψ) (truncf ψ x h) X := hx

theorem Re.qpart (hq : Re q Q) (hb : Re b B) (H r : ℕ) (h0 : 0 < r) (h : r + H ≤ 256) :
    Re (φ := .f32) (Hg.qpart H r h0 h q b) (fun t c => Q (r + t) c * (2 : ℝ) ^ (B (r + t) c - B (r - 1) c)) :=
  (hq.rows r H h).mul ((hb.rows r H h).sub ((hb.rows (r - 1) 1 (by omega)).over H)).exp2

theorem Re.kpart (hk : Re k K) (hb : Re b B) (H r : ℕ) (h0 : 0 < H) (h : r + H ≤ 256) :
    Re (φ := .f32) (Hg.kpart H r h0 h k b) (fun t c => K (r + t) c * (2 : ℝ) ^ (B (r + H - 1) c - B (r + t) c)) :=
  (hk.rows r H h).mul (((hb.rows (r + H - 1) 1 (by omega)).over H).sub (hb.rows r H h)).exp2

/-- The keys of a level: even blocks decayed to their last row, odd blocks nothing. -/
def ks (K B : ℕ → ℕ → ℝ) (H s c : ℕ) : ℝ := if s / H % 2 = 0 then K s c * (2 : ℝ) ^ (B (s / H * H + H - 1) c - B s c) else 0

theorem Re.lvlM (hq : Re q Q) (hk : Re k K) (hb : Re b B) (H NB : ℕ) (h0 : 0 < H) (h2 : 2 ≤ NB) (hN : NB * H = 128) :
    Re (φ := .f32) (Hg.lvlM H NB h0 h2 hN q k b) (fun a s => ∑ c : Fin 128,
      (Q ((2 * (a / H) + 1) * H + a % H) c * (2 : ℝ) ^ (B ((2 * (a / H) + 1) * H + a % H) c - B ((2 * (a / H) + 1) * H - 1) c)) * ks K B H s c) := by
  unfold Hg.lvlM
  have eqs : ∀ p t : ℕ, t < H → (p * H + t) / H = p ∧ (p * H + t) % H = t := fun p t ht => by
    constructor
    · rw [Nat.add_comm, Nat.add_mul_div_right _ _ h0, Nat.div_eq_of_lt ht, Nat.zero_add]
    · rw [Nat.add_comm, Nat.add_mul_mod_self_right, Nat.mod_eq_of_lt ht]
  refine Re.dotT (φ₁ := .bf16) (φ₂ := .bf16)
    (X := fun a c => Q ((2 * (a / H) + 1) * H + a % H) c * (2 : ℝ) ^ (B ((2 * (a / H) + 1) * H + a % H) c - B ((2 * (a / H) + 1) * H - 1) c)) (Y := ks K B H) ?_ ?_
  · refine Re.trunc _ ?_
    refine Re.stack (R := 128) (C := 128) h2 hN h0 fun p => ?_
    refine (hq.qpart hb H ((2 * p.val + 1) * H) _ _).congr fun t ht c _ => ?_
    rw [(eqs p.val t ht).1, (eqs p.val t ht).2]
  · refine Re.trunc _ ?_
    refine Re.stack (R := 256) (C := 128) _ _ h0 fun n => ?_
    split
    · rename_i h
      refine (hk.kpart hb H (n.val * H) _ _).congr fun t ht c _ => ?_
      unfold ks
      rw [(eqs n.val t ht).1, if_pos h]
    · rename_i h
      refine Re.zer.congr fun t ht c _ => ?_
      unfold ks
      rw [(eqs n.val t ht).1, if_neg h]

/-- The mask of a level holds on the pairs of rows in one block. -/
def Mask (m : BitVec 32) (H2 : ℕ) : Prop := ∀ t s : Fin 256, same m (ix2 t s) = 1#1 ↔ t.val / H2 = s.val / H2

theorem Re.lvl (hq : Re q Q) (hk : Re k K) (hb : Re b B) (H NB : ℕ) (h0 : 0 < H) (h2 : 2 ≤ NB) (hN : NB * H = 128) (m : BitVec 32) (hm : Mask m (H * 2))
    (ho : Re old (Sc (D Q K B) (H * 2))) : Re (Hg.lvl H NB h0 h2 hN m q k b old) (Sc (D Q K B) H) := by
  unfold Hg.lvl
  have eqs : ∀ p t : ℕ, t < H → (p * H + t) / H = p ∧ (p * H + t) % H = t := fun p t ht => by
    constructor
    · rw [Nat.add_comm, Nat.add_mul_div_right _ _ h0, Nat.div_eq_of_lt ht, Nat.zero_add]
    · rw [Nat.add_comm, Nat.add_mul_mod_self_right, Nat.mod_eq_of_lt ht]
  refine Re.stack (R := 256) (C := 256) _ _ h0 fun n => ?_
  split
  · rename_i h
    refine (ho.rows _ H _).congr fun t ht s _ => ?_
    unfold Sc
    rw [← Nat.div_div_eq_div_mul, ← Nat.div_div_eq_div_mul, (eqs n.val t ht).1]
    congr 1
    have : s / H / 2 < n.val / 2 ↔ s / H < n.val := by omega
    rw [this]
  · rename_i h
    refine ((ho.rows _ H _).add (Re.sel (P := fun t s => (n.val * H + t) / (H * 2) = s / (H * 2))
      ((hq.lvlM hk hb H NB h0 h2 hN).rows (n.val / 2 * H) H _) Re.zer fun t s => ?_)).congr fun t ht s _ => ?_
    · rw [rows_at]
      exact hm _ _
    · unfold Sc
      rw [← Nat.div_div_eq_div_mul, ← Nat.div_div_eq_div_mul, (eqs n.val t ht).1, (eqs (n.val / 2) t ht).1, (eqs (n.val / 2) t ht).2]
      have e1 : 2 * (n.val / 2) + 1 = n.val := by omega
      rw [e1]
      have hts : n.val * H + t = s → s / H = n.val := fun e => e ▸ (eqs n.val t ht).1
      by_cases hs : n.val / 2 = s / H / 2
      · rw [if_pos hs]
        by_cases he : s / H % 2 = 0
        · have e2 : s / H + 1 = n.val := by omega
          rw [if_neg (by rintro (e | e); · have := hts e; omega
                         · omega), if_pos (Or.inr (by omega)), zero_add]
          unfold D
          refine Finset.sum_congr rfl fun c _ => ?_
          unfold ks
          rw [if_pos he]
          have e3 : s / H * H + H - 1 = n.val * H - 1 := by rw [← e2, Nat.add_mul, Nat.one_mul]
          rw [e3, ← two_mul_pow (B (n.val * H + t) c) (B (n.val * H - 1) c) (B s c)]
          ring
        · have e2 : s / H = n.val := by omega
          have z : ∀ X : ℕ → ℝ, ∑ c : Fin 128, X c.val * ks K B H s c = 0 := fun X => Finset.sum_eq_zero fun c _ => by
            unfold ks; rw [if_neg he, mul_zero]
          rw [z (fun c => Q (n.val * H + t) c * (2 : ℝ) ^ (B (n.val * H + t) c - B (n.val * H - 1) c)), add_zero, e2]
          congr 1
          simp
      · rw [if_neg hs, add_zero]
        congr 1
        have : s / H / 2 < n.val / 2 ↔ s / H < n.val := by omega
        rw [this]

theorem Re.top (hq : Re q Q) (hk : Re k K) (hb : Re b B) (ho : Re old (Sc (D Q K B) 256)) : Re (Hg.top q k b old) (Sc (D Q K B) 128) := by
  unfold Hg.top
  refine Re.pair (R := 256) (C := 256) (A := 128) (B := 128) rfl ?_ ?_
  · refine (ho.rows 0 128 _).congr fun t ht s hs => ?_
    unfold Sc
    rw [Nat.zero_add, Nat.div_eq_of_lt ht, Nat.div_eq_of_lt hs, Nat.div_eq_of_lt (show t < 256 by omega)]
    simp
  · refine ((ho.rows 128 128 _).add (Re.dotT (φ₁ := .bf16) (φ₂ := .bf16)
      (X := fun a c => Q (128 + a) c * (2 : ℝ) ^ (B (128 + a) c - B 127 c)) (Y := fun s c => if s < 128 then K s c * (2 : ℝ) ^ (B 127 c - B s c) else 0) ?_ ?_)).congr
      fun t ht s hs => ?_
    · exact hq.qpart hb 128 128 (by decide) (by decide)
    · refine Re.trunc _ ?_
      refine Re.pair (R := 256) (C := 128) (A := 128) (B := 128) rfl ?_ ?_
      · refine (hk.kpart hb 128 0 _ _).congr fun t ht c _ => ?_
        rw [if_pos ht, Nat.zero_add, Nat.zero_add]
      · refine Re.zer.congr fun t ht c _ => ?_
        rw [if_neg (by omega)]
    · unfold Sc
      have e1 : (128 + t) / 128 = 1 := by omega
      have e2 : (128 + t) / 256 = 0 := by omega
      rw [e1, e2]
      by_cases h : s < 128
      · rw [if_neg (by omega), if_pos (Or.inr (by omega)), zero_add]
        unfold D
        refine Finset.sum_congr rfl fun c _ => ?_
        rw [if_pos h, ← two_mul_pow (B (128 + t) c) (B 127 c) (B s c)]
        ring
      · simp only [if_neg h, mul_zero, Finset.sum_const_zero, add_zero]
        congr 1
        have : s / 128 = 1 := by omega
        rw [this]; simp

theorem cmpi_eq_iff (a b : BitVec 32) : Scalar.cmpi .eq a b = 1#1 ↔ a = b := by
  by_cases h : a = b
  · subst h; simp [Scalar.cmpi, IntOp.cmpi]
  · have h' : (a == b) = false := by simpa using h
    simp [Scalar.cmpi, IntOp.cmpi, h, h']

theorem Re.diag (hq : Re q Q) (hk : Re k K) : Re (Hg.diag q k) (Sc (D Q K B) 256) := by
  unfold Hg.diag
  refine (Re.sel (P := fun t s => t = s) (Re.dotT (φ₁ := .bf16) (φ₂ := .bf16) (X := Q) (Y := K) hq hk) Re.zer fun t s => ?_).congr fun t ht s hs => ?_
  · show Scalar.cmpi .eq (BitVec.ofNat 32 (0 * 256 + t.val)) (BitVec.ofNat 32 (0 * 256 + s.val)) = 1#1 ↔ _
    rw [cmpi_eq_iff]
    constructor
    · intro h
      have := congrArg BitVec.toNat h
      simp only [BitVec.toNat_ofNat] at this
      omega
    · intro h; rw [h]
  · unfold Sc
    by_cases h : t = s
    · subst h
      rw [if_pos rfl, if_pos (Or.inl rfl)]
      unfold D
      simp
    · rw [if_neg h, if_neg (by omega)]

/-- A choice of rows: those in the odd blocks of `H`. -/
def Odd (p : IVec S256x128 1) (H : ℕ) : Prop := ∀ (t : Fin 256) (j : Fin 128), p (ix2 t j) = 1#1 ↔ t.val / H % 2 = 1

theorem Re.tiny {w : FVec Ideal S256x128 .f32} {W : ℕ → ℕ → ℝ} (hq : Re q Q) (hk : Re k K) (hw : Re w W) (H : ℕ) (m : BitVec 32) (hm : Mask m (H * 2))
    (p : IVec S256x128 1) (hp : Odd p H)
    (hW : ∀ t < 256, ∀ s < 256, ∀ c < 128, t / (H * 2) = s / (H * 2) → t / H % 2 = 1 → s / H % 2 = 0 → W t c * W s c = (2 : ℝ) ^ (B t c - B s c))
    (ho : Re old (Sc (D Q K B) (H * 2))) : Re (Hg.tiny m p w q k old) (Sc (D Q K B) H) := by
  unfold Hg.tiny
  refine (ho.add (Re.sel (P := fun t s => t / (H * 2) = s / (H * 2)) (Re.dotT (φ₁ := .bf16) (φ₂ := .bf16)
      (X := fun t c => if t / H % 2 = 1 then Q t c * W t c else 0) (Y := fun t c => if t / H % 2 = 1 then 0 else K t c * W t c)
      (Re.sel (P := fun t _ => t / H % 2 = 1) (hq.mul hw) Re.zer hp) (Re.sel (P := fun t _ => t / H % 2 = 1) Re.zer (hk.mul hw) hp)) Re.zer hm)).congr
    fun t ht s hs => ?_
  unfold Sc
  by_cases he : t / (H * 2) = s / (H * 2)
  · rw [if_pos he]
    by_cases h1 : t / H % 2 = 1 ∧ s / H % 2 = 0
    · have e1 := he
      rw [← Nat.div_div_eq_div_mul, ← Nat.div_div_eq_div_mul] at e1
      rw [if_neg (by rintro (e | e); · subst e; omega
                     · omega), if_pos (Or.inr (by omega)), zero_add]
      unfold D
      refine Finset.sum_congr rfl fun c _ => ?_
      rw [if_pos h1.1, if_neg (by omega), ← hW t ht s hs c c.isLt he h1.1 h1.2]
      ring
    · rw [Finset.sum_eq_zero fun c _ => ?_, add_zero]
      · congr 1
        rw [← Nat.div_div_eq_div_mul, ← Nat.div_div_eq_div_mul] at he ⊢
        have : s / H / 2 < t / H / 2 ↔ s / H < t / H := by omega
        rw [this]
      · by_cases h2 : t / H % 2 = 1
        · rw [if_pos (show s / H % 2 = 1 by omega), mul_zero]
        · rw [if_neg h2, zero_mul]
  · rw [if_neg he, add_zero]
    congr 1
    rw [← Nat.div_div_eq_div_mul, ← Nat.div_div_eq_div_mul] at he ⊢
    have : s / H / 2 < t / H / 2 ↔ s / H < t / H := by omega
    rw [this]

end Hg
-- ==== Proof.ScoresAll.lean ====
/-
  All levels of a chunk's scores together: every causal pair with its decay.
-/
module

public import proofs.«01_k».proof.Proof.Scores

@[expose] public section

noncomputable section

namespace Hg

open Idealize.ShloMosaic Cert.MixIdeal Cert.MixIdeal.Facts₀

theorem mask_of (m : BitVec 32) (H2 : ℕ) (h : ∀ t : Fin 256, (BitVec.ofNat 32 (0 * 256 + t.val) &&& m) = BitVec.ofNat 32 (t.val / H2 * H2)) (h0 : 0 < H2) : Mask m H2 := fun t s => by
  show Scalar.cmpi .eq (BitVec.ofNat 32 (0 * 256 + t.val) &&& m) (BitVec.ofNat 32 (0 * 256 + s.val) &&& m) = 1#1 ↔ _
  rw [cmpi_eq_iff, h, h]
  constructor
  · intro e
    have := congrArg BitVec.toNat e
    simp only [BitVec.toNat_ofNat] at this
    have ht := Nat.div_mul_le_self t.val H2
    have hs := Nat.div_mul_le_self s.val H2
    rw [Nat.mod_eq_of_lt (by omega), Nat.mod_eq_of_lt (by omega)] at this
    exact Nat.eq_of_mul_eq_mul_right h0 this
  · intro e; rw [e]

theorem mask128 : Mask 4294967168#32 (64 * 2) := mask_of _ _ (by decide +kernel) (by decide)
theorem mask64 : Mask 4294967232#32 (32 * 2) := mask_of _ _ (by decide +kernel) (by decide)
theorem mask32 : Mask 4294967264#32 (16 * 2) := mask_of _ _ (by decide +kernel) (by decide)
theorem mask16 : Mask 4294967280#32 (8 * 2) := mask_of _ _ (by decide +kernel) (by decide)
theorem mask8 : Mask 4294967288#32 (4 * 2) := mask_of _ _ (by decide +kernel) (by decide)
theorem mask4 : Mask 4294967292#32 (2 * 2) := mask_of _ _ (by decide +kernel) (by decide)
theorem mask2 : Mask 4294967294#32 (1 * 2) := mask_of _ _ (by decide +kernel) (by decide)

theorem odd4 : Odd (chosen 7#32 4#32) 4 := fun t _ =>
  (by decide +kernel : ∀ t : Fin 256, Scalar.cmpi .sge (BitVec.ofNat 32 (0 * 256 + t.val) &&& 7#32) 4#32 = 1#1 ↔ t.val / 4 % 2 = 1) t
theorem odd2 : Odd (chosen 3#32 2#32) 2 := fun t _ =>
  (by decide +kernel : ∀ t : Fin 256, Scalar.cmpi .sge (BitVec.ofNat 32 (0 * 256 + t.val) &&& 3#32) 2#32 = 1#1 ↔ t.val / 2 % 2 = 1) t
theorem odd1 : Odd (chosen 1#32 1#32) 1 := fun t _ =>
  (by decide +kernel : ∀ t : Fin 256, Scalar.cmpi .sge (BitVec.ofNat 32 (0 * 256 + t.val) &&& 1#32) 1#32 = 1#1 ↔ t.val / 1 % 2 = 1) t

variable {q k l b : FVec Ideal S256x128 .f32} {Q K L B : ℕ → ℕ → ℝ}

theorem Re.big (hq : Re q Q) (hk : Re k K) (hb : Re b B) : Re (Hg.big q k b) (Sc (D Q K B) 8) :=
  hq.lvl hk hb 8 16 _ _ _ _ mask16 (hq.lvl hk hb 16 8 _ _ _ _ mask32 (hq.lvl hk hb 32 4 _ _ _ _ mask64 (hq.lvl hk hb 64 2 _ _ _ _ mask128
    (hq.top hk hb (hq.diag hk)))))

theorem rm2 (t : Fin 256) (j : Fin 128) : ((S256x128).rowMajor (ix2 t j)).val = t.val * 128 + j.val :=
  rowMajor_val2 (ix2 t j) 128 rfl
theorem rm3 (a : Fin 32) (e : Fin 8) (j : Fin 128) : ((S32x8x128).rowMajor (ix3 a e j)).val = (a.val * 8 + e.val) * 128 + j.val :=
  (rowMajor_val3 (ix3 a e j) 1024 128 rfl rfl).trans (by show a.val * 1024 + e.val * 128 + j.val = _; ring)

theorem eight_at (b : FVec Ideal S256x128 .f32) (t : Fin 256) (j : Fin 128) (r : Fin 8) (h : S32x8x128.Slices ![0, r.val, 0] S32x1x128) (a : Fin 32) (e : Fin 8) (ha : a.val * 8 + e.val = t.val) :
    shapeCast S256x128 (broadcastTo S32x8x128 (shapeCast S32x1x128
      (extractStridedSlice S32x1x128 ![0, r.val, 0] (shapeCast S32x8x128 b shapeCasts_S256x128_S32x8x128) h)
      shapeCasts_S32x1x128_S32x1x128) broadcasts_S32x1x128_S32x8x128) shapeCasts_S32x8x128_S256x128 (ix2 t j) = b (ix2 ⟨a.val * 8 + r.val, by omega⟩ j) := by
  rw [shapeCast_apply _ _ (ix2 t j) (ix3 a e j) (by
    refine (rm3 a e j).trans ((congrArg (· * 128 + j.val) ha).trans (rm2 t j).symm))]
  rw [broadcastTo_apply _ _ (ix3 a e j) (ix3 a 0 j) (fun x => by
    match x with
    | ⟨0, _⟩ => rfl
    | ⟨1, _⟩ => rfl
    | ⟨2, _⟩ => rfl)]
  rw [shapeCast_self]
  rw [extractStridedSlice_apply _ _ _ (ix3 a 0 j) (ix3 a r j) (fun x => by
    match x with
    | ⟨0, _⟩ => exact (Nat.zero_add _).symm
    | ⟨1, _⟩ => rfl
    | ⟨2, _⟩ => exact (Nat.zero_add _).symm)]
  exact shapeCast_apply _ _ (ix3 a r j) (ix2 ⟨a.val * 8 + r.val, by omega⟩ j) (by
    exact (rm2 _ _).trans (rm3 a r j).symm)

theorem Re.mid4 (hb : Re b B) : Re (Hg.mid4 b) (fun t c => B (t / 8 * 8 + 3) c) := fun t j => by
  have h := eight_at b t j 3 slices_S32x8x128_o0_3_0_S32x1x128 ⟨t.val / 8, by omega⟩ ⟨t.val % 8, by omega⟩ (Nat.div_add_mod' t.val 8)
  exact h.trans (hb _ j)

theorem Re.mid2 (hb : Re b B) : Re (Hg.mid2 b) (fun t c => B (t / 4 * 4 + 1) c) := fun t j => by
  have h5 := eight_at b t j 5 slices_S32x8x128_o0_5_0_S32x1x128 ⟨t.val / 8, by omega⟩ ⟨t.val % 8, by omega⟩ (Nat.div_add_mod' t.val 8)
  have h1 := eight_at b t j 1 slices_S32x8x128_o0_1_0_S32x1x128 ⟨t.val / 8, by omega⟩ ⟨t.val % 8, by omega⟩ (Nat.div_add_mod' t.val 8)
  have hs : ∀ (p : IVec S32x8x128 1) (x y : FVec Ideal S32x8x128 .f32), shapeCast S256x128 (select p x y) shapeCasts_S32x8x128_S256x128 (ix2 t j)
      = if p (ix3 ⟨t.val / 8, by omega⟩ ⟨t.val % 8, by omega⟩ j) = 1#1 then shapeCast S256x128 x shapeCasts_S32x8x128_S256x128 (ix2 t j)
        else shapeCast S256x128 y shapeCasts_S32x8x128_S256x128 (ix2 t j) := fun p x y => by
    have e : ∀ z : FVec Ideal S32x8x128 .f32, shapeCast S256x128 z shapeCasts_S32x8x128_S256x128 (ix2 t j) = z (ix3 ⟨t.val / 8, by omega⟩ ⟨t.val % 8, by omega⟩ j) := fun z =>
      shapeCast_apply _ _ (ix2 t j) (ix3 ⟨t.val / 8, by omega⟩ ⟨t.val % 8, by omega⟩ j) (by
        refine (rm3 _ _ j).trans ((congrArg (· * 128 + j.val) (Nat.div_add_mod' t.val 8)).trans (rm2 t j).symm))
    rw [e, e, e]; rfl
  refine (hs _ _ _).trans ?_
  have hp : ∀ e : Fin 8, (Scalar.cmpi .sge (BitVec.ofNat 32 (0 * 8 + e.val)) 4#32 = 1#1) ↔ 4 ≤ e.val := by decide
  split
  · rename_i h
    have := (hp ⟨t.val % 8, by omega⟩).1 h
    refine h5.trans ((hb _ j).trans ?_)
    congr 2
    show t.val / 8 * 8 + 5 = _
    simp only at this
    omega
  · rename_i h
    have : ¬ 4 ≤ t.val % 8 := fun x => h ((hp ⟨t.val % 8, Nat.mod_lt _ (by decide)⟩).2 x)
    refine h1.trans ((hb _ j).trans ?_)
    congr 2
    show t.val / 8 * 8 + 1 = _
    omega

theorem Re.near {m : FVec Ideal S256x128 .f32} {M : ℕ → ℕ → ℝ} (hb : Re b B) (hm : Re m M) : Re (Hg.near b m) (fun t c => (2 : ℝ) ^ (0 - |B t c - M t c|)) :=
  (Re.zer.sub (hb.sub hm).abs).exp2

theorem near_mul (x m y : ℝ) (h1 : x ≤ m) (h2 : m ≤ y) : (2 : ℝ) ^ (0 - |x - m|) * (2 : ℝ) ^ (0 - |y - m|) = (2 : ℝ) ^ (x - y) := by
  rw [← Real.rpow_add two_pos, abs_of_nonpos (sub_nonpos.2 h1), abs_of_nonneg (sub_nonneg.2 h2)]
  congr 1; ring

theorem pre_anti (L : ℕ → ℕ → ℝ) (hL : ∀ t c, L t c ≤ 0) (s t c : ℕ) (h : s ≤ t) : pre L t c ≤ pre L s c := by
  obtain ⟨d, rfl⟩ := Nat.exists_eq_add_of_le h
  unfold pre
  rw [show s + d + 1 = s + 1 + d by omega, Finset.sum_range_add]
  have : ∑ x ∈ Finset.range d, L (s + 1 + x) c ≤ 0 := Finset.sum_nonpos fun _ _ => hL _ _
  linarith

/-- The kernel's scores are all causal pairs with their decay. -/
theorem Re.scores (hq : Re q Q) (hk : Re k K) (hl : Re l L) (hL : ∀ t c, L t c ≤ 0) (hb : Re b (pre L)) :
    Re (Hg.scores q k l b) (fun t s => if s ≤ t then D Q K (pre L) t s else 0) := by
  have h3 : Re (Hg.big q k b) (Sc (D Q K (pre L)) (4 * 2)) := hq.big hk hb
  have h2 : Re _ (Sc (D Q K (pre L)) (2 * 2)) := hq.tiny hk (hb.near hb.mid4) 4 _ mask8 _ odd4 (fun t _ s _ c _ e o1 o2 => by
    have e' : s / 8 * 8 + 3 = t / 8 * 8 + 3 := by omega
    rw [e']
    exact near_mul _ _ _ (pre_anti L hL _ _ _ (by omega)) (pre_anti L hL _ _ _ (by omega))) h3
  have h1 : Re _ (Sc (D Q K (pre L)) (1 * 2)) := hq.tiny hk (hb.near hb.mid2) 2 _ mask4 _ odd2 (fun t _ s _ c _ e o1 o2 => by
    have e' : s / 4 * 4 + 1 = t / 4 * 4 + 1 := by omega
    rw [e']
    exact near_mul _ _ _ (pre_anti L hL _ _ _ (by omega)) (pre_anti L hL _ _ _ (by omega))) h2
  have h0 : Re (Hg.scores q k l b) (Sc (D Q K (pre L)) 1) := hq.tiny hk (Re.sel (P := fun t _ => t / 1 % 2 = 1) hl Re.zer odd1).exp2 1 _ mask2 _ odd1
    (fun t _ s _ c _ e o1 o2 => by
      rw [if_pos o1, if_neg (by omega), ← Real.rpow_add two_pos, add_zero]
      obtain rfl : t = s + 1 := by omega
      congr 1
      unfold pre
      rw [Finset.sum_range_succ _ (s + 1)]
      ring) h1
  refine h0.congr fun t _ s _ => ?_
  unfold Sc
  congr 1
  rw [Nat.div_one, Nat.div_one]
  exact propext (by omega)

end Hg
-- ==== Proof.Chunk.lean ====
/-
  The recurrence token by token, and what a chunk of tokens does to it.
-/
module

public import Idealize.ShloMosaic.PureOps.Ideal.Laws

@[expose] public section

noncomputable section

namespace Hg

/-- The state of one head after `n` tokens: forget gate `exp (l n c)`, input gate `k n c`, value `v n j`. -/
def tok (l k v : ℕ → ℕ → ℝ) (c j : ℕ) : ℕ → ℝ
  | 0 => 0
  | n + 1 => Real.exp (l n c) * tok l k v c j n + k n c * v n j

/-- The output of token `n`: its query against the state that includes it. -/
def tokOut (q l k v : ℕ → ℕ → ℝ) (n j : ℕ) : ℝ := ∑ c : Fin 128, q n c * tok l k v c j (n + 1)

/-- The running logarithm of the forget gates from token `n0`. -/
def run (l : ℕ → ℕ → ℝ) (n0 t c : ℕ) : ℝ := ∑ s ∈ Finset.range (t + 1), l (n0 + s) c

theorem tok_chunk (l k v : ℕ → ℕ → ℝ) (c j n0 : ℕ) : ∀ t, tok l k v c j (n0 + t + 1) =
    Real.exp (run l n0 t c) * tok l k v c j n0 + ∑ s ∈ Finset.range (t + 1), Real.exp (run l n0 t c - run l n0 s c) * (k (n0 + s) c * v (n0 + s) j)
  | 0 => by simp [tok, run]
  | t + 1 => by
    have e : run l n0 (t + 1) c = l (n0 + t + 1) c + run l n0 t c := by
      unfold run; rw [Finset.sum_range_succ, add_comm]; rfl
    show Real.exp (l (n0 + t + 1) c) * tok l k v c j (n0 + t + 1) + k (n0 + t + 1) c * v (n0 + t + 1) j = _
    rw [tok_chunk l k v c j n0 t, Finset.sum_range_succ (n := t + 1), sub_self, Real.exp_zero, one_mul, e, Real.exp_add, mul_add, Finset.mul_sum, ← mul_assoc, add_assoc]
    congr 2
    refine Finset.sum_congr rfl fun s _ => ?_
    rw [add_sub_assoc, Real.exp_add, mul_assoc]

/-- A chunk of `N` tokens: the scores of the causal pairs and the state before it give the outputs. -/
theorem chunk_out (q l k v : ℕ → ℕ → ℝ) (n0 N t j : ℕ) (ht : t < N) :
    (∑ s : Fin N, (if s.val ≤ t then ∑ c : Fin 128, q (n0 + t) c * k (n0 + s.val) c * Real.exp (run l n0 t c - run l n0 s.val c) else 0) * v (n0 + s.val) j)
      + ∑ c : Fin 128, q (n0 + t) c * Real.exp (run l n0 t c) * tok l k v c j n0 = tokOut q l k v (n0 + t) j := by
  unfold tokOut
  simp only [tok_chunk, mul_add, Finset.sum_add_distrib]
  rw [add_comm]
  congr 1
  · exact Finset.sum_congr rfl fun c _ => by ring
  · rw [Fin.sum_univ_eq_sum_range (fun s => (if s ≤ t then ∑ c : Fin 128, q (n0 + t) c * k (n0 + s) c * Real.exp (run l n0 t c - run l n0 s c) else 0) * v (n0 + s) j) N]
    obtain ⟨d, rfl⟩ : ∃ d, N = t + 1 + d := ⟨N - (t + 1), by omega⟩
    rw [Finset.sum_range_add]
    have z : ∑ x ∈ Finset.range d, (if t + 1 + x ≤ t then ∑ c : Fin 128, q (n0 + t) c * k (n0 + (t + 1 + x)) c * Real.exp (run l n0 t c - run l n0 (t + 1 + x) c) else 0)
        * v (n0 + (t + 1 + x)) j = 0 := Finset.sum_eq_zero fun x _ => by rw [if_neg (by omega), zero_mul]
    rw [z, add_zero]
    simp only [Finset.mul_sum]
    rw [Finset.sum_comm]
    refine Finset.sum_congr rfl fun s hs => ?_
    rw [if_pos (by have := Finset.mem_range.1 hs; omega), Finset.sum_mul]
    exact Finset.sum_congr rfl fun c _ => by ring

/-- A chunk of `N` tokens: the state after it. -/
theorem chunk_state (l k v : ℕ → ℕ → ℝ) (n0 N c j : ℕ) (hN : 0 < N) :
    Real.exp (run l n0 (N - 1) c) * tok l k v c j n0
      + ∑ s : Fin N, k (n0 + s.val) c * Real.exp (run l n0 (N - 1) c - run l n0 s.val c) * v (n0 + s.val) j = tok l k v c j (n0 + N) := by
  obtain ⟨M, rfl⟩ : ∃ M, N = M + 1 := ⟨N - 1, by omega⟩
  rw [Nat.add_sub_cancel, ← Nat.add_assoc, tok_chunk, Fin.sum_univ_eq_sum_range (fun s => k (n0 + s) c * Real.exp (run l n0 M c - run l n0 s c) * v (n0 + s) j) (M + 1)]
  congr 1
  exact Finset.sum_congr rfl fun s _ => by ring

/-! ## The gates -/

/-- The sigmoid. -/
def sg (x : ℝ) : ℝ := (1 + Real.exp (-x))⁻¹
/-- The logarithm of the forget gate with lower bound `a`. -/
def lgf (a x : ℝ) : ℝ := Real.log (a + (1 - a) * sg x)
/-- The input gate with lower bound `a`. -/
def kgf (a x : ℝ) : ℝ := (1 - a) * sg (-x)

theorem sg_pos (x : ℝ) : 0 < sg x := inv_pos.2 (by have := Real.exp_pos (-x); linarith)
theorem sg_lt_one (x : ℝ) : sg x < 1 := inv_lt_one_of_one_lt₀ (by have := Real.exp_pos (-x); linarith)
theorem exp_neg_mul_sg (x : ℝ) : Real.exp (-x) * sg x = sg (-x) := by
  unfold sg
  rw [neg_neg, Real.exp_neg]
  have := Real.exp_pos x
  field_simp
  ring
theorem gate_pos (a x : ℝ) (h0 : 0 < a) (h1 : a < 1) : 0 < a + (1 - a) * sg x := by
  have := mul_pos (sub_pos.2 h1) (sg_pos x); linarith
theorem lgf_nonpos (a x : ℝ) (h0 : 0 < a) (h1 : a < 1) : lgf a x ≤ 0 := by
  refine Real.log_nonpos (gate_pos a x h0 h1).le ?_
  have := mul_le_mul_of_nonneg_left (sg_lt_one x).le (sub_pos.2 h1).le
  linarith

end Hg
-- ==== Proof.Head.lean ====
/-
  One head's chunk on the ideal numbers: the outputs and the state are those of the recurrence token by token.
-/
module

public import proofs.«01_k».proof.Proof.ScoresAll
public import proofs.«01_k».proof.Proof.Chunk

@[expose] public section

noncomputable section

namespace Hg

open Idealize.ShloMosaic Cert.MixIdeal Cert.MixIdeal.Facts₀

theorem ideal_div (x y : ℝ) (h : y ≠ 0) : Ideal.div (x : EReal) (y : EReal) = ((x * y⁻¹ : ℝ) : EReal) := by
  unfold Ideal.div
  rw [if_neg (by exact_mod_cast h), EReal.coe_mul, EReal.coe_inv]

theorem two_pow_div (x : ℝ) : (2 : ℝ) ^ (x * (Real.log 2)⁻¹) = Real.exp x := by
  have : Real.log 2 ≠ 0 := (Real.log_pos one_lt_two).ne'
  rw [Real.rpow_def_of_pos two_pos]
  congr 1; field_simp

theorem log_two_lower : (87 / 126 : ℝ) ≤ Real.log 2 := by
  rw [Real.le_log_iff_exp_le two_pos]
  refine (Real.exp_bound' (by norm_num) (by norm_num) (n := 6) (by decide)).trans ?_
  simp only [Finset.sum_range_succ, Finset.sum_range_zero, Nat.factorial]
  norm_num

section gates
variable {f : FVec Ideal S256x128 .f32} {lb : FVec Ideal S1x128 .f32} {Fp : ℕ → ℕ → ℝ} {Lb : ℕ → ℝ}

theorem Re.gE (hf : Re f Fp) (h87 : ∀ t c, -87 ≤ Fp t c) : Re (Hg.gE f) (fun t c => Real.exp (-Fp t c)) := fun t c => by
  show Ideal.exp2 (min (f (ix2 t c) * ((-((Real.log 2)⁻¹) : ℝ) : EReal)) (Ideal.ofBits .f32 0x42FC0000#32)) = _
  have e : Ideal.ofBits .f32 0x42FC0000#32 = ((126 : ℝ) : EReal) := by
    simp [Ideal.ofBits, Ideal.ieee, -EReal.coe_mul]; norm_num
  rw [hf, e, ← EReal.coe_mul, min_eq_left]
  · show (((2 : ℝ) ^ (Fp t c * -(Real.log 2)⁻¹) : ℝ) : EReal) = _
    rw [mul_neg, ← neg_mul, two_pow_div]
  · rw [EReal.coe_le_coe_iff]
    have h2 := log_two_lower
    have hp : 0 < Real.log 2 := Real.log_pos one_lt_two
    rw [mul_neg, ← neg_mul, ← div_eq_mul_inv, div_le_iff₀ hp]
    have := h87 t c
    nlinarith

theorem Re.gS (hf : Re f Fp) (h87 : ∀ t c, -87 ≤ Fp t c) : Re (Hg.gS f) (fun t c => sg (Fp t c)) := fun t c => by
  show Ideal.div (Hg.one (F := Ideal) S256x128 (ix2 t c)) (Hg.one (F := Ideal) S256x128 (ix2 t c) + Hg.gE f (ix2 t c)) = _
  rw [hf.gE h87, Re.one (R := 256) (C := 128) t c, ← EReal.coe_add, ideal_div _ _ (by have := Real.exp_pos (-Fp t c); positivity), one_mul]; rfl

theorem Re.oml (hl : Re lb (fun _ c => Lb c)) : Re (Hg.over 256 (subf (Hg.one S1x128) lb)) (fun _ c => 1 - Lb c) :=
  (Re.one.sub hl).over 256

theorem Re.gK (hf : Re f Fp) (h87 : ∀ t c, -87 ≤ Fp t c) (hl : Re lb (fun _ c => Lb c)) : Re (Hg.gK f lb) (fun t c => kgf (Lb c) (Fp t c)) :=
  (hl.oml.mul ((hf.gE h87).mul (hf.gS h87))).congr fun t _ c _ => by
    rw [exp_neg_mul_sg]; rfl

theorem Re.gL (hf : Re f Fp) (h87 : ∀ t c, -87 ≤ Fp t c) (hl : Re lb (fun _ c => Lb c)) (h0 : ∀ c < 128, 0 < Lb c) (h1 : ∀ c < 128, Lb c < 1) :
    Re (Hg.gL f lb) (fun t c => lgf (Lb c) (Fp t c) * (Real.log 2)⁻¹) := fun t c => by
  have hx : Re (addf (Hg.over 256 lb) (mulf (Hg.over 256 (subf (Hg.one S1x128) lb)) (Hg.gS f))) (fun t c => Lb c + (1 - Lb c) * sg (Fp t c)) :=
    (hl.over 256).add (hl.oml.mul (hf.gS h87))
  show Ideal.log (addf (Hg.over 256 lb) (mulf (Hg.over 256 (subf (Hg.one S1x128) lb)) (Hg.gS f)) (ix2 t c)) * (((Real.log 2)⁻¹ : ℝ) : EReal) = _
  rw [hx t c, EReal.coe_mul]
  congr 1
  show (if _ ≤ (0 : ℝ) then (⊥ : EReal) else _) = _
  rw [if_neg (not_le.2 (gate_pos _ _ (h0 c c.isLt) (h1 c c.isLt)))]; rfl

end gates

theorem Re.gV {i : FVec Ideal S256x128 .f32} {V : ℕ → ℕ → ℝ} (hi : Re i V) : Re (Hg.gV i) V := hi

theorem dot_state_at (x y : FVec Ideal S256x128 .bf16) (j c : Fin 128) :
    matmul dot_S256x128_S256x128_S128x128_0_0_1_1_n_n none x y (constant (F := Ideal) S128x128 .f32 0x00000000#32) (ix2 j c)
      = ∑ s : Fin 256, x (ix2 s j) * y (ix2 s c) := by
  pointwise

theorem Re.dotState {v y : FVec Ideal S256x128 .bf16} {V Y : ℕ → ℕ → ℝ} (hv : Re v V) (hy : Re y Y) :
    Re (φ := .f32) (matmul dot_S256x128_S256x128_S128x128_0_0_1_1_n_n none v y (constant (F := Ideal) S128x128 .f32 0x00000000#32))
      (fun j c => ∑ s : Fin 256, V s j * Y s c) := fun j c =>
  (dot_state_at v y j c).trans ((Finset.sum_congr rfl fun s _ => congrArg₂ (· * ·) (hv s j) (hy s c)).trans (Re.coe_dot (fun s => V s j.val) (fun s => Y s c.val)))

/-- The data of one head over all tokens. -/
structure HeadData where
  /-- The queries. -/
  q : ℕ → ℕ → ℝ
  /-- The forget projections. -/
  f : ℕ → ℕ → ℝ
  /-- The values. -/
  v : ℕ → ℕ → ℝ
  /-- The lower bounds. -/
  a : ℕ → ℝ

namespace HeadData
variable (h : HeadData)
/-- The logarithm of the forget gate. -/
def l (n c : ℕ) : ℝ := lgf (h.a c) (h.f n c)
/-- The input gate. -/
def k (n c : ℕ) : ℝ := kgf (h.a c) (h.f n c)
/-- The state after `n` tokens. -/
def st (n c j : ℕ) : ℝ := tok h.l h.k h.v c j n
/-- The output of token `n`. -/
def out (n j : ℕ) : ℝ := tokOut h.q h.l h.k h.v n j
/-- What the gates need. -/
def Good : Prop := (∀ n c, -87 ≤ h.f n c) ∧ (∀ c, 0 < h.a c) ∧ ∀ c, h.a c < 1
end HeadData

theorem pre_run (l : ℕ → ℕ → ℝ) (n0 t c : ℕ) : pre (fun t c => l (n0 + t) c * (Real.log 2)⁻¹) t c = run l n0 t c * (Real.log 2)⁻¹ := by
  unfold pre run
  rw [Finset.sum_mul]

section unit
variable (H : HeadData) (hG : H.Good) (n0 : ℕ) {q f i : FVec Ideal S256x128 .f32} {lb : FVec Ideal S1x128 .f32} {st : FVec Ideal S128x128 .f32}
include hG

theorem unitS_re (hf : Re f (fun t c => H.f (n0 + t) c)) (hi : Re i (fun t c => H.v (n0 + t) c)) (hl : Re lb (fun _ c => H.a c))
    (hst : Re st (fun j c => H.st n0 c j)) : Re (unitS f i lb st) (fun j c => H.st (n0 + 256) c j) := by
  have hk := hf.gK (fun _ _ => hG.1 _ _) hl
  have hb := (hf.gL (fun _ _ => hG.1 _ _) hl (fun _ _ => hG.2.1 _) (fun _ _ => hG.2.2 _)).psum
  have h1 : Re (mulf st (Hg.over 128 (exp2 (Hg.rows 255 1 (by decide) (Hg.psum (Hg.gL f lb)))))) _ := hst.mul ((hb.rows 255 1 (by decide)).exp2.over 128)
  have h2 := hk.mul (((hb.rows 255 1 (by decide)).over 256).sub hb).exp2
  have h3 : Re (φ := .f32) (matmul dot_S256x128_S256x128_S128x128_0_0_1_1_n_n none (gV i)
      (truncf .bf16 (mulf (gK f lb) (exp2 (subf (Hg.over 256 (Hg.rows 255 1 (by decide) (Hg.psum (Hg.gL f lb)))) (Hg.psum (Hg.gL f lb))))) bitsLt_bf16_f32)
      (constant S128x128 .f32 0x00000000#32)) _ := Re.dotState (v := gV i) (Re.gV hi) (h2.trunc bitsLt_bf16_f32)
  refine (h1.add h3).congr fun j _ c _ => ?_
  unfold HeadData.st
  rw [← chunk_state H.l H.k H.v n0 256 c j (by decide)]
  have e : ∀ t, pre (fun t c => lgf (H.a c) (H.f (n0 + t) c) * (Real.log 2)⁻¹) t c = run H.l n0 t c * (Real.log 2)⁻¹ := fun t => pre_run H.l n0 t c
  simp only [e, ← sub_mul, two_pow_div]
  rw [mul_comm]
  congr 1
  refine Finset.sum_congr rfl fun s _ => ?_
  show H.v (n0 + s) j * (H.k (n0 + s) c * _) = _
  rw [mul_comm]

theorem readout_re (hq : Re q (fun t c => H.q (n0 + t) c)) (hf : Re f (fun t c => H.f (n0 + t) c)) (hi : Re i (fun t c => H.v (n0 + t) c)) (hl : Re lb (fun _ c => H.a c))
    (hst : Re st (fun j c => H.st n0 c j)) :
    Re (readout (Hg.scores q (gK f lb) (gL f lb) (gB f lb)) q (gB f lb) (gV i) st) (fun t j => H.out (n0 + t) j) := by
  have hk := hf.gK (fun _ _ => hG.1 _ _) hl
  have hL := hf.gL (fun _ _ => hG.1 _ _) hl (fun _ _ => hG.2.1 _) (fun _ _ => hG.2.2 _)
  have hb : Re (gB f lb) _ := hL.psum
  have hneg : ∀ t c, (fun t c => lgf (H.a c) (H.f (n0 + t) c) * (Real.log 2)⁻¹) t c ≤ 0 := fun t c =>
    mul_nonpos_of_nonpos_of_nonneg (lgf_nonpos _ _ (hG.2.1 c) (hG.2.2 c)) (inv_nonneg.2 (Real.log_pos one_lt_two).le)
  have hs := hq.scores hk hL hneg hb
  have h1 := Re.dot (φ₁ := .bf16) (φ₂ := .bf16) (x := truncf .bf16 (Hg.scores q (gK f lb) (gL f lb) (gB f lb)) bitsLt_bf16_f32) (y := gV i) (hs.trunc _) (Re.gV hi)
  have h2 := Re.dotT (φ₁ := .bf16) (φ₂ := .bf16) (x := truncf .bf16 (mulf q (exp2 (gB f lb))) bitsLt_bf16_f32) (y := truncf .bf16 st bitsLt_bf16_f32) ((hq.mul hb.exp2).trunc _) (hst.trunc _)
  refine (h1.add h2).congr fun t ht j _ => ?_
  unfold HeadData.out
  rw [← chunk_out H.q H.l H.k H.v n0 256 t j ht]
  have e : ∀ t c, pre (fun t c => lgf (H.a c) (H.f (n0 + t) c) * (Real.log 2)⁻¹) t c = run H.l n0 t c * (Real.log 2)⁻¹ := fun t c => pre_run H.l n0 t c
  unfold D
  simp only [e, ← sub_mul, two_pow_div]
  rfl

end unit

end Hg
-- ==== Proof.States.lean ====
/-
  What the two carried scratches hold after a grid point, unit by unit.
-/
module

public import proofs.«01_k».proof.Proof.Tie
public import proofs.«01_k».proof.Proof.Head

@[expose] public section

noncomputable section

namespace Hg

open Idealize.ShloMosaic Idealize.SL.Sem Cert.MixIdeal Cert.MixIdeal.Gen

/-! ## The gated row -/

/-- One head's output row: normed, weighted, gated. -/
def gateE (o g w : Fin 128 → EReal) (j : Fin 128) : EReal :=
  o j * Ideal.rsqrt (Ideal.div (∑ k, o k * o k) (Ideal.ofBits FTy.f32 0x43000000#32) + Ideal.ofBits FTy.f32 0x358637BD#32) * w j * (g j * Ideal.logistic (g j))

theorem gated_at (o g : FVec Ideal S256x128 .f32) (wn : FVec Ideal S1x128 .f32) (t : Fin 256) (j : Fin 128) :
    gated o g wn (ix2 t j) = gateE (fun j => o (ix2 t j)) (fun j => g (ix2 t j)) (fun j => wn (ix2 0 j)) j := by
  unfold gated gateE over
  pointwise

/-! ## The pieces -/

theorem rS_off {h h' : Fin 4} (hne : h ≠ h') (x : (rS h).shape.Idx) : (rS h).emb x ∉ (rS h').set := fun hm => by
  obtain ⟨y, hy⟩ := (rS h').exists_idx_of_mem hm
  have e := congrArg Fin.val (congrFun hy 0)
  have e' : h'.val + 1 * (y 0).val = h.val + 1 * (x 0).val := e
  have hx : (x 0).val < 1 := (x 0).isLt
  have hy' : (y 0).val < 1 := (y 0).isLt
  exact hne (Fin.ext (by omega))

theorem rB_off {rb rb' : Fin 2} {h h' : Fin 4} (hne : rb ≠ rb' ∨ h ≠ h') (x : (rB rb h).shape.Idx) : (rB rb h).emb x ∉ (rB rb' h').set := fun hm => by
  obtain ⟨y, hy⟩ := (rB rb' h').exists_idx_of_mem hm
  have e0 : 256 * rb'.val + 1 * (y 0).val = 256 * rb.val + 1 * (x 0).val := congrArg Fin.val (congrFun hy 0)
  have e1 : 128 * h'.val + 1 * (y 1).val = 128 * h.val + 1 * (x 1).val := congrArg Fin.val (congrFun hy 1)
  have hx0 : (x 0).val < 256 := (x 0).isLt
  have hy0 : (y 0).val < 256 := (y 0).isLt
  have hx1 : (x 1).val < 128 := (x 1).isLt
  have hy1 : (y 1).val < 128 := (y 1).isLt
  rcases hne with hne | hne
  · exact hne (Fin.ext (by omega))
  · exact hne (Fin.ext (by omega))

section lists
variable {F : FTy → Type} [FloatOps F] [Named F]

theorem canon_last (P : ℕ → List (View.Piece (Elt F) S4x128x128 .f32)) (W : (u : ℕ) → (rS (uH u)).shape.Idx → Elt F .f32)
    (hP : ∀ u, P (u + 1) = ⟨rS (uH u), W u⟩ :: P u) (u : ℕ) (x : (rS (uH u)).shape.Idx) :
    ∀ d, d < 4 → View.canon (P (u + 1 + d)) ((rS (uH u)).emb x) = W u x
  | 0, _ => by exact (congrArg (fun L => View.canon L ((rS (uH u)).emb x)) (hP u)).trans (View.canon_cons_emb _ (W u) (P u) x)
  | d + 1, hd => by
    refine (congrArg (fun L => View.canon L ((rS (uH u)).emb x)) (hP (u + 1 + d))).trans ?_
    refine (View.canon_cons_of_not_mem ⟨rS (uH (u + 1 + d)), W (u + 1 + d)⟩ (P (u + 1 + d)) (y := (rS (uH u)).emb x) (rS_off (fun e => ?_) x)).trans (canon_last P W hP u x d (by omega))
    have := congrArg Fin.val e
    simp only [uH] at this
    omega

theorem canon_base (P : ℕ → List (View.Piece (Elt F) S4x128x128 .f32)) (W : (u : ℕ) → (rS (uH u)).shape.Idx → Elt F .f32)
    (hP : ∀ u, P (u + 1) = ⟨rS (uH u), W u⟩ :: P u) (u : ℕ) (hu : u < 4) (x : (rS (uH u)).shape.Idx) :
    ∀ d, d ≤ u → View.canon (P d) ((rS (uH u)).emb x) = View.canon (P 0) ((rS (uH u)).emb x)
  | 0, _ => rfl
  | d + 1, hd => by
    refine (congrArg (fun L => View.canon L ((rS (uH u)).emb x)) (hP d)).trans ?_
    refine (View.canon_cons_of_not_mem ⟨rS (uH d), W d⟩ (P d) (y := (rS (uH u)).emb x) (rS_off (fun e => ?_) x)).trans (canon_base P W hP u hu x d (by omega))
    have := congrArg Fin.val e
    simp only [uH] at this
    omega

theorem canon_out (P : ℕ → List (View.Piece (Elt F) S512x512 .bf16)) (W : (u : ℕ) → (rB (uR u) (uH u)).shape.Idx → Elt F .bf16)
    (hP : ∀ u, P (u + 1) = ⟨rB (uR u) (uH u), W u⟩ :: P u) (u : ℕ) (x : (rB (uR u) (uH u)).shape.Idx) :
    ∀ d, u + d < 8 → View.canon (P (u + 1 + d)) ((rB (uR u) (uH u)).emb x) = W u x
  | 0, _ => by exact (congrArg (fun L => View.canon L ((rB (uR u) (uH u)).emb x)) (hP u)).trans (View.canon_cons_emb _ (W u) (P u) x)
  | d + 1, hd => by
    refine (congrArg (fun L => View.canon L ((rB (uR u) (uH u)).emb x)) (hP (u + 1 + d))).trans ?_
    refine (View.canon_cons_of_not_mem ⟨rB (uR (u + 1 + d)) (uH (u + 1 + d)), W (u + 1 + d)⟩ (P (u + 1 + d)) (y := (rB (uR u) (uH u)).emb x) (rB_off ?_ x)).trans (canon_out P W hP u x d (by omega))
    by_contra hc
    rw [not_or, not_not, not_not] at hc
    have e1 := congrArg Fin.val hc.1
    have e2 := congrArg Fin.val hc.2
    simp only [uH, uR] at e1 e2
    omega
end lists

/-! ## The states and outputs of one grid point -/

/-- A stored state is the recurrence's state of head `H` after `n` tokens. -/
def RS (I : FVec Ideal S1x128x128 .f32) (H : HeadData) (n : ℕ) : Prop := ∀ j c : Fin 128, I (ix3 0 j c) = ((H.st n c.val j.val : ℝ) : EReal)

theorem RS.re {I : FVec Ideal S1x128x128 .f32} {H : HeadData} {n : ℕ} (h : RS I H n) :
    Re (φ := .f32) (shapeCast S128x128 I shapeCasts_S1x128x128_S128x128) (fun j c => H.st n c j) := fun j c => by
  refine Eq.trans ?_ (h j c)
  pointwise

theorem RS.of {x : FVec Ideal S128x128 .f32} {H : HeadData} {n : ℕ} (h : Re x (fun j c => H.st n c j)) :
    RS (shapeCast S1x128x128 x shapeCasts_S128x128_S1x128x128) H n := fun j c => by
  refine Eq.trans ?_ (h j c)
  pointwise

/-- The loads hold the heads' data from token `n0`. -/
structure Holds (L : Loads Ideal) (HD : Fin 4 → HeadData) (n0 : ℕ) : Prop where
  q : ∀ rb h, Re (L.q rb h) (fun t c => (HD h).q (n0 + 256 * rb.val + t) c)
  f : ∀ rb h, Re (L.f rb h) (fun t c => (HD h).f (n0 + 256 * rb.val + t) c)
  i : ∀ rb h, Re (L.i rb h) (fun t c => (HD h).v (n0 + 256 * rb.val + t) c)
  lb : ∀ h, Re (lbOf L.lb h) (fun _ c => (HD h).a c)

section point
variable {L : Loads Ideal} {HD : Fin 4 → HeadData} {n0 : ℕ} (hL : Holds L HD n0) (hG : ∀ h, (HD h).Good)
  (P : ℕ → List (View.Piece (Elt Ideal) S4x128x128 .f32)) (I : ℕ → FVec Ideal S1x128x128 .f32) (hP : ∀ u, P (u + 1) = pcS L u (I u) :: P u)
  (hI : ∀ u, 4 ≤ u → u < 8 → ∀ x, I u x = View.canon (P u) ((rS (uH u)).emb x)) (h0 : ∀ u, u < 4 → RS (I u) (HD (uH u)) n0)
include hL hG

theorem pcS_re (u : ℕ) (st : FVec Ideal S1x128x128 .f32) (hst : RS st (HD (uH u)) (n0 + 256 * (uR u).val)) :
    RS (pcS L u st).2 (HD (uH u)) (n0 + 256 * (uR u).val + 256) :=
  RS.of (unitS_re (HD (uH u)) (hG _) (n0 + 256 * (uR u).val) (hL.f _ _) (hL.i _ _) (hL.lb _) hst.re)

theorem pcO_at (u : ℕ) (st : FVec Ideal S1x128x128 .f32) (hst : RS st (HD (uH u)) (n0 + 256 * (uR u).val)) (t : Fin 256) (j : Fin 128) :
    (pcO L u st).2 (ix2 t j) = gateE (fun j => (((HD (uH u)).out (n0 + 256 * (uR u).val + t.val) j.val : ℝ) : EReal)) (fun j => L.g (uR u) (uH u) (ix2 t j))
      (fun j => L.wn (ix2 0 j)) j := by
  show shapeCast S256x128 (unitO _ _ _ _ _ _ _) shapeCasts_S256x128_S256x128 (ix2 t j) = _
  rw [shapeCast_self]
  unfold unitO
  rw [gated_at]
  congr 1
  funext k
  exact readout_re (HD (uH u)) (hG _) (n0 + 256 * (uR u).val) (hL.q _ _) (hL.f _ _) (hL.i _ _) (hL.lb _) hst.re t k

include hP hI h0

theorem in_re (u : ℕ) (hu : u < 8) : RS (I u) (HD (uH u)) (n0 + 256 * (uR u).val) := by
  by_cases h : u < 4
  · have e : (uR u).val = 0 := by simp only [uR]; omega
    rw [e]; exact h0 u h
  · obtain ⟨w, rfl⟩ : ∃ w, u = w + 1 + 3 := ⟨u - 4, by omega⟩
    have hw : w < 4 := by omega
    have eH : uH (w + 1 + 3) = uH w := Fin.ext (by simp only [uH]; omega)
    have e : (uR (w + 1 + 3)).val = 1 := by simp only [uR]; omega
    have e0 : (uR w).val = 0 := by simp only [uR]; omega
    have hw' := pcS_re hL hG w (I w) (by rw [e0]; exact h0 w hw)
    intro j c
    have k1 := canon_last (F := Ideal) P (fun u => (pcS L u (I u)).2) hP w (ix3 0 j c) 3 (by decide)
    rw [hI _ (by omega) hu, e]
    have k2 : View.canon (P (w + 1 + 3)) ((rS (uH (w + 1 + 3))).emb (ix3 0 j c)) = View.canon (P (w + 1 + 3)) ((rS (uH w)).emb (ix3 0 j c)) := by
      congr 1
      funext a
      apply Fin.ext
      match a with
      | ⟨0, _⟩ => show (uH (w + 1 + 3)).val + 1 * 0 = (uH w).val + 1 * 0; rw [eH]
      | ⟨1, _⟩ => rfl
      | ⟨2, _⟩ => rfl
    refine k2.trans (k1.trans ((hw' j c).trans ?_))
    rw [eH, e0]

theorem st_after (h : Fin 4) (j c : Fin 128) : View.canon (P 8) ((rS h).emb (ix3 0 j c)) = (((HD h).st (n0 + 512) c.val j.val : ℝ) : EReal) := by
  have e : uH (4 + h.val) = h := Fin.ext (by simp only [uH]; omega)
  have eR : (uR (4 + h.val)).val = 1 := by simp only [uR]; omega
  have k1 := canon_last (F := Ideal) P (fun u => (pcS L u (I u)).2) hP (4 + h.val) (ix3 0 j c) (3 - h.val) (by omega)
  have k2 := pcS_re hL hG (4 + h.val) (I _) (in_re hL hG P I hP hI h0 _ (by omega)) j c
  have k3 : View.canon (P 8) ((rS h).emb (ix3 0 j c)) = View.canon (P (4 + h.val + 1 + (3 - h.val))) ((rS (uH (4 + h.val))).emb (ix3 0 j c)) := by
    rw [show 4 + h.val + 1 + (3 - h.val) = 8 by omega]
    congr 1
    funext a
    apply Fin.ext
    match a with
    | ⟨0, _⟩ => show h.val + 1 * 0 = (uH (4 + h.val)).val + 1 * 0; rw [e]
    | ⟨1, _⟩ => rfl
    | ⟨2, _⟩ => rfl
  refine k3.trans (k1.trans (k2.trans ?_))
  rw [e, eR]

theorem oh_after (Q : ℕ → List (View.Piece (Elt Ideal) S512x512 .bf16)) (hQ : ∀ u, Q (u + 1) = pcO L u (I u) :: Q u) (rb : Fin 2) (h : Fin 4) (t : Fin 256) (j : Fin 128) :
    View.canon (Q 8) ((rB rb h).emb (ix2 t j)) = gateE (fun j => (((HD h).out (n0 + 256 * rb.val + t.val) j.val : ℝ) : EReal)) (fun j => L.g rb h (ix2 t j))
      (fun j => L.wn (ix2 0 j)) j := by
  have e : uH (4 * rb.val + h.val) = h := Fin.ext (by simp only [uH]; omega)
  have eR : uR (4 * rb.val + h.val) = rb := Fin.ext (by simp only [uR]; omega)
  have k1 := canon_out (F := Ideal) Q (fun u => (pcO L u (I u)).2) hQ (4 * rb.val + h.val) (ix2 t j) (7 - (4 * rb.val + h.val)) (by omega)
  have k2 := pcO_at hL hG (4 * rb.val + h.val) (I _) (in_re hL hG P I hP hI h0 _ (by omega)) t j
  have k3 : View.canon (Q 8) ((rB rb h).emb (ix2 t j)) = View.canon (Q (4 * rb.val + h.val + 1 + (7 - (4 * rb.val + h.val)))) ((rB (uR (4 * rb.val + h.val)) (uH (4 * rb.val + h.val))).emb (ix2 t j)) := by
    rw [show 4 * rb.val + h.val + 1 + (7 - (4 * rb.val + h.val)) = 8 by omega]
    congr 1
    funext a
    apply Fin.ext
    match a with
    | ⟨0, _⟩ => show 256 * rb.val + 1 * t.val = 256 * (uR (4 * rb.val + h.val)).val + 1 * t.val; rw [eR]
    | ⟨1, _⟩ => show 128 * h.val + 1 * j.val = 128 * (uH (4 * rb.val + h.val)).val + 1 * j.val; rw [e]
  refine k3.trans (k1.trans (k2.trans ?_))
  rw [e, eR]

end point

end Hg
-- ==== Proof.MixSpec.lean ====
/-
  What the mixing kernel's result is, row by row, of its twelve arguments: each head's recurrence over all tokens, the
  gated and normed outputs, the short convolution, the output projection, the residual and the feed-forward part.
-/
module

public import proofs.«01_k».proof.Proof.Row
public import proofs.«01_k».proof.Proof.States

@[expose] public section

noncomputable section

namespace Hg.Sp

open Idealize.ShloMosaic

/-- The second of two weights of a softmax. -/
def second (x y : ℝ) : ℝ := Real.exp y / (Real.exp x + Real.exp y)

theorem second_pos (x y : ℝ) : 0 < second x y := div_pos (Real.exp_pos _) (add_pos (Real.exp_pos _) (Real.exp_pos _))
theorem second_lt_one (x y : ℝ) : second x y < 1 := (div_lt_one (add_pos (Real.exp_pos _) (Real.exp_pos _))).mpr (lt_add_of_pos_left _ (Real.exp_pos _))

section
variable (a0 : FVec Ideal ⟨2, ![16384, 1024]⟩ .f32) (a1 : FVec Ideal ⟨2, ![16384, 2048]⟩ .f32) (a2 : FVec Ideal ⟨2, ![16384, 256]⟩ .bf16)
  (a3 : FVec Ideal ⟨2, ![16384, 768]⟩ .f32) (a4 : FVec Ideal ⟨3, ![2, 3, 256]⟩ .f32) (a5 : FVec Ideal ⟨3, ![2, 1024, 1024]⟩ .f32)
  (a6 : FVec Ideal ⟨3, ![2, 6, 1024]⟩ .f32) (a7 a8 : FVec Ideal ⟨3, ![2, 1024, 2816]⟩ .f32) (a9 : FVec Ideal ⟨3, ![2, 2816, 1024]⟩ .f32)
  (a10 : FVec Ideal ⟨2, ![2, 512]⟩ .f32) (a11 : FVec Ideal ⟨2, ![2, 128]⟩ .f32)

/-- What the claim asks of the gates' arguments. -/
structure Tame : Prop where
  /-- The queries, forget projections and values are finite. -/
  fin : ∀ (n : Fin 16384) (c : Fin 2048), c.val < 1536 → a1 (ix2 n c) = (((a1 (ix2 n c)).toReal : ℝ) : EReal)
  /-- The forget projections are not far below zero. -/
  low : ∀ (n : Fin 16384) (c : Fin 2048), 512 ≤ c.val → c.val < 1024 → -87 ≤ (a1 (ix2 n c)).toReal
  /-- The logits of the bounds are finite. -/
  lb : ∀ (i : Fin 2) (c : Fin 512), a10 (ix2 i c) = (((a10 (ix2 i c)).toReal : ℝ) : EReal)

/-- One entry of the gates' projections, as a real number. -/
def zr (n k : ℕ) : ℝ := if hn : n < 16384 then if hk : k < 2048 then (a1 (ix2 ⟨n, hn⟩ ⟨k, hk⟩)).toReal else 0 else 0

theorem zr_eq (n : Fin 16384) (k : Fin 2048) : zr a1 n.val k.val = (a1 (ix2 n k)).toReal := by
  unfold zr
  rw [dif_pos n.isLt, dif_pos k.isLt]

/-- A head's data. -/
def HD (h : Fin 4) : HeadData where
  q n c := zr a1 n (128 * h.val + c % 128)
  f n c := zr a1 n (512 + (128 * h.val + c % 128))
  v n c := zr a1 n (1024 + (128 * h.val + c % 128))
  a c := second (a10 (ix2 0 ⟨128 * h.val + c % 128, by omega⟩)).toReal (a10 (ix2 1 ⟨128 * h.val + c % 128, by omega⟩)).toReal

theorem HD_good (hT : Tame a1 a10) (h : Fin 4) : (HD a1 a10 h).Good := by
  refine ⟨fun n c => ?_, fun c => second_pos _ _, fun c => second_lt_one _ _⟩
  show -87 ≤ zr a1 n (512 + (128 * h.val + c % 128))
  unfold zr
  split
  · split
    · exact hT.low _ _ (by show 512 ≤ 512 + _; omega) (by show 512 + (128 * h.val + c % 128) < 1024; omega)
    · norm_num
  · norm_num

/-- The recurrence's gated outputs. -/
def hgRow (n : Fin 16384) (k : Fin 512) : EReal :=
  gateE (fun j => (((HD a1 a10 ⟨k.val / 128, by omega⟩).out n.val j.val : ℝ) : EReal)) (fun j => a1 (ix2 n ⟨1536 + (128 * (k.val / 128) + j.val), by omega⟩))
    (fun j => a11 (ix2 1 j)) ⟨k.val % 128, by omega⟩

/-- The convolution's gated input. -/
def u (n : Fin 16384) (j : Fin 256) : EReal := a3 (ix2 n ⟨256 + j.val, by omega⟩) * a3 (ix2 n ⟨512 + j.val, by omega⟩)

/-- The same, some rows up, zero above the first. -/
def ub (d : ℕ) (n : Fin 16384) (j : Fin 256) : EReal := if d ≤ n.val then u a3 ⟨n.val - d, by omega⟩ j else 0

/-- The short convolution's outputs. -/
def cvRow (n : Fin 16384) (j : Fin 256) : EReal :=
  a3 (ix2 n ⟨j.val, by omega⟩) * (a4 (ix3 1 0 j) * ub a3 2 n j + a4 (ix3 1 1 j) * ub a3 1 n j + a4 (ix3 1 2 j) * u a3 n j)

/-- The three mixers' outputs side by side. -/
def oRow (n : Fin 16384) (k : Fin 1024) : EReal :=
  if h : k.val < 512 then hgRow a1 a10 a11 n ⟨k.val, h⟩
  else if h' : k.val < 768 then a2 (ix2 n ⟨k.val - 512, by omega⟩) else cvRow a3 a4 n ⟨k.val - 768, by omega⟩

/-- The residual after the mixers. -/
def yRow (n : Fin 16384) (j : Fin 1024) : EReal :=
  a0 (ix2 n j) + Row.rms (fun j => ∑ k, oRow a1 a2 a3 a4 a10 a11 n k * a5 (ix3 1 k j)) (fun j => a6 (ix3 1 3 j)) j

/-- The result. -/
def res (n : Fin 16384) : Fin 1024 → EReal :=
  Row.half (yRow a0 a1 a2 a3 a4 a5 a6 a10 a11 n)
    (Row.ffn (Row.rms (yRow a0 a1 a2 a3 a4 a5 a6 a10 a11 n) (fun j => a6 (ix3 1 4 j))) (fun i k => a7 (ix3 1 i k)) (fun i k => a8 (ix3 1 i k)) (fun k j => a9 (ix3 1 k j)))
    (fun j => a6 (ix3 1 5 j))

end

/-- A sum over 1024 rows in three parts. -/
theorem sum3 (f : Fin 1024 → EReal) : ∑ k, f k = (∑ k : Fin 512, f ⟨k.val, by omega⟩) + (∑ k : Fin 256, f ⟨512 + k.val, by omega⟩) + ∑ k : Fin 256, f ⟨768 + k.val, by omega⟩ := by
  have h1 := Fin.sum_univ_add (a := 768) (b := 256) f
  have h2 := Fin.sum_univ_add (a := 512) (b := 256) (fun k : Fin 768 => f ⟨k.val, by omega⟩)
  exact h1.trans (congrArg₂ (· + ·) h2 rfl)

end Hg.Sp
-- ==== Proof.TailRow.lean ====
/-
  The mixing kernel's tail, read row by row.
-/
module

public import proofs.«01_k».proof.Proof.Tail
public import proofs.«01_k».proof.Proof.MixSpec
public import proofs.«01_k».proof.Proof.Scores

@[expose] public section

noncomputable section

namespace Hg

open Idealize.ShloMosaic Cert.MixIdeal Cert.MixIdeal.Gen

theorem rmsW_at (x : FVec Ideal S512x1024 .f32) (w : FVec Ideal S1x1024 .f32) (r : Fin 512) (j : Fin 1024) :
    rmsW x w (ix2 r j) = Row.rms (fun k => x (ix2 r k)) (fun k => w (ix2 0 k)) j := by
  unfold rmsW over
  pointwise
  rfl

theorem slab_at (xn : FVec Ideal S512x1024 .bf16) (wg wu : FVec Ideal S1024x256 .bf16) (wd : FVec Ideal S256x1024 .bf16) (r : Fin 512) (j : Fin 1024) :
    slab xn wg wu wd (ix2 r j) = Row.ffn (fun k => xn (ix2 r k)) (fun i k => wg (ix2 i k)) (fun i k => wu (ix2 i k)) (fun k j => wd (ix2 k j)) j := by
  unfold slab
  pointwise
  rfl

theorem cIn_at (zc : FVec Ideal S512x768 .f32) (r : Fin 512) (j : Fin 256) :
    cIn zc (ix2 r j) = zc (ix2 r ⟨256 + j.val, by omega⟩) * zc (ix2 r ⟨512 + j.val, by omega⟩) := by
  unfold cIn
  pointwise

theorem row_is (n : ℕ) (hn : n < 512) (r : Fin 512) (j : Fin 256) : (cmpi .eq rowT (broadcast S512x256 (BitVec.ofNat 32 n)) (ix2 r j) = 1#1) ↔ r.val = n := by
  show Scalar.cmpi .eq (BitVec.ofNat 32 (0 * 512 + r.val)) (BitVec.ofNat 32 n) = 1#1 ↔ _
  rw [Nat.zero_mul, Nat.zero_add]
  rw [cmpi_eq_iff]
  constructor
  · intro h
    have := congrArg BitVec.toNat h
    simp only [BitVec.toNat_ofNat] at this
    omega
  · intro h; rw [h]

theorem rot_at (n : ℕ) (hn : n < 512) (x : FVec Ideal S512x256 .f32) (t : Fin 512) (j : Fin 256) :
    dynamicRotate 0 (BitVec.ofNat 32 n) none x rotates_S512x256_d0 (ix2 t j) = x (ix2 ⟨(t.val + 512 - n) % 512, Nat.mod_lt _ (by decide)⟩ j) :=
  dynamicRotate_apply (s := S512x256) 0 (BitVec.ofNat 32 n) x _ (ix2 t j) (ix2 ⟨(t.val + 512 - n) % 512, _⟩ j) fun b => by
    match b with
    | ⟨0, _⟩ =>
      show (t.val + 512 - n) % 512 = (t.val + 512 - (BitVec.ofNat 32 n).toNat % 512) % 512
      rw [BitVec.toNat_ofNat, Nat.mod_eq_of_lt (show n < 2 ^ 32 by omega), Nat.mod_eq_of_lt hn]
    | ⟨1, _⟩ => rfl

theorem prow_at (p : FVec Ideal S8x256 .f32) (k : Fin 8) (hk : k.val + 1 ≤ 8) (r : Fin 512) (j : Fin 256) :
    (over 512 (shapeCast S1x256 (rows k.val 1 hk p) shapeCasts_S1x256_S1x256) : FVec Ideal S512x256 .f32) (ix2 r j) = p (ix2 k j) := by
  unfold over rows
  rw [shapeCast_self]
  pointwise

theorem up1_at (p : FVec Ideal S8x256 .f32) (x : FVec Ideal S512x256 .f32) (r : Fin 512) (j : Fin 256) :
    up1 p x (ix2 r j) = if r.val = 0 then p (ix2 7 j) else x (ix2 ⟨r.val - 1, by omega⟩ j) := by
  unfold up1
  show (if _ = 1#1 then _ else _) = _
  by_cases h : r.val = 0
  · rw [if_pos ((row_is 0 (by decide) r j).mpr h), if_pos h]
    exact prow_at p 7 _ r j
  · rw [if_neg (fun e => h ((row_is 0 (by decide) r j).mp e)), if_neg h]
    refine (rot_at 1 (by decide) x r j).trans ?_
    congr 2
    apply Fin.ext
    show (r.val + 512 - 1) % 512 = r.val - 1
    omega

theorem up2_at (p : FVec Ideal S8x256 .f32) (x : FVec Ideal S512x256 .f32) (r : Fin 512) (j : Fin 256) :
    up2 p x (ix2 r j) = if r.val = 0 then p (ix2 6 j) else if r.val = 1 then p (ix2 7 j) else x (ix2 ⟨r.val - 2, by omega⟩ j) := by
  unfold up2
  show (if _ = 1#1 then _ else (if _ = 1#1 then _ else _)) = _
  by_cases h : r.val = 0
  · rw [if_pos ((row_is 0 (by decide) r j).mpr h), if_pos h]
    exact prow_at p 6 _ r j
  · rw [if_neg (fun e => h ((row_is 0 (by decide) r j).mp e)), if_neg h]
    by_cases h1 : r.val = 1
    · rw [if_pos ((row_is 1 (by decide) r j).mpr h1), if_pos h1]
      exact prow_at p 7 _ r j
    · rw [if_neg (fun e => h1 ((row_is 1 (by decide) r j).mp e)), if_neg h1]
      refine (rot_at 2 (by decide) x r j).trans ?_
      congr 2
      apply Fin.ext
      show (r.val + 512 - 2) % 512 = r.val - 2
      omega

theorem cw_at (cw : FVec Ideal S3x256 .f32) (k : Fin 3) (hk : k.val + 1 ≤ 3) (r : Fin 512) (j : Fin 256) :
    (over 512 (rows k.val 1 hk (shapeCast S3x256 cw shapeCasts_S3x256_S3x256)) : FVec Ideal S512x256 .f32) (ix2 r j) = cw (ix2 k j) := by
  unfold over rows
  rw [shapeCast_self]
  pointwise

theorem bg_at (zc : FVec Ideal S512x768 .f32) (r : Fin 512) (j : Fin 256) :
    extractStridedSlice S512x256 ![0, 0] zc slices_S512x768_o0_0_S512x256 (ix2 r j) = zc (ix2 r ⟨j.val, by omega⟩) := by
  pointwise

theorem conv_at (p : FVec Ideal S8x256 .f32) (zc : FVec Ideal S512x768 .f32) (cw : FVec Ideal S3x256 .f32) (r : Fin 512) (j : Fin 256) :
    conv p zc cw (ix2 r j) = zc (ix2 r ⟨j.val, by omega⟩) * (cw (ix2 0 j) * up2 p (cIn zc) (ix2 r j) + cw (ix2 1 j) * up1 p (cIn zc) (ix2 r j) + cw (ix2 2 j) * cIn zc (ix2 r j)) := by
  unfold conv
  have e := bg_at zc r j
  have e0 := cw_at cw 0 (by decide) r j
  have e1 := cw_at cw 1 (by decide) r j
  have e2 := cw_at cw 2 (by decide) r j
  rw [← e, ← e0, ← e1, ← e2]
  rfl

theorem dot512 (x : FVec Ideal S512x512 .bf16) (w : FVec Ideal S512x1024 .bf16) (r : Fin 512) (j : Fin 1024) :
    matmul (F := Ideal) (DotDims.plain 512 512 1024) none x (shapeCast S512x1024 w shapeCasts_S512x1024_S512x1024) (constant S512x1024 .f32 0x00000000#32) (ix2 r j)
      = ∑ k, x (ix2 r k) * w (ix2 k j) := by
  rw [shapeCast_self]
  pointwise

theorem dot256 (x : FVec Ideal S512x256 .bf16) (w : FVec Ideal S256x1024 .bf16) (r : Fin 512) (j : Fin 1024) :
    matmul (F := Ideal) (DotDims.plain 512 256 1024) none x (shapeCast S256x1024 w shapeCasts_S256x1024_S256x1024) (constant S512x1024 .f32 0x00000000#32) (ix2 r j)
      = ∑ k, x (ix2 r k) * w (ix2 k j) := by
  rw [shapeCast_self]
  pointwise

variable (L : TLoads Ideal) (i : grid0.Coords)

theorem proj_at (r : Fin 512) (j : Fin 1024) : proj L i (ix2 r j) =
    (∑ k, L.oh (ix2 r k) * L.w0 (ix2 k j)) + (∑ k, L.oa (ix2 r k) * L.w1 (ix2 k j)) + ∑ k, conv (k0_pay4 i L.zp) L.zc L.cw (ix2 r k) * L.w2 (ix2 k j) := by
  unfold proj
  exact congrArg₂ (· + ·) (congrArg₂ (· + ·) (dot512 ..) (dot256 ..)) (dot256 ..)

theorem mid_at (r : Fin 512) (j : Fin 1024) : mid L i (ix2 r j) = L.x (ix2 r j) + Row.rms (fun k => proj L i (ix2 r k)) (fun k => L.n 0 (ix2 0 k)) j := by
  unfold mid
  refine congrArg (L.x (ix2 r j) + ·) ?_
  rw [shapeCast_self]
  exact rmsW_at ..

theorem ffnIn_at (r : Fin 512) (j : Fin 1024) : ffnIn L i (ix2 r j) = Row.rms (fun k => mid L i (ix2 r k)) (fun k => L.n 1 (ix2 0 k)) j := by
  unfold ffnIn
  rw [shapeCast_self]
  exact rmsW_at ..

theorem ffnUp_at (G U : Fin 1024 → Fin 2816 → EReal) (D : Fin 2816 → Fin 1024 → EReal)
    (hg : ∀ n (hn : n < 11) i (k : Fin 256), L.fg n (ix2 i k) = G i ⟨256 * n + k.val, by omega⟩)
    (hu : ∀ n (hn : n < 11) i (k : Fin 256), L.fu n (ix2 i k) = U i ⟨256 * n + k.val, by omega⟩)
    (hd : ∀ n (hn : n < 11) (k : Fin 256) j, L.fd n (ix2 k j) = D ⟨256 * n + k.val, by omega⟩ j) (r : Fin 512) (j : Fin 1024) :
    ∀ n (hn : n < 11), ffnUp L i n (ix2 r j) = ∑ k ∈ Finset.range (256 * (n + 1)), (if hk : k < 2816 then Row.hid (fun k => ffnIn L i (ix2 r k)) G U ⟨k, hk⟩ * D ⟨k, hk⟩ j else 0) := by
  have hs : ∀ n (hn : n < 11), slab (ffnIn L i) (L.fg n) (L.fu n) (L.fd n) (ix2 r j) =
      ∑ k : Fin 256, (fun k => if hk : k < 2816 then Row.hid (fun k => ffnIn L i (ix2 r k)) G U ⟨k, hk⟩ * D ⟨k, hk⟩ j else 0) (256 * n + k.val) := fun n hn => by
    rw [slab_at]
    unfold Row.ffn
    refine Finset.sum_congr rfl fun k _ => ?_
    have hk : 256 * n + k.val < 2816 := by omega
    show _ = dite _ _ _
    rw [dif_pos hk]
    refine congrArg₂ (· * ·) ?_ (hd n hn k j)
    unfold Row.hid
    simp only [hg n hn, hu n hn]
  intro n
  induction n with
  | zero =>
    intro hn
    refine (hs 0 hn).trans ?_
    rw [← Fin.sum_univ_eq_sum_range _ 256]
    simp only [Nat.mul_zero, Nat.zero_add]
  | succ n ih =>
    intro hn
    refine (congrArg₂ (· + ·) (ih (by omega)) (hs (n + 1) hn)).trans ?_
    rw [show 256 * (n + 1 + 1) = 256 * (n + 1) + 256 by ring, Finset.sum_range_add, Fin.sum_univ_eq_sum_range (fun k => (fun k => if hk : k < 2816 then Row.hid (fun k => ffnIn L i (ix2 r k)) G U ⟨k, hk⟩ * D ⟨k, hk⟩ j else 0) (256 * (n + 1) + k)) 256]

theorem ffn_at (G U : Fin 1024 → Fin 2816 → EReal) (D : Fin 2816 → Fin 1024 → EReal)
    (hg : ∀ n (hn : n < 11) i (k : Fin 256), L.fg n (ix2 i k) = G i ⟨256 * n + k.val, by omega⟩)
    (hu : ∀ n (hn : n < 11) i (k : Fin 256), L.fu n (ix2 i k) = U i ⟨256 * n + k.val, by omega⟩)
    (hd : ∀ n (hn : n < 11) (k : Fin 256) j, L.fd n (ix2 k j) = D ⟨256 * n + k.val, by omega⟩ j) (r : Fin 512) (j : Fin 1024) :
    ffnUp L i 10 (ix2 r j) = Row.ffn (fun k => ffnIn L i (ix2 r k)) G U D j := by
  rw [ffnUp_at L i G U D hg hu hd r j 10 (by decide)]
  unfold Row.ffn
  rw [← Fin.sum_univ_eq_sum_range _ 2816]
  refine Finset.sum_congr rfl fun k _ => ?_
  rw [dif_pos k.isLt]

theorem tail_at (r : Fin 512) (j : Fin 1024) : tailOut L i (ix2 r j) = Row.half (fun k => mid L i (ix2 r k)) (fun k => ffnUp L i 10 (ix2 r k)) (fun k => L.n 2 (ix2 0 k)) j := by
  unfold tailOut Row.half
  rw [shapeCast_self]
  have e := rmsW_at (ffnUp L i 10) (L.n 2) r j
  rw [← e]
  rfl

end Hg
-- ==== Proof.MixVal.lean ====
/-
  The mixing kernel's blocks, as entries of its arguments.
-/
module

public import proofs.«01_k».proof.Proof.TailRow
public import proofs.«01_k».proof.Proof.Gen.MixIdeal.Value
public import Idealize.ShloMosaic.Lib.Pointwise
public import Idealize.ShloMosaic.Lib.StableHlo.Run

@[expose] public section

noncomputable section

namespace Hg.M

open Idealize.ShloMosaic Idealize.ShloMosaic.TcCoe Cert.MixIdeal Cert.MixIdeal.Gen

variable (m : (ℓ : Loc nD τ sig) → Buf (Elt Ideal) ℓ) (c : Dev nD)

/-! ## The arrays the kernel is called with -/

theorem cast4 (x : FVec Ideal S2x3x256 .f32) (r : Fin 3) (k : Fin 256) :
    (shapeCast S3x256 (extractStridedSlice S1x3x256 ![1, 0, 0] x slices_S2x3x256_S1x3x256_1_0_0) shapeCasts_S1x3x256_S3x256) (ix2 r k) = x (ix3 1 r k) := by
  pointwise

theorem V4 (r : Fin 3) (k : Fin 256) : V m c main_v1 (ix2 r k) = m (c, main_arg4) (ix3 1 r k) := by
  have e : V m c main_v1 = shapeCast S3x256 (extractStridedSlice S1x3x256 ![1, 0, 0] (m (c, main_arg4)) slices_S2x3x256_S1x3x256_1_0_0) shapeCasts_S1x3x256_S3x256 := by
    show StableHlo.after hostOps0 _ _ = _
    after_results_simp
    try rfl
  rw [e]
  exact cast4 _ r k

theorem cast5 (x : FVec Ideal S2x1024x1024 .f32) (r : Fin 1024) (k : Fin 1024) :
    (truncf (F := Ideal) .bf16 (shapeCast S1024x1024 (extractStridedSlice S1x1024x1024 ![1, 0, 0] x slices_S2x1024x1024_S1x1024x1024_1_0_0) shapeCasts_S1x1024x1024_S1024x1024) bitsLt_bf16_f32) (ix2 r k) = x (ix3 1 r k) := by
  pointwise

theorem V5 (r : Fin 1024) (k : Fin 1024) : V m c main_v4 (ix2 r k) = m (c, main_arg5) (ix3 1 r k) := by
  have e : V m c main_v4 = truncf (F := Ideal) .bf16 (shapeCast S1024x1024 (extractStridedSlice S1x1024x1024 ![1, 0, 0] (m (c, main_arg5)) slices_S2x1024x1024_S1x1024x1024_1_0_0) shapeCasts_S1x1024x1024_S1024x1024) bitsLt_bf16_f32 := by
    show StableHlo.after hostOps0 _ _ = _
    after_results_simp
    try rfl
  rw [e]
  exact cast5 _ r k

theorem cast6 (x : FVec Ideal S2x6x1024 .f32) (r : Fin 3) (k : Fin 1024) :
    (shapeCast S3x1024 (extractStridedSlice S1x3x1024 ![1, 3, 0] x slices_S2x6x1024_S1x3x1024_1_3_0) shapeCasts_S1x3x1024_S3x1024) (ix2 r k) = x (ix3 1 ⟨3 + r.val, by omega⟩ k) := by
  pointwise

theorem V6 (r : Fin 3) (k : Fin 1024) : V m c main_v6 (ix2 r k) = m (c, main_arg6) (ix3 1 ⟨3 + r.val, by omega⟩ k) := by
  have e : V m c main_v6 = shapeCast S3x1024 (extractStridedSlice S1x3x1024 ![1, 3, 0] (m (c, main_arg6)) slices_S2x6x1024_S1x3x1024_1_3_0) shapeCasts_S1x3x1024_S3x1024 := by
    show StableHlo.after hostOps0 _ _ = _
    after_results_simp
    try rfl
  rw [e]
  exact cast6 _ r k

theorem cast7 (x : FVec Ideal S2x1024x2816 .f32) (r : Fin 1024) (k : Fin 2816) :
    (truncf (F := Ideal) .bf16 (shapeCast S1024x2816 (extractStridedSlice S1x1024x2816 ![1, 0, 0] x slices_S2x1024x2816_S1x1024x2816_1_0_0) shapeCasts_S1x1024x2816_S1024x2816) bitsLt_bf16_f32) (ix2 r k) = x (ix3 1 r k) := by
  pointwise

theorem V7 (r : Fin 1024) (k : Fin 2816) : V m c main_v9 (ix2 r k) = m (c, main_arg7) (ix3 1 r k) := by
  have e : V m c main_v9 = truncf (F := Ideal) .bf16 (shapeCast S1024x2816 (extractStridedSlice S1x1024x2816 ![1, 0, 0] (m (c, main_arg7)) slices_S2x1024x2816_S1x1024x2816_1_0_0) shapeCasts_S1x1024x2816_S1024x2816) bitsLt_bf16_f32 := by
    show StableHlo.after hostOps0 _ _ = _
    after_results_simp
    try rfl
  rw [e]
  exact cast7 _ r k

theorem cast8 (x : FVec Ideal S2x1024x2816 .f32) (r : Fin 1024) (k : Fin 2816) :
    (truncf (F := Ideal) .bf16 (shapeCast S1024x2816 (extractStridedSlice S1x1024x2816 ![1, 0, 0] x slices_S2x1024x2816_S1x1024x2816_1_0_0) shapeCasts_S1x1024x2816_S1024x2816) bitsLt_bf16_f32) (ix2 r k) = x (ix3 1 r k) := by
  pointwise

theorem V8 (r : Fin 1024) (k : Fin 2816) : V m c main_v12 (ix2 r k) = m (c, main_arg8) (ix3 1 r k) := by
  have e : V m c main_v12 = truncf (F := Ideal) .bf16 (shapeCast S1024x2816 (extractStridedSlice S1x1024x2816 ![1, 0, 0] (m (c, main_arg8)) slices_S2x1024x2816_S1x1024x2816_1_0_0) shapeCasts_S1x1024x2816_S1024x2816) bitsLt_bf16_f32 := by
    show StableHlo.after hostOps0 _ _ = _
    after_results_simp
    try rfl
  rw [e]
  exact cast8 _ r k

theorem cast9 (x : FVec Ideal S2x2816x1024 .f32) (r : Fin 2816) (k : Fin 1024) :
    (truncf (F := Ideal) .bf16 (shapeCast S2816x1024 (extractStridedSlice S1x2816x1024 ![1, 0, 0] x slices_S2x2816x1024_S1x2816x1024_1_0_0) shapeCasts_S1x2816x1024_S2816x1024) bitsLt_bf16_f32) (ix2 r k) = x (ix3 1 r k) := by
  pointwise

theorem V9 (r : Fin 2816) (k : Fin 1024) : V m c main_v15 (ix2 r k) = m (c, main_arg9) (ix3 1 r k) := by
  have e : V m c main_v15 = truncf (F := Ideal) .bf16 (shapeCast S2816x1024 (extractStridedSlice S1x2816x1024 ![1, 0, 0] (m (c, main_arg9)) slices_S2x2816x1024_S1x2816x1024_1_0_0) shapeCasts_S1x2816x1024_S2816x1024) bitsLt_bf16_f32 := by
    show StableHlo.after hostOps0 _ _ = _
    after_results_simp
    try rfl
  rw [e]
  exact cast9 _ r k

theorem cast15 (x : FVec Ideal S2x128 .f32) (r : Fin 1) (k : Fin 128) :
    (extractStridedSlice S1x128 ![1, 0] x slices_S2x128_S1x128_1_0) (ix2 r k) = x (ix2 1 k) := by
  pointwise

theorem V15 (r : Fin 1) (k : Fin 128) : V m c main_v16 (ix2 r k) = m (c, main_arg11) (ix2 1 k) := by
  have e : V m c main_v16 = extractStridedSlice S1x128 ![1, 0] (m (c, main_arg11)) slices_S2x128_S1x128_1_0 := by
    show StableHlo.after hostOps0 _ _ = _
    after_results_simp
    try rfl
  rw [e]
  exact cast15 _ r k

theorem VA0 : V m c main_arg0 = m (c, main_arg0) := by
  show StableHlo.after hostOps0 _ _ = _
  after_results_simp

theorem VA1 : V m c main_arg1 = m (c, main_arg1) := by
  show StableHlo.after hostOps0 _ _ = _
  after_results_simp

theorem VA2 : V m c main_arg2 = m (c, main_arg2) := by
  show StableHlo.after hostOps0 _ _ = _
  after_results_simp

theorem VA3 : V m c main_arg3 = m (c, main_arg3) := by
  show StableHlo.after hostOps0 _ _ = _
  after_results_simp

theorem VA10 : V m c main_arg10 = m (c, main_arg10) := by
  show StableHlo.after hostOps0 _ _ = _
  after_results_simp

/-! ## The blocks the kernel reads -/

theorem N33 (t : Fin cfg0.N) : t.val < 33 := by
  have h : cfg0.N = 33 := N_0
  have := t.isLt
  omega

theorem at0 : ∀ t : Fin cfg0.N, win0_0.index t 0 = t.val - 1 ∧ win0_0.index t 1 = 0 :=
  (by decide +kernel : ∀ t : Fin grid0.N, win0_0.index t 0 = t.val - 1 ∧ win0_0.index t 1 = 0)

theorem blk0 (t : Fin cfg0.N) (r : Fin 512) (k : Fin 1024) :
    (iblk m c 0 t : Vec Ideal S512x1024 .f32) (ix2 r k) = m (c, main_arg0) (ix2 ⟨512 * (t.val - 1) + r.val, by have := N33 t; omega⟩ ⟨k.val, by omega⟩) := by
  rw [← VA0 m c]
  unfold iblk
  rw [View.read_apply]
  show V m c main_arg0 _ = _
  congr 1
  funext a
  apply Fin.ext
  match a with
  | ⟨0, _⟩ => show win0_0.index t 0 * 512 + 1 * r.val = 512 * (t.val - 1) + r.val; rw [(at0 t).1]; omega
  | ⟨1, _⟩ => show win0_0.index t 1 * 1024 + 1 * k.val = k.val; rw [(at0 t).2]; omega

theorem at1 : ∀ t : Fin cfg0.N, win0_1.index t 0 = t.val - 1 ∧ win0_1.index t 1 = 0 :=
  (by decide +kernel : ∀ t : Fin grid0.N, win0_1.index t 0 = t.val - 1 ∧ win0_1.index t 1 = 0)

theorem blk1 (t : Fin cfg0.N) (r : Fin 512) (k : Fin 256) :
    (iblk m c 1 t : Vec Ideal S512x256 .bf16) (ix2 r k) = m (c, main_arg2) (ix2 ⟨512 * (t.val - 1) + r.val, by have := N33 t; omega⟩ ⟨k.val, by omega⟩) := by
  rw [← VA2 m c]
  unfold iblk
  rw [View.read_apply]
  show V m c main_arg2 _ = _
  congr 1
  funext a
  apply Fin.ext
  match a with
  | ⟨0, _⟩ => show win0_1.index t 0 * 512 + 1 * r.val = 512 * (t.val - 1) + r.val; rw [(at1 t).1]; omega
  | ⟨1, _⟩ => show win0_1.index t 1 * 256 + 1 * k.val = k.val; rw [(at1 t).2]; omega

theorem at2 : ∀ t : Fin cfg0.N, win0_2.index t 0 = t.val - 1 ∧ win0_2.index t 1 = 0 :=
  (by decide +kernel : ∀ t : Fin grid0.N, win0_2.index t 0 = t.val - 1 ∧ win0_2.index t 1 = 0)

theorem blk2 (t : Fin cfg0.N) (r : Fin 512) (k : Fin 768) :
    (iblk m c 2 t : Vec Ideal S512x768 .f32) (ix2 r k) = m (c, main_arg3) (ix2 ⟨512 * (t.val - 1) + r.val, by have := N33 t; omega⟩ ⟨k.val, by omega⟩) := by
  rw [← VA3 m c]
  unfold iblk
  rw [View.read_apply]
  show V m c main_arg3 _ = _
  congr 1
  funext a
  apply Fin.ext
  match a with
  | ⟨0, _⟩ => show win0_2.index t 0 * 512 + 1 * r.val = 512 * (t.val - 1) + r.val; rw [(at2 t).1]; omega
  | ⟨1, _⟩ => show win0_2.index t 1 * 768 + 1 * k.val = k.val; rw [(at2 t).2]; omega

theorem at3 : ∀ t : Fin cfg0.N, win0_3.index t 0 = (t.val - 1) * 64 - 1 ∧ win0_3.index t 1 = 0 :=
  (by decide +kernel : ∀ t : Fin grid0.N, win0_3.index t 0 = (t.val - 1) * 64 - 1 ∧ win0_3.index t 1 = 0)

theorem blk3 (t : Fin cfg0.N) (r : Fin 8) (k : Fin 768) :
    (iblk m c 3 t : Vec Ideal S8x768 .f32) (ix2 r k) = m (c, main_arg3) (ix2 ⟨8 * ((t.val - 1) * 64 - 1) + r.val, by have := N33 t; omega⟩ ⟨k.val, by omega⟩) := by
  rw [← VA3 m c]
  unfold iblk
  rw [View.read_apply]
  show V m c main_arg3 _ = _
  congr 1
  funext a
  apply Fin.ext
  match a with
  | ⟨0, _⟩ => show win0_3.index t 0 * 8 + 1 * r.val = 8 * ((t.val - 1) * 64 - 1) + r.val; rw [(at3 t).1]; omega
  | ⟨1, _⟩ => show win0_3.index t 1 * 768 + 1 * k.val = k.val; rw [(at3 t).2]; omega

theorem at4 : ∀ t : Fin cfg0.N, win0_4.index t 0 = 0 ∧ win0_4.index t 1 = 0 :=
  (by decide +kernel : ∀ t : Fin grid0.N, win0_4.index t 0 = 0 ∧ win0_4.index t 1 = 0)

theorem blk4 (t : Fin cfg0.N) (r : Fin 3) (k : Fin 256) :
    (iblk m c 4 t : Vec Ideal S3x256 .f32) (ix2 r k) = m (c, main_arg4) (ix3 1 r k) := by
  refine Eq.trans ?_ (V4 m c r k)
  unfold iblk
  rw [View.read_apply]
  show V m c main_v1 _ = _
  congr 1
  funext a
  apply Fin.ext
  match a with
  | ⟨0, _⟩ => show win0_4.index t 0 * 3 + 1 * r.val = r.val; rw [(at4 t).1]; omega
  | ⟨1, _⟩ => show win0_4.index t 1 * 256 + 1 * k.val = k.val; rw [(at4 t).2]; omega

theorem at5 : ∀ t : Fin cfg0.N, win0_5.index t 0 = 0 ∧ win0_5.index t 1 = 0 :=
  (by decide +kernel : ∀ t : Fin grid0.N, win0_5.index t 0 = 0 ∧ win0_5.index t 1 = 0)

theorem blk5 (t : Fin cfg0.N) (r : Fin 1024) (k : Fin 1024) :
    (iblk m c 5 t : Vec Ideal S1024x1024 .bf16) (ix2 r k) = m (c, main_arg5) (ix3 1 r k) := by
  refine Eq.trans ?_ (V5 m c r k)
  unfold iblk
  rw [View.read_apply]
  show V m c main_v4 _ = _
  congr 1
  funext a
  apply Fin.ext
  match a with
  | ⟨0, _⟩ => show win0_5.index t 0 * 1024 + 1 * r.val = r.val; rw [(at5 t).1]; omega
  | ⟨1, _⟩ => show win0_5.index t 1 * 1024 + 1 * k.val = k.val; rw [(at5 t).2]; omega

theorem at6 : ∀ t : Fin cfg0.N, win0_6.index t 0 = 0 ∧ win0_6.index t 1 = 0 :=
  (by decide +kernel : ∀ t : Fin grid0.N, win0_6.index t 0 = 0 ∧ win0_6.index t 1 = 0)

theorem blk6 (t : Fin cfg0.N) (r : Fin 3) (k : Fin 1024) :
    (iblk m c 6 t : Vec Ideal S3x1024 .f32) (ix2 r k) = m (c, main_arg6) (ix3 1 ⟨3 + r.val, by omega⟩ k) := by
  refine Eq.trans ?_ (V6 m c r k)
  unfold iblk
  rw [View.read_apply]
  show V m c main_v6 _ = _
  congr 1
  funext a
  apply Fin.ext
  match a with
  | ⟨0, _⟩ => show win0_6.index t 0 * 3 + 1 * r.val = r.val; rw [(at6 t).1]; omega
  | ⟨1, _⟩ => show win0_6.index t 1 * 1024 + 1 * k.val = k.val; rw [(at6 t).2]; omega

theorem at7 : ∀ t : Fin cfg0.N, win0_7.index t 0 = 0 ∧ win0_7.index t 1 = 0 :=
  (by decide +kernel : ∀ t : Fin grid0.N, win0_7.index t 0 = 0 ∧ win0_7.index t 1 = 0)

theorem blk7 (t : Fin cfg0.N) (r : Fin 1024) (k : Fin 2816) :
    (iblk m c 7 t : Vec Ideal S1024x2816 .bf16) (ix2 r k) = m (c, main_arg7) (ix3 1 r k) := by
  refine Eq.trans ?_ (V7 m c r k)
  unfold iblk
  rw [View.read_apply]
  show V m c main_v9 _ = _
  congr 1
  funext a
  apply Fin.ext
  match a with
  | ⟨0, _⟩ => show win0_7.index t 0 * 1024 + 1 * r.val = r.val; rw [(at7 t).1]; omega
  | ⟨1, _⟩ => show win0_7.index t 1 * 2816 + 1 * k.val = k.val; rw [(at7 t).2]; omega

theorem at8 : ∀ t : Fin cfg0.N, win0_8.index t 0 = 0 ∧ win0_8.index t 1 = 0 :=
  (by decide +kernel : ∀ t : Fin grid0.N, win0_8.index t 0 = 0 ∧ win0_8.index t 1 = 0)

theorem blk8 (t : Fin cfg0.N) (r : Fin 1024) (k : Fin 2816) :
    (iblk m c 8 t : Vec Ideal S1024x2816 .bf16) (ix2 r k) = m (c, main_arg8) (ix3 1 r k) := by
  refine Eq.trans ?_ (V8 m c r k)
  unfold iblk
  rw [View.read_apply]
  show V m c main_v12 _ = _
  congr 1
  funext a
  apply Fin.ext
  match a with
  | ⟨0, _⟩ => show win0_8.index t 0 * 1024 + 1 * r.val = r.val; rw [(at8 t).1]; omega
  | ⟨1, _⟩ => show win0_8.index t 1 * 2816 + 1 * k.val = k.val; rw [(at8 t).2]; omega

theorem at9 : ∀ t : Fin cfg0.N, win0_9.index t 0 = 0 ∧ win0_9.index t 1 = 0 :=
  (by decide +kernel : ∀ t : Fin grid0.N, win0_9.index t 0 = 0 ∧ win0_9.index t 1 = 0)

theorem blk9 (t : Fin cfg0.N) (r : Fin 2816) (k : Fin 1024) :
    (iblk m c 9 t : Vec Ideal S2816x1024 .bf16) (ix2 r k) = m (c, main_arg9) (ix3 1 r k) := by
  refine Eq.trans ?_ (V9 m c r k)
  unfold iblk
  rw [View.read_apply]
  show V m c main_v15 _ = _
  congr 1
  funext a
  apply Fin.ext
  match a with
  | ⟨0, _⟩ => show win0_9.index t 0 * 2816 + 1 * r.val = r.val; rw [(at9 t).1]; omega
  | ⟨1, _⟩ => show win0_9.index t 1 * 1024 + 1 * k.val = k.val; rw [(at9 t).2]; omega

theorem at10 : ∀ t : Fin cfg0.N, win0_10.index t 0 = min t.val 31 ∧ win0_10.index t 1 = 0 :=
  (by decide +kernel : ∀ t : Fin grid0.N, win0_10.index t 0 = min t.val 31 ∧ win0_10.index t 1 = 0)

theorem blk10 (t : Fin cfg0.N) (r : Fin 512) (k : Fin 512) :
    (iblk m c 10 t : Vec Ideal S512x512 .f32) (ix2 r k) = m (c, main_arg1) (ix2 ⟨512 * min t.val 31 + r.val, by have := N33 t; omega⟩ ⟨0 + k.val, by omega⟩) := by
  rw [← VA1 m c]
  unfold iblk
  rw [View.read_apply]
  show V m c main_arg1 _ = _
  congr 1
  funext a
  apply Fin.ext
  match a with
  | ⟨0, _⟩ => show win0_10.index t 0 * 512 + 1 * r.val = 512 * min t.val 31 + r.val; rw [(at10 t).1]; omega
  | ⟨1, _⟩ => show win0_10.index t 1 * 512 + 1 * k.val = 0 + k.val; rw [(at10 t).2]; omega

theorem at11 : ∀ t : Fin cfg0.N, win0_11.index t 0 = min t.val 31 ∧ win0_11.index t 1 = 1 :=
  (by decide +kernel : ∀ t : Fin grid0.N, win0_11.index t 0 = min t.val 31 ∧ win0_11.index t 1 = 1)

theorem blk11 (t : Fin cfg0.N) (r : Fin 512) (k : Fin 512) :
    (iblk m c 11 t : Vec Ideal S512x512 .f32) (ix2 r k) = m (c, main_arg1) (ix2 ⟨512 * min t.val 31 + r.val, by have := N33 t; omega⟩ ⟨512 + k.val, by omega⟩) := by
  rw [← VA1 m c]
  unfold iblk
  rw [View.read_apply]
  show V m c main_arg1 _ = _
  congr 1
  funext a
  apply Fin.ext
  match a with
  | ⟨0, _⟩ => show win0_11.index t 0 * 512 + 1 * r.val = 512 * min t.val 31 + r.val; rw [(at11 t).1]; omega
  | ⟨1, _⟩ => show win0_11.index t 1 * 512 + 1 * k.val = 512 + k.val; rw [(at11 t).2]; omega

theorem at12 : ∀ t : Fin cfg0.N, win0_12.index t 0 = min t.val 31 ∧ win0_12.index t 1 = 2 :=
  (by decide +kernel : ∀ t : Fin grid0.N, win0_12.index t 0 = min t.val 31 ∧ win0_12.index t 1 = 2)

theorem blk12 (t : Fin cfg0.N) (r : Fin 512) (k : Fin 512) :
    (iblk m c 12 t : Vec Ideal S512x512 .f32) (ix2 r k) = m (c, main_arg1) (ix2 ⟨512 * min t.val 31 + r.val, by have := N33 t; omega⟩ ⟨1024 + k.val, by omega⟩) := by
  rw [← VA1 m c]
  unfold iblk
  rw [View.read_apply]
  show V m c main_arg1 _ = _
  congr 1
  funext a
  apply Fin.ext
  match a with
  | ⟨0, _⟩ => show win0_12.index t 0 * 512 + 1 * r.val = 512 * min t.val 31 + r.val; rw [(at12 t).1]; omega
  | ⟨1, _⟩ => show win0_12.index t 1 * 512 + 1 * k.val = 1024 + k.val; rw [(at12 t).2]; omega

theorem at13 : ∀ t : Fin cfg0.N, win0_13.index t 0 = min t.val 31 ∧ win0_13.index t 1 = 3 :=
  (by decide +kernel : ∀ t : Fin grid0.N, win0_13.index t 0 = min t.val 31 ∧ win0_13.index t 1 = 3)

theorem blk13 (t : Fin cfg0.N) (r : Fin 512) (k : Fin 512) :
    (iblk m c 13 t : Vec Ideal S512x512 .f32) (ix2 r k) = m (c, main_arg1) (ix2 ⟨512 * min t.val 31 + r.val, by have := N33 t; omega⟩ ⟨1536 + k.val, by omega⟩) := by
  rw [← VA1 m c]
  unfold iblk
  rw [View.read_apply]
  show V m c main_arg1 _ = _
  congr 1
  funext a
  apply Fin.ext
  match a with
  | ⟨0, _⟩ => show win0_13.index t 0 * 512 + 1 * r.val = 512 * min t.val 31 + r.val; rw [(at13 t).1]; omega
  | ⟨1, _⟩ => show win0_13.index t 1 * 512 + 1 * k.val = 1536 + k.val; rw [(at13 t).2]; omega

theorem at14 : ∀ t : Fin cfg0.N, win0_14.index t 0 = 0 ∧ win0_14.index t 1 = 0 :=
  (by decide +kernel : ∀ t : Fin grid0.N, win0_14.index t 0 = 0 ∧ win0_14.index t 1 = 0)

theorem blk14 (t : Fin cfg0.N) (r : Fin 2) (k : Fin 512) :
    (iblk m c 14 t : Vec Ideal S2x512 .f32) (ix2 r k) = m (c, main_arg10) (ix2 r k) := by
  rw [← VA10 m c]
  unfold iblk
  rw [View.read_apply]
  show V m c main_arg10 _ = _
  congr 1
  funext a
  apply Fin.ext
  match a with
  | ⟨0, _⟩ => show win0_14.index t 0 * 2 + 1 * r.val = r.val; rw [(at14 t).1]; omega
  | ⟨1, _⟩ => show win0_14.index t 1 * 512 + 1 * k.val = k.val; rw [(at14 t).2]; omega

theorem at15 : ∀ t : Fin cfg0.N, win0_15.index t 0 = 0 ∧ win0_15.index t 1 = 0 :=
  (by decide +kernel : ∀ t : Fin grid0.N, win0_15.index t 0 = 0 ∧ win0_15.index t 1 = 0)

theorem blk15 (t : Fin cfg0.N) (r : Fin 1) (k : Fin 128) :
    (iblk m c 15 t : Vec Ideal S1x128 .f32) (ix2 r k) = m (c, main_arg11) (ix2 1 k) := by
  refine Eq.trans ?_ (V15 m c r k)
  unfold iblk
  rw [View.read_apply]
  show V m c main_v16 _ = _
  congr 1
  funext a
  apply Fin.ext
  match a with
  | ⟨0, _⟩ => show win0_15.index t 0 * 1 + 1 * r.val = r.val; rw [(at15 t).1]; omega
  | ⟨1, _⟩ => show win0_15.index t 1 * 128 + 1 * k.val = k.val; rw [(at15 t).2]; omega

end Hg.M
-- ==== Proof.Carry.lean ====
/-
  The scratches the mixing kernel carries between grid points: the states after each tile and the gated outputs of the tile.
-/
module

public import proofs.«01_k».proof.Proof.MixVal

@[expose] public section

noncomputable section

namespace Hg.M

open Idealize.ShloMosaic Idealize.ShloMosaic.TcCoe Cert.MixIdeal Cert.MixIdeal.Gen

variable (m : (ℓ : Loc nD τ sig) → Buf (Elt Ideal) ℓ) (c : Dev nD)

/-- The units' loads at grid point `t`. -/
def LL (t : Fin cfg0.N) : Loads Ideal := loads (ms0_10 t) (hs0_10 t) (ms0_11 t) (hs0_11 t) (ms0_12 t) (hs0_12 t) (ms0_13 t) (hs0_13 t) (ms0_14 t) (hs0_14 t) (ms0_15 t) (hs0_15 t) (iblk m c 10 t) (iblk m c 11 t) (iblk m c 12 t) (iblk m c 13 t) (iblk m c 14 t) (iblk m c 15 t)

/-- The tail's loads at grid point `t`. -/
def TL (t : Fin cfg0.N) (oh : FVec Ideal S512x512 .bf16) : TLoads Ideal := tloads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) (iblk m c 9 t) oh

theorem oh_A (t : Fin cfg0.N) (h0 : t.val % 33 = 0) : (outsAt0 m c t.val t.isLt).2.1 = View.canon (poA (LL m c t) scM0_1 8) := by
  have e : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = View.canon (poA (LL m c t) scM0_1 8) := by
    unfold sout0_A_0
    exact (View.read_writes_eq_canon VS0_0 VS0_0.junk _ (fun y => scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y)).trans (congrArg View.canon (runA_oh c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)))
  exact (congrArg (fun o => o.2.1) (outsAt0_A m c t h0)).trans e

theorem st_A (t : Fin cfg0.N) (h0 : t.val % 33 = 0) : (outsAt0 m c t.val t.isLt).2.2 = View.canon (psA (LL m c t) scM0_1 8) := by
  have e : sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = View.canon (psA (LL m c t) scM0_1 8) := by
    unfold sout0_A_1
    exact (View.read_writes_eq_canon VS0_1 VS0_1.junk _ (fun y => scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y)).trans (congrArg View.canon (runA_st c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)))
  exact (congrArg (fun o => o.2.2) (outsAt0_A m c t h0)).trans e

/-- The states a later grid point reads. -/
def s0 (t : Fin cfg0.N) (h : Fin 4) : FVec Ideal S1x128x128 .f32 :=
  View.readAt (Elt Ideal) scM0_1.view (rS h).toLoadRect ((Memref.isWhole_whole _ : scM0_1.IsWhole).unread (outsAt0 m c (t.val - 1) (Nat.lt_of_le_of_lt (Nat.sub_le _ _) t.isLt)).2.2)

theorem oh_B (t : Fin cfg0.N) (h0 : ¬t.val % 33 = 0) : (outsAt0 m c t.val t.isLt).2.1 = View.canon (poB (LL m c t) scM0_1 (s0 m c t) 8) := by
  have e : sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2 = View.canon (poB (LL m c t) scM0_1 (s0 m c t) 8) := by
    unfold sout0_B_0
    exact (View.read_writes_eq_canon VS0_0 VS0_0.junk _ (fun y => scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2 y)).trans (congrArg View.canon (runB_oh c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2))
  exact (congrArg (fun o => o.2.1) (outsAt0_B m c t h0)).trans e

theorem st_B (t : Fin cfg0.N) (h0 : ¬t.val % 33 = 0) : (outsAt0 m c t.val t.isLt).2.2 = View.canon (psB (LL m c t) scM0_1 (s0 m c t) 8) := by
  have e : sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2 = View.canon (psB (LL m c t) scM0_1 (s0 m c t) 8) := by
    unfold sout0_B_1
    exact (View.read_writes_eq_canon VS0_1 VS0_1.junk _ (fun y => scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2 y)).trans (congrArg View.canon (runB_st c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2))
  exact (congrArg (fun o => o.2.2) (outsAt0_B m c t h0)).trans e

/-- The outputs a later grid point reads. -/
def oh0 (t : Fin cfg0.N) : FVec Ideal S512x512 .bf16 :=
  View.readAt (Elt Ideal) scM0_0.view (Rect.unit (s := S512x512) ![0, 0] S512x512.size inb_S512x512_S512x512_0_0).toLoadRect
    ((Memref.isWhole_whole _ : scM0_0.IsWhole).unread (outsAt0 m c (t.val - 1) (Nat.lt_of_le_of_lt (Nat.sub_le _ _) t.isLt)).2.1)

theorem hz2 : (![0, 0] : Fin 2 → ℕ) = fun _ => 0 := funext fun a => by fin_cases a <;> rfl

theorem out_B (t : Fin cfg0.N) (h0 : ¬t.val % 33 = 0) : out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2 = tailOut (TL m c t (oh0 m c t)) (grid0.coords t) := by
    unfold out0_B_16
    exact (View.read_writes_eq_canon VO0_16 VO0_16.junk _ (fun y => cover0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2 y)).trans
      ((congrArg View.canon (runB_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2)).trans (View.canon_unit_zero (Val := Elt Ideal) (S := S512x1024) (e := .f32) hz2 inb_S512x1024_S512x1024_0_0 (tailOut (TL m c t (oh0 m c t)) (grid0.coords t))))

theorem flushed_B (t : Fin cfg0.N) (h0 : ¬t.val % 33 = 0) : (dats m 0 c).flushed 16 t = (cfg0.win 16).cut (grid0.coords t) (tailOut (TL m c t (oh0 m c t)) (grid0.coords t)) :=
  (Cert.MixIdeal.Value.flushed16_B m c t h0).trans (congrArg ((cfg0.win 16).cut (grid0.coords t)) (out_B m c t h0))

/-! ## What the loads hold -/

section ld
variable {a : Memref sig .tc .vmem S512x512 .f32} (ha : a.IsWhole) (x : Vec Ideal S512x512 .f32)
theorem rdB_at (rb : Fin 2) (h : Fin 4) (r : Fin 256) (j : Fin 128) : rdB a ha x rb h (ix2 r j) = x (ix2 ⟨256 * rb.val + r.val, by omega⟩ ⟨128 * h.val + j.val, by omega⟩) := by
  unfold rdB
  rw [View.readAt_eq_ld, ha.read_unread]
  refine congrArg x (funext fun b => Fin.ext ?_)
  match b with
  | ⟨0, _⟩ => show 256 * rb.val + 1 * r.val = 256 * rb.val + r.val; omega
  | ⟨1, _⟩ => show 128 * h.val + 1 * j.val = 128 * h.val + j.val; omega
end ld

theorem lbOf_at (lb : FVec Ideal S1x512 .f32) (h : Fin 4) (t : Fin 1) (j : Fin 128) : lbOf lb h (ix2 t j) = lb (ix2 0 ⟨128 * h.val + j.val, by omega⟩) := by
  unfold lbOf
  refine extractStridedSlice_apply _ _ _ _ _ fun b => ?_
  match b with
  | ⟨0, _⟩ => show 0 = 0 + t.val; omega
  | ⟨1, _⟩ => rfl

theorem wn_at {a : Memref sig .tc .vmem S1x128 .f32} (ha : a.IsWhole) (x : Vec Ideal S1x128 .f32) (j : Fin 128) :
    shapeCast S1x128 (View.readAt (Elt Ideal) a.view (Rect.unit (s := S1x128) ![0, 0] S1x128.size inb_S1x128_S1x128_0_0).toLoadRect (ha.unread x)) shapeCasts_S1x128_S1x128 (ix2 0 j) = x (ix2 0 j) := by
  refine (congrFun (shapeCast_self (s := S1x128) _ _) _).trans ?_
  rw [View.readAt_eq_ld, ha.read_unread]
  exact congrFun (View.ld_unit_zero (Val := Elt Ideal) hz2 _ x) _

theorem lbraw {a : Memref sig .tc .vmem S2x512 .f32} (ha : a.IsWhole) (x : Vec Ideal S2x512 .f32) :
    View.readAt (Elt Ideal) a.view (Rect.unit (s := S2x512) ![0, 0] S2x512.size inb_S2x512_S2x512_0_0).toLoadRect (ha.unread x) = x := by
  rw [View.readAt_eq_ld, ha.read_unread]
  exact View.ld_unit_zero (Val := Elt Ideal) hz2 _ x

theorem fold_two (f : Fin 2 → EReal) (b : EReal) : Finset.fold max b f Finset.univ = max (f 0) (max (f 1) b) := rfl

theorem fold_real (f : Fin 2 → EReal) (p q : ℝ) (h0 : f 0 = (p : EReal)) (h1 : f 1 = (q : EReal)) :
    Finset.fold max (Ideal.ofBits FTy.f32 4286578688#32) f Finset.univ = ((max p q : ℝ) : EReal) := by
  have e : Ideal.ofBits FTy.f32 4286578688#32 = ⊥ := by simp [Ideal.ofBits, Ideal.ieee]
  rw [fold_two, h0, h1, e, max_eq_left bot_le]
  exact (EReal.coe_strictMono.monotone.map_max).symm

theorem exp_sub_coe (p μ : ℝ) : Ideal.exp ((p : EReal) - (μ : EReal)) = ((Real.exp (p - μ) : ℝ) : EReal) := by
  rw [← EReal.coe_sub]
  rfl

theorem soft_sum (p q μ : ℝ) : Ideal.exp ((p : EReal) - (μ : EReal)) + Ideal.exp ((q : EReal) - (μ : EReal)) = ((Real.exp (p - μ) + Real.exp (q - μ) : ℝ) : EReal) := by
  rw [exp_sub_coe, exp_sub_coe, EReal.coe_add]

theorem soft_coe (x p q μ : ℝ) : Ideal.div (Ideal.exp ((x : EReal) - (μ : EReal))) (Ideal.exp ((p : EReal) - (μ : EReal)) + Ideal.exp ((q : EReal) - (μ : EReal)))
    = ((Real.exp (x - μ) / (Real.exp (p - μ) + Real.exp (q - μ)) : ℝ) : EReal) := by
  rw [soft_sum, exp_sub_coe]
  exact ideal_div _ _ (add_pos (Real.exp_pos _) (Real.exp_pos _)).ne'

theorem soft_second (p q μ : ℝ) : Real.exp (q - μ) / (Real.exp (p - μ) + Real.exp (q - μ)) = Sp.second p q := by
  unfold Sp.second
  rw [Real.exp_sub, Real.exp_sub, ← add_div, div_div_div_cancel_right₀ (Real.exp_ne_zero _)]

theorem pay15_at (x : Vec Ideal S2x512 .f32) (k : Fin 512) (p q : ℝ) (h0 : x (ix2 0 k) = (p : EReal)) (h1 : x (ix2 1 k) = (q : EReal)) :
    k0_pay15 x (ix2 0 k) = ((Sp.second p q : ℝ) : EReal) := by
  unfold k0_pay15
  pointwise
  simp only [Fin.sum_univ_two]
  rw [fold_real (fun i => x (ix2 i k)) p q h0 h1, h0, h1, soft_coe, soft_coe, ← EReal.coe_add, ← EReal.coe_sub, add_sub_cancel_left, soft_second]

end Hg.M
-- ==== Proof.MixInv.lean ====
/-
  What a tile of the mixing kernel leaves in its scratches: the states after its tokens and their gated outputs, by induction over the tiles.
-/
module

public import proofs.«01_k».proof.Proof.Carry

@[expose] public section

noncomputable section

namespace Hg.M

open Idealize.ShloMosaic Idealize.ShloMosaic.TcCoe Cert.MixIdeal Cert.MixIdeal.Gen

variable (m : (ℓ : Loc nD τ sig) → Buf (Elt Ideal) ℓ) (c : Dev nD)

/-! ## The invariant -/

theorem hz3 : (![0, 0, 0] : Fin 3 → ℕ) = fun _ => 0 := funext fun a => by fin_cases a <;> rfl

section inv
/-- A head's data, of the arguments in memory. -/
abbrev Hd (h : Fin 4) : HeadData := Sp.HD (m (c, main_arg1)) (m (c, main_arg10)) h

variable (hT : Sp.Tame (m (c, main_arg1)) (m (c, main_arg10)))
include hT

omit hT in
theorem LL_lb (t : Fin cfg0.N) : (LL m c t).lb = k0_pay15 (iblk m c 14 t) := congrArg k0_pay15 (lbraw (hs0_14 t) (iblk m c 14 t))

theorem zr_at (n : ℕ) (hn : n < 16384) (k : ℕ) (hk : k < 1536) : m (c, main_arg1) (ix2 ⟨n, hn⟩ ⟨k, by omega⟩) = ((Sp.zr (m (c, main_arg1)) n k : ℝ) : EReal) := by
  refine (hT.fin _ _ hk).trans (congrArg _ (Sp.zr_eq _ ⟨n, hn⟩ ⟨k, by omega⟩).symm)

theorem holds (t : Fin cfg0.N) (ht : t.val < 32) : Holds (LL m c t) (Hd m c) (512 * t.val) := by
  have hm : min t.val 31 = t.val := by omega
  refine ⟨fun rb h r j => ?_, fun rb h r j => ?_, fun rb h r j => ?_, fun h r j => ?_⟩
  · refine (rdB_at _ _ rb h r j).trans ((blk10 m c t _ _).trans ?_)
    refine Eq.trans ?_ (zr_at m c hT (512 * t.val + 256 * rb.val + r.val) (by omega) (128 * h.val + j.val % 128) (by omega))
    refine congrArg (m (c, main_arg1)) (congrArg₂ ix2 (Fin.ext ?_) (Fin.ext ?_))
    · show 512 * min t.val 31 + (256 * rb.val + r.val) = _; rw [hm]; show _ = 512 * t.val + 256 * rb.val + r.val; omega
    · show 0 + (128 * h.val + j.val) = 128 * h.val + j.val % 128; omega
  · refine (rdB_at _ _ rb h r j).trans ((blk11 m c t _ _).trans ?_)
    refine Eq.trans ?_ (zr_at m c hT (512 * t.val + 256 * rb.val + r.val) (by omega) (512 + (128 * h.val + j.val % 128)) (by omega))
    refine congrArg (m (c, main_arg1)) (congrArg₂ ix2 (Fin.ext ?_) (Fin.ext ?_))
    · show 512 * min t.val 31 + (256 * rb.val + r.val) = _; rw [hm]; show _ = 512 * t.val + 256 * rb.val + r.val; omega
    · show 512 + (128 * h.val + j.val) = 512 + (128 * h.val + j.val % 128); omega
  · refine (rdB_at _ _ rb h r j).trans ((blk12 m c t _ _).trans ?_)
    refine Eq.trans ?_ (zr_at m c hT (512 * t.val + 256 * rb.val + r.val) (by omega) (1024 + (128 * h.val + j.val % 128)) (by omega))
    refine congrArg (m (c, main_arg1)) (congrArg₂ ix2 (Fin.ext ?_) (Fin.ext ?_))
    · show 512 * min t.val 31 + (256 * rb.val + r.val) = _; rw [hm]; show _ = 512 * t.val + 256 * rb.val + r.val; omega
    · show 1024 + (128 * h.val + j.val) = 1024 + (128 * h.val + j.val % 128); omega
  · refine (lbOf_at _ h r j).trans ((congrFun (LL_lb m c t) _).trans ?_)
    have e : (⟨128 * h.val + j.val % 128, by omega⟩ : Fin 512) = ⟨128 * h.val + j.val, by omega⟩ := Fin.ext (congrArg (128 * h.val + ·) (Nat.mod_eq_of_lt j.isLt))
    refine (pay15_at _ _ _ _ ((blk14 m c t 0 _).trans (hT.lb 0 _)) ((blk14 m c t 1 _).trans (hT.lb 1 _))).trans ?_
    show _ = (((Sp.second _ _ : ℝ)) : EReal)
    rw [e]

omit hT in
/-- The gates of a tile's tokens. -/
theorem g_at (t : Fin cfg0.N) (ht : t.val < 32) (rb : Fin 2) (h : Fin 4) (r : Fin 256) (j : Fin 128) :
    (LL m c t).g rb h (ix2 r j) = m (c, main_arg1) (ix2 ⟨512 * t.val + 256 * rb.val + r.val, by omega⟩ ⟨1536 + (128 * h.val + j.val), by omega⟩) := by
  have hm : min t.val 31 = t.val := by omega
  refine (rdB_at _ _ rb h r j).trans ((blk13 m c t _ _).trans ?_)
  refine congrArg (m (c, main_arg1)) (congrArg₂ ix2 (Fin.ext ?_) rfl)
  show 512 * min t.val 31 + (256 * rb.val + r.val) = _; rw [hm]; show _ = 512 * t.val + 256 * rb.val + r.val; omega

omit hT in
theorem wn_at' (t : Fin cfg0.N) (j : Fin 128) : (LL m c t).wn (ix2 0 j) = m (c, main_arg11) (ix2 1 j) :=
  (wn_at _ _ j).trans (blk15 m c t 0 j)

/-- The states after a tile. -/
def StOk (t : Fin cfg0.N) : Prop := ∀ (h : Fin 4) (j k : Fin 128), (outsAt0 m c t.val t.isLt).2.2 (ix3 h j k) = (((Hd m c h).st (512 * t.val + 512) k.val j.val : ℝ) : EReal)

/-- The gated outputs of a tile. -/
def OhOk (t : Fin cfg0.N) : Prop := ∀ (r : Fin 512) (k : Fin 512) (hr : 512 * t.val + r.val < 16384), (outsAt0 m c t.val t.isLt).2.1 (ix2 r k) = Sp.hgRow (m (c, main_arg1)) (m (c, main_arg10)) (m (c, main_arg11)) ⟨512 * t.val + r.val, hr⟩ k

omit hT in
theorem readS (x : Vec Ideal S4x128x128 .f32) (h : Fin 4) (y : S1x128x128.Idx) :
    View.readAt (Elt Ideal) scM0_1.view (rS h).toLoadRect ((Memref.isWhole_whole _ : scM0_1.IsWhole).unread x) y = x ((rS h).emb y) := by
  rw [View.readAt_eq_ld, Memref.IsWhole.read_unread]
  rfl

omit hT in
theorem emb_rS (h : Fin 4) (j k : Fin 128) : (rS h).emb (ix3 0 j k) = ix3 h j k := by
  funext a
  apply Fin.ext
  match a with
  | ⟨0, _⟩ => show h.val + 1 * 0 = h.val; omega
  | ⟨1, _⟩ => show 0 + 1 * j.val = j.val; omega
  | ⟨2, _⟩ => show 0 + 1 * k.val = k.val; omega

omit hT in
theorem emb_rB (rb : Fin 2) (h : Fin 4) (r : Fin 256) (j : Fin 128) :
    (rB rb h).emb (ix2 r j) = (ix2 ⟨256 * rb.val + r.val, by omega⟩ ⟨128 * h.val + j.val, by omega⟩ : S512x512.Idx) := by
  funext a
  apply Fin.ext
  match a with
  | ⟨0, _⟩ => exact congrArg (256 * rb.val + ·) (one_mul r.val)
  | ⟨1, _⟩ => exact congrArg (128 * h.val + ·) (one_mul j.val)

omit hT in
theorem readCov_rS (P : List (View.Piece (Elt Ideal) S4x128x128 .f32)) (h : Fin 4) (x : S1x128x128.Idx) :
    scM0_1.view.readCov P (rS h).toLoadRect x = View.canon P ((rS h).emb x) :=
  (congrFun (View.readCov_eq_canon' scM0_1.view P (rS h).toLoadRect) x).trans rfl

/-- What a tile leaves, from the states it starts from. -/
theorem tile_of (t : Fin cfg0.N) (ht : t.val < 32) (P : ℕ → List (View.Piece (Elt Ideal) S4x128x128 .f32)) (Q : ℕ → List (View.Piece (Elt Ideal) S512x512 .bf16)) (I : ℕ → FVec Ideal S1x128x128 .f32)
    (hP : ∀ u, P (u + 1) = pcS (LL m c t) u (I u) :: P u) (hI : ∀ u, 4 ≤ u → u < 8 → ∀ x, I u x = View.canon (P u) ((rS (uH u)).emb x))
    (h0 : ∀ u, u < 4 → RS (I u) (Hd m c (uH u)) (512 * t.val)) (hQ : ∀ u, Q (u + 1) = pcO (LL m c t) u (I u) :: Q u)
    (e1 : (outsAt0 m c t.val t.isLt).2.2 = View.canon (P 8)) (e0 : (outsAt0 m c t.val t.isLt).2.1 = View.canon (Q 8)) : StOk m c t ∧ OhOk m c t := by
  have hG : ∀ h, (Hd m c h).Good := fun h => Sp.HD_good _ _ hT h
  refine ⟨fun h j k => ?_, fun r k hr => ?_⟩
  · rw [e1]
    exact (congrArg (View.canon (P 8)) (emb_rS h j k)).symm.trans (st_after (holds m c hT t ht) hG P I hP hI h0 h j k)
  · rw [e0]
    have hrb : r.val / 256 < 2 := by omega
    have hh : k.val / 128 < 4 := by omega
    have ei : (ix2 r k : S512x512.Idx) = (rB ⟨r.val / 256, hrb⟩ ⟨k.val / 128, hh⟩).emb (ix2 ⟨r.val % 256, by omega⟩ ⟨k.val % 128, by omega⟩) := by
      refine Eq.trans ?_ (emb_rB _ _ _ _).symm
      exact congrArg₂ ix2 (Fin.ext (by show r.val = 256 * (r.val / 256) + r.val % 256; omega)) (Fin.ext (by show k.val = 128 * (k.val / 128) + k.val % 128; omega))
    refine (congrArg (View.canon (Q 8)) ei).trans ((oh_after (holds m c hT t ht) hG P I hP hI h0 Q hQ _ _ _ _).trans ?_)
    unfold Sp.hgRow
    have en : 512 * t.val + 256 * (r.val / 256) + r.val % 256 = 512 * t.val + r.val := by omega
    have a1 : (fun j : Fin 128 => (((Hd m c ⟨k.val / 128, hh⟩).out (512 * t.val + 256 * (r.val / 256) + r.val % 256) j.val : ℝ) : EReal)) = fun j => (((Hd m c ⟨k.val / 128, hh⟩).out (512 * t.val + r.val) j.val : ℝ) : EReal) := by rw [en]
    have a2 : (fun j : Fin 128 => (LL m c t).g ⟨r.val / 256, hrb⟩ ⟨k.val / 128, hh⟩ (ix2 ⟨r.val % 256, by omega⟩ j)) = fun j => m (c, main_arg1) (ix2 ⟨512 * t.val + r.val, hr⟩ ⟨1536 + (128 * (k.val / 128) + j.val), by omega⟩) := by
      funext j
      refine (g_at m c t ht _ _ _ _).trans ?_
      exact congrArg (m (c, main_arg1)) (congrArg₂ ix2 (Fin.ext en) rfl)
    have a3 : (fun j : Fin 128 => (LL m c t).wn (ix2 0 j)) = fun j => m (c, main_arg11) (ix2 1 j) := funext fun j => wn_at' m c t j
    rw [a1, a2, a3]

theorem tile_first (t : Fin cfg0.N) (ht : t.val = 0) : StOk m c t ∧ OhOk m c t := by
  have h33 : t.val % 33 = 0 := by omega
  refine tile_of m c hT t (by omega) (psA (LL m c t) scM0_1) (poA (LL m c t) scM0_1) (fun u => scM0_1.view.readCov (psA (LL m c t) scM0_1 u) (rS (uH u)).toLoadRect)
    (fun u => rfl) (fun u _ _ x => readCov_rS _ _ x) (fun u hu j k => ?_) (fun u => rfl) (st_A m c t h33) (oh_A m c t h33)
  refine (readCov_rS _ _ _).trans ?_
  refine (canon_base (F := Ideal) (psA (LL m c t) scM0_1) (fun u => (pcS (LL m c t) u (scM0_1.view.readCov (psA (LL m c t) scM0_1 u) (rS (uH u)).toLoadRect)).2) (fun u => rfl) u hu _ u le_rfl).trans ?_
  refine (congrFun (View.canon_unit_zero (Val := Elt Ideal) (S := S4x128x128) (e := .f32) hz3 inb_S4x128x128_S4x128x128_0_0_0 (shapeCast S4x128x128 (zer (F := Ideal) S4x128x128) shapeCasts_S4x128x128_S4x128x128)) _).trans ?_
  refine (congrFun (shapeCast_self (s := S4x128x128) _ _) _).trans ?_
  rw [ht]
  show Ideal.ofBits .f32 0x00000000#32 = ((0 : ℝ) : EReal)
  simp [Ideal.ofBits, Ideal.ieee]

theorem tile_next (t : Fin cfg0.N) (ht : t.val < 32) (hpos : 0 < t.val) (t' : Fin cfg0.N) (htt : t'.val = t.val - 1) (hs : StOk m c t') : StOk m c t ∧ OhOk m c t := by
  have h33 : ¬t.val % 33 = 0 := by omega
  refine tile_of m c hT t ht (psB (LL m c t) scM0_1 (s0 m c t)) (poB (LL m c t) scM0_1 (s0 m c t)) (fun u => inB scM0_1 (s0 m c t) (psB (LL m c t) scM0_1 (s0 m c t) u) u)
    (fun u => rfl) (fun u h4 _ x => ?_) (fun u hu j k => ?_) (fun u => rfl) (st_B m c t h33) (oh_B m c t h33)
  · have : inB scM0_1 (s0 m c t) (psB (LL m c t) scM0_1 (s0 m c t) u) u = scM0_1.view.readCov (psB (LL m c t) scM0_1 (s0 m c t) u) (rS (uH u)).toLoadRect := if_neg (by omega)
    exact (congrFun this x).trans (readCov_rS _ _ x)
  · have : inB scM0_1 (s0 m c t) (psB (LL m c t) scM0_1 (s0 m c t) u) u = s0 m c t (uH u) := if_pos hu
    refine (congrFun this _).trans ?_
    obtain ⟨n', hn'⟩ := t'
    have htt : n' = t.val - 1 := htt
    subst htt
    refine (readS _ _ _).trans ((congrArg _ (emb_rS _ _ _)).trans ((hs _ _ _).trans ?_))
    show (((Hd m c (uH u)).st (512 * (t.val - 1) + 512) k.val j.val : ℝ) : EReal) = _
    rw [show 512 * (t.val - 1) + 512 = 512 * t.val by omega]

/-- Every tile leaves the states after its tokens, and their gated outputs. -/
theorem tiles : ∀ (n : ℕ) (t : Fin cfg0.N), t.val = n → n < 32 → StOk m c t ∧ OhOk m c t
  | 0, t, h, _ => tile_first m c hT t h
  | n + 1, t, h, hn => by
    have hN := t.isLt
    exact tile_next m c hT t (by omega) (by omega) ⟨n, by omega⟩ (by show n = t.val - 1; omega) (tiles n ⟨n, by omega⟩ rfl (by omega)).1

end inv

end Hg.M
-- ==== Proof.MixOut.lean ====
/-
  The mixing kernel's result, row by row.
-/
module

public import proofs.«01_k».proof.Proof.MixInv
public import proofs.«01_k».proof.Proof.TailRow

@[expose] public section

noncomputable section

namespace Hg.M

open Idealize.ShloMosaic Idealize.ShloMosaic.TcCoe Cert.MixIdeal Cert.MixIdeal.Gen

variable (m : (ℓ : Loc nD τ sig) → Buf (Elt Ideal) ℓ) (c : Dev nD)

/-! ## The tail's loads -/

theorem ld_x (t : Fin cfg0.N) (oh : FVec Ideal S512x512 .bf16) : (TL m c t oh).x = iblk m c 0 t := by
  show View.readAt (Elt Ideal) (ms0_0 t).view (Rect.unit (s := S512x1024) ![0, 0] S512x1024.size inb_S512x1024_S512x1024_0_0).toLoadRect ((hs0_0 t).unread (iblk m c 0 t)) = _
  rw [View.readAt_eq_ld, (hs0_0 t).read_unread]
  exact View.ld_unit_zero (Val := Elt Ideal) hz2 _ _

theorem ld_oa (t : Fin cfg0.N) (oh : FVec Ideal S512x512 .bf16) : (TL m c t oh).oa = iblk m c 1 t := by
  show View.readAt (Elt Ideal) (ms0_1 t).view (Rect.unit (s := S512x256) ![0, 0] S512x256.size inb_S512x256_S512x256_0_0).toLoadRect ((hs0_1 t).unread (iblk m c 1 t)) = _
  rw [View.readAt_eq_ld, (hs0_1 t).read_unread]
  exact View.ld_unit_zero (Val := Elt Ideal) hz2 _ _

theorem ld_zc (t : Fin cfg0.N) (oh : FVec Ideal S512x512 .bf16) : (TL m c t oh).zc = iblk m c 2 t := by
  show View.readAt (Elt Ideal) (ms0_2 t).view (Rect.unit (s := S512x768) ![0, 0] S512x768.size inb_S512x768_S512x768_0_0).toLoadRect ((hs0_2 t).unread (iblk m c 2 t)) = _
  rw [View.readAt_eq_ld, (hs0_2 t).read_unread]
  exact View.ld_unit_zero (Val := Elt Ideal) hz2 _ _

theorem ld_zp (t : Fin cfg0.N) (oh : FVec Ideal S512x512 .bf16) : (TL m c t oh).zp = iblk m c 3 t := by
  show View.readAt (Elt Ideal) (ms0_3 t).view (Rect.unit (s := S8x768) ![0, 0] S8x768.size inb_S8x768_S8x768_0_0).toLoadRect ((hs0_3 t).unread (iblk m c 3 t)) = _
  rw [View.readAt_eq_ld, (hs0_3 t).read_unread]
  exact View.ld_unit_zero (Val := Elt Ideal) hz2 _ _

theorem ld_cw (t : Fin cfg0.N) (oh : FVec Ideal S512x512 .bf16) : (TL m c t oh).cw = iblk m c 4 t := by
  show View.readAt (Elt Ideal) (ms0_4 t).view (Rect.unit (s := S3x256) ![0, 0] S3x256.size inb_S3x256_S3x256_0_0).toLoadRect ((hs0_4 t).unread (iblk m c 4 t)) = _
  rw [View.readAt_eq_ld, (hs0_4 t).read_unread]
  exact View.ld_unit_zero (Val := Elt Ideal) hz2 _ _

theorem ld_w0 (t : Fin cfg0.N) (oh : FVec Ideal S512x512 .bf16) (k : Fin 512) (j : Fin 1024) : (TL m c t oh).w0 (ix2 k j) = m (c, main_arg5) (ix3 1 ⟨0 + k.val, by omega⟩ j) := by
  show View.readAt (Elt Ideal) (ms0_5 t).view (Rect.unit (s := S1024x1024) ![0, 0] S512x1024.size inb_S1024x1024_S512x1024_0_0).toLoadRect ((hs0_5 t).unread (iblk m c 5 t)) (ix2 k j) = _
  rw [View.readAt_eq_ld, (hs0_5 t).read_unread]
  refine Eq.trans ?_ (blk5 m c t ⟨0 + k.val, by omega⟩ j)
  refine congrArg (iblk m c 5 t) (funext fun b => Fin.ext ?_)
  match b with
  | ⟨0, _⟩ => show 0 + 1 * k.val = 0 + k.val; omega
  | ⟨1, _⟩ => show 0 + 1 * j.val = j.val; omega

theorem ld_w1 (t : Fin cfg0.N) (oh : FVec Ideal S512x512 .bf16) (k : Fin 256) (j : Fin 1024) : (TL m c t oh).w1 (ix2 k j) = m (c, main_arg5) (ix3 1 ⟨512 + k.val, by omega⟩ j) := by
  show View.readAt (Elt Ideal) (ms0_5 t).view (Rect.unit (s := S1024x1024) ![512, 0] S256x1024.size inb_S1024x1024_S256x1024_512_0).toLoadRect ((hs0_5 t).unread (iblk m c 5 t)) (ix2 k j) = _
  rw [View.readAt_eq_ld, (hs0_5 t).read_unread]
  refine Eq.trans ?_ (blk5 m c t ⟨512 + k.val, by omega⟩ j)
  refine congrArg (iblk m c 5 t) (funext fun b => Fin.ext ?_)
  match b with
  | ⟨0, _⟩ => show 512 + 1 * k.val = 512 + k.val; omega
  | ⟨1, _⟩ => show 0 + 1 * j.val = j.val; omega

theorem ld_w2 (t : Fin cfg0.N) (oh : FVec Ideal S512x512 .bf16) (k : Fin 256) (j : Fin 1024) : (TL m c t oh).w2 (ix2 k j) = m (c, main_arg5) (ix3 1 ⟨768 + k.val, by omega⟩ j) := by
  show View.readAt (Elt Ideal) (ms0_5 t).view (Rect.unit (s := S1024x1024) ![768, 0] S256x1024.size inb_S1024x1024_S256x1024_768_0).toLoadRect ((hs0_5 t).unread (iblk m c 5 t)) (ix2 k j) = _
  rw [View.readAt_eq_ld, (hs0_5 t).read_unread]
  refine Eq.trans ?_ (blk5 m c t ⟨768 + k.val, by omega⟩ j)
  refine congrArg (iblk m c 5 t) (funext fun b => Fin.ext ?_)
  match b with
  | ⟨0, _⟩ => show 768 + 1 * k.val = 768 + k.val; omega
  | ⟨1, _⟩ => show 0 + 1 * j.val = j.val; omega

theorem ld_n (t : Fin cfg0.N) (oh : FVec Ideal S512x512 .bf16) (i : Fin 3) (j : Fin 1024) : (TL m c t oh).n i (ix2 0 j) = m (c, main_arg6) (ix3 1 ⟨3 + i.val, by omega⟩ j) := by
  show View.readAt (Elt Ideal) (ms0_6 t).view (Rect.unit (s := S3x1024) ![i.val, 0] S1x1024.size (inb_n i)).toLoadRect ((hs0_6 t).unread (iblk m c 6 t)) (ix2 0 j) = _
  rw [View.readAt_eq_ld, (hs0_6 t).read_unread]
  refine Eq.trans ?_ (blk6 m c t i j)
  refine congrArg (iblk m c 6 t) (funext fun b => Fin.ext ?_)
  match b with
  | ⟨0, _⟩ => show i.val + 1 * 0 = i.val; omega
  | ⟨1, _⟩ => show 0 + 1 * j.val = j.val; omega

theorem ld_fg (t : Fin cfg0.N) (oh : FVec Ideal S512x512 .bf16) (n : ℕ) (hn : n < 11) (i : Fin 1024) (k : Fin 256) : (TL m c t oh).fg n (ix2 i k) = m (c, main_arg7) (ix3 1 i ⟨256 * n + k.val, by omega⟩) := by
  show View.readAt (Elt Ideal) (ms0_7 t).view (Rect.unit (s := S1024x2816) ![0, n % 11 * 256] S1024x256.size (inb_col n)).toLoadRect ((hs0_7 t).unread (iblk m c 7 t)) (ix2 i k) = _
  rw [View.readAt_eq_ld, (hs0_7 t).read_unread]
  refine Eq.trans ?_ (blk7 m c t i ⟨256 * n + k.val, by omega⟩)
  refine congrArg (iblk m c 7 t) (funext fun b => Fin.ext ?_)
  match b with
  | ⟨0, _⟩ => show 0 + 1 * i.val = i.val; omega
  | ⟨1, _⟩ => show n % 11 * 256 + 1 * k.val = 256 * n + k.val; omega

theorem ld_fu (t : Fin cfg0.N) (oh : FVec Ideal S512x512 .bf16) (n : ℕ) (hn : n < 11) (i : Fin 1024) (k : Fin 256) : (TL m c t oh).fu n (ix2 i k) = m (c, main_arg8) (ix3 1 i ⟨256 * n + k.val, by omega⟩) := by
  show View.readAt (Elt Ideal) (ms0_8 t).view (Rect.unit (s := S1024x2816) ![0, n % 11 * 256] S1024x256.size (inb_col n)).toLoadRect ((hs0_8 t).unread (iblk m c 8 t)) (ix2 i k) = _
  rw [View.readAt_eq_ld, (hs0_8 t).read_unread]
  refine Eq.trans ?_ (blk8 m c t i ⟨256 * n + k.val, by omega⟩)
  refine congrArg (iblk m c 8 t) (funext fun b => Fin.ext ?_)
  match b with
  | ⟨0, _⟩ => show 0 + 1 * i.val = i.val; omega
  | ⟨1, _⟩ => show n % 11 * 256 + 1 * k.val = 256 * n + k.val; omega

theorem ld_fd (t : Fin cfg0.N) (oh : FVec Ideal S512x512 .bf16) (n : ℕ) (hn : n < 11) (k : Fin 256) (j : Fin 1024) : (TL m c t oh).fd n (ix2 k j) = m (c, main_arg9) (ix3 1 ⟨256 * n + k.val, by omega⟩ j) := by
  show View.readAt (Elt Ideal) (ms0_9 t).view (Rect.unit (s := S2816x1024) ![n % 11 * 256, 0] S256x1024.size (inb_row n)).toLoadRect ((hs0_9 t).unread (iblk m c 9 t)) (ix2 k j) = _
  rw [View.readAt_eq_ld, (hs0_9 t).read_unread]
  refine Eq.trans ?_ (blk9 m c t ⟨256 * n + k.val, by omega⟩ j)
  refine congrArg (iblk m c 9 t) (funext fun b => Fin.ext ?_)
  match b with
  | ⟨0, _⟩ => show n % 11 * 256 + 1 * k.val = 256 * n + k.val; omega
  | ⟨1, _⟩ => show 0 + 1 * j.val = j.val; omega

theorem ld_oh (t : Fin cfg0.N) : (TL m c t (oh0 m c t)).oh = (outsAt0 m c (t.val - 1) (Nat.lt_of_le_of_lt (Nat.sub_le _ _) t.isLt)).2.1 := by
  show oh0 m c t = _
  unfold oh0
  rw [View.readAt_eq_ld, Memref.IsWhole.read_unread]
  exact View.ld_unit_zero (Val := Elt Ideal) hz2 _ _

/-! ## The rows -/

theorem late : ∀ t : Fin cfg0.N, Scalar.cmpi .sgt (BitVec.ofNat 32 (grid0.coords t 0).val) 1#32 = if 1 < t.val then 1#1 else 0#1 :=
  (by decide +kernel : ∀ t : Fin grid0.N, Scalar.cmpi .sgt (BitVec.ofNat 32 (grid0.coords t 0).val) 1#32 = if 1 < t.val then 1#1 else 0#1)

theorem cu_at (z : FVec Ideal S8x768 .f32) (r : Fin 8) (j : Fin 256) :
    (mulf (extractStridedSlice S8x256 ![0, 256] z slices_S8x768_o0_256_S8x256) (extractStridedSlice S8x256 ![0, 512] z slices_S8x768_o0_512_S8x256) : FVec Ideal S8x256 .f32) (ix2 r j)
      = z (ix2 r ⟨256 + j.val, by omega⟩) * z (ix2 r ⟨512 + j.val, by omega⟩) := by
  pointwise

theorem halo_at (t : Fin cfg0.N) (z : FVec Ideal S8x768 .f32) (r : Fin 8) (j : Fin 256) :
    k0_pay4 (F := Ideal) (grid0.coords t) z (ix2 r j) = if 1 < t.val then z (ix2 r ⟨256 + j.val, by omega⟩) * z (ix2 r ⟨512 + j.val, by omega⟩) else 0 := by
  show (Scalar.select (Scalar.cmpi .sgt (BitVec.ofNat 32 (grid0.coords t 0).val) 1#32) (mulf (extractStridedSlice S8x256 ![0, 256] z slices_S8x768_o0_256_S8x256) (extractStridedSlice S8x256 ![0, 512] z slices_S8x768_o0_512_S8x256) : FVec Ideal S8x256 .f32) (broadcast S8x256 (Scalar.ofBits .f32 0x00000000#32 : Ideal .f32))) (ix2 r j) = _
  rw [late t]
  by_cases h : 1 < t.val
  · rw [if_pos h, if_pos h]
    exact cu_at z r j
  · rw [if_neg h, if_neg h]
    show Ideal.ofBits .f32 0x00000000#32 = 0
    simp [Ideal.ofBits, Ideal.ieee]

/-- The residual row after the mixers, of the arguments in memory. -/
abbrev Ym (n : Fin 16384) : Fin 1024 → EReal := Sp.yRow (m (c, main_arg0)) (m (c, main_arg1)) (m (c, main_arg2)) (m (c, main_arg3)) (m (c, main_arg4)) (m (c, main_arg5)) (m (c, main_arg6)) (m (c, main_arg10)) (m (c, main_arg11)) n
/-- The result's row, of the arguments in memory. -/
abbrev Rm (n : Fin 16384) : Fin 1024 → EReal := Sp.res (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) n

section rows
variable (t : Fin cfg0.N) (r : Fin 512)

/-- The token of a tile's row. -/
def tk : Fin 16384 := ⟨512 * (t.val - 1) + r.val, by have := N33 t; omega⟩

theorem cIn_tl (oh : FVec Ideal S512x512 .bf16) (j : Fin 256) : cIn (TL m c t oh).zc (ix2 r j) = Sp.u (m (c, main_arg3)) (tk t r) j := by
  rw [cIn_at, ld_zc]
  exact congrArg₂ (· * ·) (blk2 m c t _ _) (blk2 m c t _ _)

theorem halo_tl (oh : FVec Ideal S512x512 .bf16) (i : Fin 8) (j : Fin 256) (n : Fin 16384) (h1 : 1 < t.val) (hn : n.val = 8 * ((t.val - 1) * 64 - 1) + i.val) :
    k0_pay4 (F := Ideal) (grid0.coords t) (TL m c t oh).zp (ix2 i j) = Sp.u (m (c, main_arg3)) n j := by
  rw [halo_at, if_pos h1, ld_zp]
  have en : (⟨8 * ((t.val - 1) * 64 - 1) + i.val, by have := N33 t; omega⟩ : Fin 16384) = n := Fin.ext hn.symm
  have e := fun k : Fin 768 => (blk3 m c t i k).trans (congrArg (fun n => m (c, main_arg3) (ix2 n k)) en)
  exact congrArg₂ (· * ·) (e _) (e _)

theorem halo_zero (oh : FVec Ideal S512x512 .bf16) (i : Fin 8) (j : Fin 256) (h1 : ¬1 < t.val) : k0_pay4 (F := Ideal) (grid0.coords t) (TL m c t oh).zp (ix2 i j) = 0 := by
  rw [halo_at, if_neg h1]

theorem ub_pos (a3 : FVec Ideal ⟨2, ![16384, 768]⟩ .f32) (d : ℕ) (n n' : Fin 16384) (h : n'.val + d = n.val) (j : Fin 256) : Sp.u a3 n' j = Sp.ub a3 d n j := by
  unfold Sp.ub
  rw [if_pos (by omega)]
  exact congrArg (fun n => Sp.u a3 n j) (Fin.ext (by show n'.val = n.val - d; omega))

theorem ub_zero (a3 : FVec Ideal ⟨2, ![16384, 768]⟩ .f32) (d : ℕ) (n : Fin 16384) (h : n.val < d) (j : Fin 256) : 0 = Sp.ub a3 d n j := by
  unfold Sp.ub
  rw [if_neg (by omega)]

variable (ht : 0 < t.val)
include ht

theorem up1_tl (oh : FVec Ideal S512x512 .bf16) (j : Fin 256) :
    up1 (k0_pay4 (F := Ideal) (grid0.coords t) (TL m c t oh).zp) (cIn (TL m c t oh).zc) (ix2 r j) = Sp.ub (m (c, main_arg3)) 1 (tk t r) j := by
  rw [up1_at]
  have hv : (tk t r).val = 512 * (t.val - 1) + r.val := rfl
  by_cases hr : r.val = 0
  · rw [if_pos hr]
    by_cases h1 : 1 < t.val
    · refine (halo_tl m c t oh 7 j ⟨512 * (t.val - 1) - 1, by have := N33 t; omega⟩ h1 (by show 512 * (t.val - 1) - 1 = 8 * ((t.val - 1) * 64 - 1) + 7; omega)).trans (ub_pos _ _ _ _ ?_ j)
      show 512 * (t.val - 1) - 1 + 1 = _
      omega
    · exact (halo_zero m c t oh 7 j h1).trans (ub_zero _ _ _ (by omega) j)
  · rw [if_neg hr]
    refine (cIn_tl m c t _ oh j).trans (ub_pos _ _ _ _ ?_ j)
    show 512 * (t.val - 1) + (r.val - 1) + 1 = _
    omega

theorem up2_tl (oh : FVec Ideal S512x512 .bf16) (j : Fin 256) :
    up2 (k0_pay4 (F := Ideal) (grid0.coords t) (TL m c t oh).zp) (cIn (TL m c t oh).zc) (ix2 r j) = Sp.ub (m (c, main_arg3)) 2 (tk t r) j := by
  rw [up2_at]
  have hv : (tk t r).val = 512 * (t.val - 1) + r.val := rfl
  by_cases hr : r.val = 0
  · rw [if_pos hr]
    by_cases h1 : 1 < t.val
    · refine (halo_tl m c t oh 6 j ⟨512 * (t.val - 1) - 2, by have := N33 t; omega⟩ h1 (by show 512 * (t.val - 1) - 2 = 8 * ((t.val - 1) * 64 - 1) + 6; omega)).trans (ub_pos _ _ _ _ ?_ j)
      show 512 * (t.val - 1) - 2 + 2 = _
      omega
    · exact (halo_zero m c t oh 6 j h1).trans (ub_zero _ _ _ (by omega) j)
  · rw [if_neg hr]
    by_cases hr1 : r.val = 1
    · rw [if_pos hr1]
      by_cases h1 : 1 < t.val
      · refine (halo_tl m c t oh 7 j ⟨512 * (t.val - 1) - 1, by have := N33 t; omega⟩ h1 (by show 512 * (t.val - 1) - 1 = 8 * ((t.val - 1) * 64 - 1) + 7; omega)).trans (ub_pos _ _ _ _ ?_ j)
        show 512 * (t.val - 1) - 1 + 2 = _
        omega
      · exact (halo_zero m c t oh 7 j h1).trans (ub_zero _ _ _ (by omega) j)
    · rw [if_neg hr1]
      refine (cIn_tl m c t _ oh j).trans (ub_pos _ _ _ _ ?_ j)
      show 512 * (t.val - 1) + (r.val - 2) + 2 = _
      omega

theorem conv_tl (oh : FVec Ideal S512x512 .bf16) (j : Fin 256) :
    conv (k0_pay4 (F := Ideal) (grid0.coords t) (TL m c t oh).zp) (TL m c t oh).zc (TL m c t oh).cw (ix2 r j) = Sp.cvRow (m (c, main_arg3)) (m (c, main_arg4)) (tk t r) j := by
  rw [conv_at, up1_tl m c t _ ht, up2_tl m c t _ ht, cIn_tl]
  rw [ld_zc, ld_cw]
  unfold Sp.cvRow
  rw [← blk4 m c t 0 j, ← blk4 m c t 1 j, ← blk4 m c t 2 j]
  exact congrArg (· * _) (blk2 m c t r ⟨j.val, by omega⟩)

variable (hT : Sp.Tame (m (c, main_arg1)) (m (c, main_arg10)))
include hT

theorem oh_tl (k : Fin 512) : (TL m c t (oh0 m c t)).oh (ix2 r k) = Sp.hgRow (m (c, main_arg1)) (m (c, main_arg10)) (m (c, main_arg11)) (tk t r) k := by
  rw [ld_oh]
  have h := N33 t
  exact (tiles m c hT (t.val - 1) ⟨t.val - 1, Nat.lt_of_le_of_lt (Nat.sub_le _ _) t.isLt⟩ rfl (by omega)).2 r k (tk t r).isLt

theorem proj_tl (j : Fin 1024) : proj (TL m c t (oh0 m c t)) (grid0.coords t) (ix2 r j)
    = ∑ k, Sp.oRow (m (c, main_arg1)) (m (c, main_arg2)) (m (c, main_arg3)) (m (c, main_arg4)) (m (c, main_arg10)) (m (c, main_arg11)) (tk t r) k * m (c, main_arg5) (ix3 1 k j) := by
  rw [proj_at, Sp.sum3]
  refine congrArg₂ (· + ·) (congrArg₂ (· + ·) (Finset.sum_congr rfl fun k _ => ?_) (Finset.sum_congr rfl fun k _ => ?_)) (Finset.sum_congr rfl fun k _ => ?_)
  · refine congrArg₂ (· * ·) ?_ ?_
    · rw [oh_tl m c t r ht hT]
      unfold Sp.oRow
      rw [dif_pos (show (⟨k.val, by omega⟩ : Fin 1024).val < 512 from k.isLt)]
    · refine (ld_w0 m c t _ k j).trans (congrArg (fun k => m (c, main_arg5) (ix3 1 k j)) (Fin.ext ?_))
      show 0 + k.val = k.val
      omega
  · refine congrArg₂ (· * ·) ?_ (ld_w1 m c t _ k j)
    rw [ld_oa]
    unfold Sp.oRow
    rw [dif_neg (show ¬(512 + k.val < 512) by omega), dif_pos (show 512 + k.val < 768 by omega)]
    refine (blk1 m c t r k).trans (congrArg (fun k => m (c, main_arg2) (ix2 (tk t r) k)) (Fin.ext ?_))
    show k.val = 512 + k.val - 512
    omega
  · refine congrArg₂ (· * ·) ?_ (ld_w2 m c t _ k j)
    rw [conv_tl m c t _ ht]
    unfold Sp.oRow
    rw [dif_neg (show ¬(768 + k.val < 512) by omega), dif_neg (show ¬(768 + k.val < 768) by omega)]
    refine congrArg (Sp.cvRow _ _ _) (Fin.ext ?_)
    show k.val = 768 + k.val - 768
    omega

theorem mid_tl (j : Fin 1024) : mid (TL m c t (oh0 m c t)) (grid0.coords t) (ix2 r j) = Ym m c (tk t r) j := by
  rw [mid_at]
  unfold Ym Sp.yRow
  refine congrArg₂ (· + ·) ?_ (congrArg₂ (fun f g => Row.rms f g j) (funext fun k => proj_tl m c t r ht hT k) (funext fun k => ld_n m c t _ 0 k))
  rw [ld_x]
  exact blk0 m c t r j

theorem tail_tl (j : Fin 1024) : tailOut (TL m c t (oh0 m c t)) (grid0.coords t) (ix2 r j) = Rm m c (tk t r) j := by
  have hm : (fun k => mid (TL m c t (oh0 m c t)) (grid0.coords t) (ix2 r k)) = Ym m c (tk t r) := funext fun k => mid_tl m c t r ht hT k
  have hi : (fun k => ffnIn (TL m c t (oh0 m c t)) (grid0.coords t) (ix2 r k)) = Row.rms (Ym m c (tk t r)) (fun j => m (c, main_arg6) (ix3 1 4 j)) := by
    funext k
    rw [ffnIn_at, hm]
    exact congrArg (fun g => Row.rms (Ym m c (tk t r)) g k) (funext fun k => ld_n m c t _ 1 k)
  rw [tail_at, hm]
  unfold Rm Sp.res
  refine congrArg₂ (fun f g => Row.half (Ym m c (tk t r)) f g j) (funext fun k => ?_) (funext fun k => ld_n m c t _ 2 k)
  refine (ffn_at (TL m c t (oh0 m c t)) (grid0.coords t) (fun i k => m (c, main_arg7) (ix3 1 i k)) (fun i k => m (c, main_arg8) (ix3 1 i k)) (fun k j => m (c, main_arg9) (ix3 1 k j))
    (fun n hn i k => ld_fg m c t _ n hn i k) (fun n hn i k => ld_fu m c t _ n hn i k) (fun n hn k j => ld_fd m c t _ n hn k j) r k).trans ?_
  rw [hi]

end rows

/-! ## The array -/

theorem at16 : ∀ t : Fin cfg0.N, win0_16.index t 0 = t.val - 1 ∧ win0_16.index t 1 = 0 :=
  (by decide +kernel : ∀ t : Fin grid0.N, win0_16.index t 0 = t.val - 1 ∧ win0_16.index t 1 = 0)

theorem flush16 : ∀ t : Fin cfg0.N, (cfg0.win 16).flush t = true ↔ 0 < t.val :=
  (by decide +kernel : ∀ t : Fin grid0.N, win0_16.flush t = true ↔ 0 < t.val)

theorem emb16 (t : Fin cfg0.N) (r : Fin 512) (j : Fin 1024) : ((cfg0.win 16).blk t).view.emb (ix2 r j) = (ix2 (tk t r) j : S16384x1024.Idx) := by
  funext a
  apply Fin.ext
  match a with
  | ⟨0, _⟩ => show win0_16.index t 0 * 512 + 1 * r.val = 512 * (t.val - 1) + r.val; rw [(at16 t).1]; omega
  | ⟨1, _⟩ => show win0_16.index t 1 * 1024 + 1 * j.val = j.val; rw [(at16 t).2]; omega

theorem res16 (hT : Sp.Tame (m (c, main_arg1)) (m (c, main_arg10))) (R : Fin 16384) (j : Fin 1024) : ((dats m 0 c).arrAt 16 cfg0.N : FVec Ideal S16384x1024 .f32) (ix2 R j) = Rm m c R j := by
  have hG : ∀ t, (cfg0.win 16).flush t = true → (dats m 0 c).flushed 16 t = ((cfg0.win 16).blk t).view.read (Elt Ideal) (fun i : S16384x1024.Idx => (Rm m c (i 0) (i 1) : Ideal .f32)) := fun t hf => by
    have ht := (flush16 t).mp hf
    have hN := N33 t
    rw [flushed_B m c t (by omega)]
    funext y
    obtain ⟨r, k, rfl⟩ : ∃ (r : Fin 512) (k : Fin 1024), y = ix2 r k := ⟨y 0, y 1, funext fun a => by match a with | ⟨0, _⟩ => rfl | ⟨1, _⟩ => rfl⟩
    rw [View.read_apply]
    refine (tail_tl m c t r ht hT k).trans ?_
    exact (congrArg (fun i : S16384x1024.Idx => (Rm m c (i 0) (i 1) : Ideal .f32)) (emb16 t r k)).symm
  let t : Fin cfg0.N := ⟨R.val / 512 + 1, by have h : cfg0.N = 33 := N_0; omega⟩
  let r : Fin 512 := ⟨R.val % 512, Nat.mod_lt _ (by norm_num)⟩
  have hR : tk t r = R := Fin.ext (by show 512 * (R.val / 512 + 1 - 1) + R.val % 512 = R.val; omega)
  have e : (ix2 R j : S16384x1024.Idx) = ((cfg0.win 16).blk t).view.emb (ix2 r j) := by rw [emb16, hR]
  exact (dats m 0 c).arrAt_apply_of_mem 16 _ hG cfg0.N t _ t.isLt ((flush16 t).mpr (Nat.succ_pos _)) (e ▸ View.emb_mem_set _ _)

end Hg.M
-- ==== Proof.RefTrip.lean ====
/-
  One chunk of the recurrence as the reference computes it, read at an index.
-/
module

public import proofs.«01_k».proof.Proof.MixRefRun
public import proofs.«01_k».proof.Proof.Row
public import proofs.«01_k».proof.Proof.Head
public import Idealize.ShloMosaic.Lib.DynamicIndex

@[expose] public section

noncomputable section

namespace Hg.MR

open Idealize.ShloMosaic Idealize.ShloMosaic.TcCoe Cert.MixRefIdeal Cert.MixRefIdeal.Gen

theorem foldl_add_list {α : Type} (f : α → EReal) : ∀ (l : List α) (v : EReal), l.foldl (fun r k => r + f k) v = v + (l.map f).sum
  | [], v => by simp
  | a :: l, v => by simp only [List.foldl_cons, List.map_cons, List.sum_cons]; rw [foldl_add_list f l, add_assoc]

theorem foldl_add {n : ℕ} (f : Fin n → EReal) (v : EReal) : (List.finRange n).foldl (fun r k => r + f k) v = v + ∑ k, f k := by
  rw [foldl_add_list, Fin.sum_univ_def]

/-- A window sum is the sum over the window's positions. -/
theorem win_sum {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j = init (Shape.Idx.first hu) + ∑ i : (⟨s.rank, window⟩ : Shape).Idx,
      (if hin : ∀ a, lo a ≤ (j (a.cast h.1.symm)).val * strides a + (i a).val ∧ (j (a.cast h.1.symm)).val * strides a + (i a).val - lo a < s.size a then
        x (fun a => ⟨(j (a.cast h.1.symm)).val * strides a + (i a).val - lo a, (hin a).2⟩) else init (Shape.Idx.first hu)) := by
  unfold Host.reduceWindowAdd
  rw [Ideal.hostReduceWindowAdd_def]
  unfold Ideal.hostReduceWindowAdd Host.reduceWindow
  rw [← Equiv.sum_comp (⟨s.rank, window⟩ : Shape).rowMajor.symm]
  dsimp only
  refine (foldl_add _ _).trans ?_
  congr 1
  refine Finset.sum_congr rfl fun n _ => ?_
  split_ifs <;> rfl

theorem coe_sum {n : ℕ} (f : Fin n → ℝ) : ∑ k, ((f k : ℝ) : EReal) = ((∑ k, f k : ℝ) : EReal) :=
  (map_sum (⟨⟨fun r : ℝ => (r : EReal), rfl⟩, EReal.coe_add⟩ : ℝ →+ EReal) f Finset.univ).symm

/-- A trailing window of 64 over 64 entries is the sum up to each. -/
theorem win_real (X : ℕ → ℝ) (t : ℕ) (ht : t < 64) : (∑ w : Fin 64, if 63 ≤ t + w.val then X (t + w.val - 63) else 0) = ∑ s ∈ Finset.range (t + 1), X s := by
  rw [Fin.sum_univ_eq_sum_range (fun w => if 63 ≤ t + w then X (t + w - 63) else 0) 64]
  obtain ⟨d, hd⟩ : ∃ d, 63 = t + d := ⟨63 - t, by omega⟩
  rw [show 64 = d + (t + 1) by omega, Finset.sum_range_add, Finset.sum_eq_zero (s := Finset.range d), zero_add]
  · refine Finset.sum_congr rfl fun s _ => ?_
    rw [if_pos (by omega)]
    exact congrArg X (by omega)
  · intro s hs
    rw [if_neg (by have := Finset.mem_range.1 hs; omega)]

theorem win_at (x : FVec Ideal S4x64x128 .f32) (init : FVec Ideal S_ .f32) (h0 : ∀ i, init i = 0) (X : ℕ → ℝ) (h : Fin 4) (t : Fin 64) (c : Fin 128)
    (hx : ∀ s : Fin 64, x (ix3 h s c) = ((X s.val : ℝ) : EReal)) (hr : S4x64x128.ReduceWindows ![1, 64, 1] ![1, 1, 1] ![0, 63, 0] ![0, 0, 0] S4x64x128) (hu : 0 < S_.numel) :
    Host.reduceWindowAdd ![1, 64, 1] ![1, 1, 1] ![0, 63, 0] ![0, 0, 0] x init hr hu (ix3 h t c) = ((∑ s ∈ Finset.range (t.val + 1), X s : ℝ) : EReal) := by
  let W : Shape := ⟨3, ![1, 64, 1]⟩
  let G : W.Idx → EReal := fun i =>
    let p : Fin 3 → Nat := fun a => ((ix3 h t c : S4x64x128.Idx) a).val * (![1, 1, 1] : Fin 3 → Nat) a + (i a).val
    if hin : ∀ a : Fin 3, (![0, 63, 0] : Fin 3 → Nat) a ≤ p a ∧ p a - (![0, 63, 0] : Fin 3 → Nat) a < S4x64x128.size a then x (fun a => ⟨p a - (![0, 63, 0] : Fin 3 → Nat) a, (hin a).2⟩) else init (Shape.Idx.first hu)
  have hG : ∀ w : Fin 64, G (ix3 0 w 0) = (((if 63 ≤ t.val + w.val then X (t.val + w.val - 63) else 0 : ℝ)) : EReal) := fun w => by
    by_cases hw : 63 ≤ t.val + w.val
    · rw [if_pos hw]
      have hin : ∀ a : Fin 3, (![0, 63, 0] : Fin 3 → Nat) a ≤ ((ix3 h t c : S4x64x128.Idx) a).val * (![1, 1, 1] : Fin 3 → Nat) a + ((ix3 0 w 0 : W.Idx) a).val
          ∧ ((ix3 h t c : S4x64x128.Idx) a).val * (![1, 1, 1] : Fin 3 → Nat) a + ((ix3 0 w 0 : W.Idx) a).val - (![0, 63, 0] : Fin 3 → Nat) a < S4x64x128.size a := fun a => by
        match a with
        | 0 => show 0 ≤ h.val * 1 + 0 ∧ h.val * 1 + 0 - 0 < 4; omega
        | 1 => show 63 ≤ t.val * 1 + w.val ∧ t.val * 1 + w.val - 63 < 64; omega
        | 2 => show 0 ≤ c.val * 1 + 0 ∧ c.val * 1 + 0 - 0 < 128; omega
      refine (dif_pos hin).trans ?_
      refine Eq.trans (congrArg x (funext fun a => Fin.ext ?_)) (hx ⟨t.val + w.val - 63, by omega⟩)
      match a with
      | 0 => show h.val * 1 + 0 - 0 = h.val; omega
      | 1 => show t.val * 1 + w.val - 63 = t.val + w.val - 63; omega
      | 2 => show c.val * 1 + 0 - 0 = c.val; omega
    · rw [if_neg hw]
      refine (dif_neg fun hin => hw ?_).trans (h0 _)
      have : 63 ≤ t.val * 1 + w.val := (hin 1).1
      omega
  rw [win_sum]
  refine (congrArg (init (Shape.Idx.first hu) + ·) (sum_idx3 G)).trans ?_
  rw [h0, zero_add]
  rw [Fin.sum_univ_one]
  simp only [Fin.sum_univ_one]
  refine (Finset.sum_congr rfl fun w _ => hG w).trans ?_
  rw [← win_real X t.val t.isLt]
  exact coe_sum (fun w : Fin 64 => if 63 ≤ t.val + w.val then X (t.val + w.val - 63) else 0)

theorem neg_inf : Ideal.ofBits FTy.f32 4286578688#32 = ⊥ := by simp [Ideal.ofBits, Ideal.ieee]

/-- The state after a chunk. -/
def stepS (b k v : FVec Ideal S4x64x128 .f32) (st : FVec Ideal S4x128x128 .f32) : FVec Ideal S4x128x128 .f32 :=
  addf (mulf (broadcastInDim S4x128x128 ![0, 1, 2] bcast_S4x128x1_S4x128x128_0_1_2 (Host.exp (broadcastInDim S4x128x1 ![0, 1] bcast_S4x128_S4x128x1_0_1 (shapeCast S4x128 (extractStridedSlice S4x1x128 ![0, 63, 0] b slices_S4x64x128_S4x1x128_0_63_0) shapeCasts_S4x1x128_S4x128)))) st) (Host.dotGeneral dot_S4x64x128_S4x64x128_S4x128x128_1_1_2_2_0_0 none (mulf k (Host.exp (subf (broadcastInDim S4x64x128 ![0, 1, 2] bcast_S4x1x128_S4x64x128_0_1_2 (extractStridedSlice S4x1x128 ![0, 63, 0] b slices_S4x64x128_S4x1x128_0_63_0)) b))) v)

theorem stepS_at (b k v : FVec Ideal S4x64x128 .f32) (st : FVec Ideal S4x128x128 .f32) (h : Fin 4) (c j : Fin 128) :
    stepS b k v st (ix3 h c j) = Ideal.exp (b (ix3 h 63 c)) * st (ix3 h c j) + ∑ s : Fin 64, k (ix3 h s c) * Ideal.exp (b (ix3 h 63 c) - b (ix3 h s c)) * v (ix3 h s j) := by
  unfold stepS
  pointwise

/-- The outputs of a chunk. -/
def stepO (b q k v : FVec Ideal S4x64x128 .f32) (mask : IVec S64x64 1) (st : FVec Ideal S4x128x128 .f32) : FVec Ideal S4x64x128 .f32 :=
  addf (Host.dotGeneral dot_S4x64x64_S4x64x128_S4x64x128_2_1_1_2_0_0 none (Host.reduceAdd (mulf (mulf (broadcastInDim S4x64x64x128 ![0, 1, 2, 3] bcast_S4x64x1x128_S4x64x64x128_0_1_2_3 (broadcastInDim S4x64x1x128 ![0, 1, 3] bcast_S4x64x128_S4x64x1x128_0_1_3 q)) (broadcastInDim S4x64x64x128 ![0, 1, 2, 3] bcast_S4x1x64x128_S4x64x64x128_0_1_2_3 (broadcastInDim S4x1x64x128 ![0, 2, 3] bcast_S4x64x128_S4x1x64x128_0_2_3 k))) (Host.exp (select (broadcastInDim S4x64x64x128 ![1, 2, 3] bcast_S64x64x1_S4x64x64x128_1_2_3 (broadcastInDim S64x64x1 ![0, 1] bcast_S64x64_S64x64x1_0_1 mask)) (subf (broadcastInDim S4x64x64x128 ![0, 1, 2, 3] bcast_S4x64x1x128_S4x64x64x128_0_1_2_3 (broadcastInDim S4x64x1x128 ![0, 1, 3] bcast_S4x64x128_S4x64x1x128_0_1_3 b)) (broadcastInDim S4x64x64x128 ![0, 1, 2, 3] bcast_S4x1x64x128_S4x64x64x128_0_1_2_3 (broadcastInDim S4x1x64x128 ![0, 2, 3] bcast_S4x64x128_S4x1x64x128_0_2_3 b))) (broadcastInDim S4x64x64x128 ![] bcast_S_S4x64x64x128 (id (constant S_ .f32 0xFF800000#32)))))) (constant S_ .f32 0x00000000#32) reducesTo_S4x64x64x128_S4x64x64_d3 h_S_) v) (Host.dotGeneral dot_S4x64x128_S4x128x128_S4x64x128_2_1_1_2_0_0 none (mulf q (Host.exp b)) st)

theorem stepO_at (b q k v : FVec Ideal S4x64x128 .f32) (mask : IVec S64x64 1) (st : FVec Ideal S4x128x128 .f32) (h : Fin 4) (t : Fin 64) (j : Fin 128) :
    stepO b q k v mask st (ix3 h t j) = (∑ s : Fin 64, (∑ c : Fin 128, q (ix3 h t c) * k (ix3 h s c) * Ideal.exp (if mask (ix2 t s) = 1#1 then b (ix3 h t c) - b (ix3 h s c) else ⊥)) * v (ix3 h s j))
      + ∑ c : Fin 128, q (ix3 h t c) * Ideal.exp (b (ix3 h t c)) * st (ix3 h c j) := by
  unfold stepO
  pointwise
  simp only [id_eq, constant_apply, neg_inf]
  rfl

theorem exp_coe (p : ℝ) : Ideal.exp (p : EReal) = ((Real.exp p : ℝ) : EReal) := rfl
theorem exp_bot : Ideal.exp ⊥ = 0 := rfl

section real
variable (H : HeadData) (n0 : ℕ) {b q k v : FVec Ideal S4x64x128 .f32} {mask : IVec S64x64 1} {st : FVec Ideal S4x128x128 .f32} (h : Fin 4)
  (hb : ∀ (t : Fin 64) (c : Fin 128), b (ix3 h t c) = ((run H.l n0 t.val c.val : ℝ) : EReal))
  (hk : ∀ (t : Fin 64) (c : Fin 128), k (ix3 h t c) = ((H.k (n0 + t.val) c.val : ℝ) : EReal))
  (hv : ∀ (t : Fin 64) (c : Fin 128), v (ix3 h t c) = ((H.v (n0 + t.val) c.val : ℝ) : EReal))
  (hst : ∀ (c j : Fin 128), st (ix3 h c j) = ((H.st n0 c.val j.val : ℝ) : EReal))
include hb hk hv hst

theorem stepS_re (c j : Fin 128) : stepS b k v st (ix3 h c j) = ((H.st (n0 + 64) c.val j.val : ℝ) : EReal) := by
  rw [stepS_at]
  simp only [hb, hk, hv, hst, ← EReal.coe_sub, exp_coe, ← EReal.coe_mul, coe_sum, ← EReal.coe_add]
  exact congrArg _ (chunk_state H.l H.k H.v n0 64 c.val j.val (by decide))

theorem stepO_re (hq : ∀ (t : Fin 64) (c : Fin 128), q (ix3 h t c) = ((H.q (n0 + t.val) c.val : ℝ) : EReal))
    (hm : ∀ t s : Fin 64, mask (ix2 t s) = if s.val ≤ t.val then 1#1 else 0#1) (t : Fin 64) (j : Fin 128) :
    stepO b q k v mask st (ix3 h t j) = ((H.out (n0 + t.val) j.val : ℝ) : EReal) := by
  rw [stepO_at]
  have e : ∀ s : Fin 64, (∑ c : Fin 128, q (ix3 h t c) * k (ix3 h s c) * Ideal.exp (if mask (ix2 t s) = 1#1 then b (ix3 h t c) - b (ix3 h s c) else ⊥)) =
      ((if s.val ≤ t.val then ∑ c : Fin 128, H.q (n0 + t.val) c.val * H.k (n0 + s.val) c.val * Real.exp (run H.l n0 t.val c.val - run H.l n0 s.val c.val) else 0 : ℝ) : EReal) := fun s => by
    rw [hm]
    by_cases hs : s.val ≤ t.val
    · simp only [if_pos hs, hb, hk, hq, ← EReal.coe_sub, exp_coe, ← EReal.coe_mul, coe_sum, reduceIte]
    · simp only [if_neg hs, exp_bot, mul_zero, Finset.sum_const_zero, EReal.coe_zero, show (0#1 : BitVec 1) ≠ 1#1 by decide, if_false]
  simp only [e]
  simp only [hb, hv, hq, hst, exp_coe, ← EReal.coe_mul, coe_sum, ← EReal.coe_add]
  exact congrArg _ (chunk_out H.q H.l H.k H.v n0 64 t.val j.val t.isLt)

end real

end Hg.MR
-- ==== Proof.RefLoop.lean ====
/-
  The reference's loop over the chunks: the state before each, and the outputs of all of them.
-/
module

public import proofs.«01_k».proof.Proof.RefTrip

@[expose] public section

noncomputable section

namespace Hg.MR

open Idealize.ShloMosaic Idealize.ShloMosaic.TcCoe Idealize.ShloMosaic.StableHlo Cert.MixRefIdeal Cert.MixRefIdeal.Gen Cert.MixRefIdeal.Value

/-- The loop's start indices. -/
abbrev startAt (i : IVec S_ 32) : Fin 4 → Int :=
  fun k => (((![i, constantI S_ 32 0#32, constantI S_ 32 0#32, constantI S_ 32 0#32] : Fin 4 → (⟨S_, .i32⟩ : BufTy).Contents (Elt Ideal))) k (Shape.Idx.first h_S_)).toInt

theorem startAt_eq (n : ℕ) (hn : n < 256) : ∀ a : Fin 4, startAt (fun _ => BitVec.ofNat 32 n) a = ((![n, 0, 0, 0] : Fin 4 → ℕ) a : Int)
  | 0 => toInt_ofNat_of_lt (by omega)
  | 1 => rfl
  | 2 => rfl
  | 3 => rfl

/-- One chunk of an array of chunks. -/
def chunkOf (x : FVec Ideal S256x4x64x128 .f32) (i : IVec S_ 32) : FVec Ideal S4x64x128 .f32 :=
  shapeCast S4x64x128 (Host.dynamicSlice S1x4x64x128 x (startAt i) sliceFits_S256x4x64x128_S1x4x64x128) shapeCasts_S1x4x64x128_S4x64x128

theorem fits_at (n : ℕ) (hn : n < 256) : S256x4x64x128.Slices ![n, 0, 0, 0] S1x4x64x128 :=
  ⟨rfl, fun a => match a with
    | 0 => by show n + 1 ≤ 256; omega
    | 1 => by show 0 + 4 ≤ 4; omega
    | 2 => by show 0 + 64 ≤ 64; omega
    | 3 => by show 0 + 128 ≤ 128; omega⟩

theorem chunk_at (x : FVec Ideal S256x4x64x128 .f32) (n : ℕ) (hn : n < 256) (h : Fin 4) (t : Fin 64) (c : Fin 128) :
    chunkOf x (fun _ => BitVec.ofNat 32 n) (ix3 h t c) = x (ix4 ⟨n, hn⟩ h t c) := by
  unfold chunkOf
  rw [Host.dynamicSlice_eq_extractStridedSlice S1x4x64x128 x _ ![n, 0, 0, 0] _ (fits_at n hn) (startAt_eq n hn)]
  pointwise

/-- An array of chunks with one of them replaced. -/
def putChunk (x : FVec Ideal S256x4x64x128 .f32) (o : FVec Ideal S4x64x128 .f32) (i : IVec S_ 32) : FVec Ideal S256x4x64x128 .f32 :=
  Host.dynamicUpdateSlice x (broadcastInDim S1x4x64x128 ![1, 2, 3] bcast_S4x64x128_S1x4x64x128_1_2_3 o) (startAt i) updateFits_S256x4x64x128_S1x4x64x128

theorem lead_at (o : FVec Ideal S4x64x128 .f32) (h : Fin 4) (t : Fin 64) (j : Fin 128) :
    broadcastInDim S1x4x64x128 ![1, 2, 3] bcast_S4x64x128_S1x4x64x128_1_2_3 o (ix4 0 h t j) = o (ix3 h t j) := by
  pointwise

theorem put_at (x : FVec Ideal S256x4x64x128 .f32) (o : FVec Ideal S4x64x128 .f32) (n : ℕ) (hn : n < 256) (n' : Fin 256) (h : Fin 4) (t : Fin 64) (j : Fin 128) :
    putChunk x o (fun _ => BitVec.ofNat 32 n) (ix4 n' h t j) = if n'.val = n then o (ix3 h t j) else x (ix4 n' h t j) := by
  unfold putChunk
  rw [Host.dynamicUpdateSlice_eq_updateSlice x _ _ _ ![n, 0, 0, 0] (fun a => by
    have := (fits_at n hn).2 a
    rw [startAt_eq n hn a]; omega) (fits_at n hn)]
  by_cases e : n'.val = n
  · rw [if_pos e]
    refine Eq.trans (dif_pos fun a => ?_) (Eq.trans (congrArg _ (funext fun a => Fin.ext ?_)) (lead_at o h t j))
    · match a with
      | 0 => show n ≤ n'.val ∧ n'.val < n + 1; omega
      | 1 => show 0 ≤ h.val ∧ h.val < 0 + 4; omega
      | 2 => show 0 ≤ t.val ∧ t.val < 0 + 64; omega
      | 3 => show 0 ≤ j.val ∧ j.val < 0 + 128; omega
    · match a with
      | 0 => show n'.val - n = 0; omega
      | 1 => show h.val - 0 = h.val; omega
      | 2 => show t.val - 0 = t.val; omega
      | 3 => show j.val - 0 = j.val; omega
  · rw [if_neg e]
    refine dif_neg fun hin => e ?_
    have : n ≤ n'.val ∧ n'.val < n + 1 := hin 0
    omega

/-- The running sums of one chunk. -/
def sumOf (x : FVec Ideal S4x64x128 .f32) : FVec Ideal S4x64x128 .f32 :=
  Host.reduceWindowAdd ![1, 64, 1] ![1, 1, 1] ![0, 63, 0] ![0, 0, 0] x (broadcastInDim S_ ![] bcast_S_S_ (constant (F := Ideal) S_ .f32 0x00000000#32)) reduceWindows_S4x64x128_S4x64x128_w1s1p0_0_w64s1p63_0_w1s1p0_0 h_S_

theorem sumOf_at (x : FVec Ideal S4x64x128 .f32) (X : ℕ → ℝ) (h : Fin 4) (t : Fin 64) (c : Fin 128)
    (hx : ∀ s : Fin 64, x (ix3 h s c) = ((X s.val : ℝ) : EReal)) : sumOf x (ix3 h t c) = ((∑ s ∈ Finset.range (t.val + 1), X s : ℝ) : EReal) :=
  win_at x _ (fun _ => by show Ideal.ofBits FTy.f32 0x00000000#32 = 0; simp [Ideal.ofBits, Ideal.ieee]) X h t c hx _ _

/-! ## The loop's buffers -/

/-- The buffers before trip `k`. -/
structure LoopInv (H : Fin 4 → HeadData) (k : ℕ) (x0 x1 x2 x3 : FVec Ideal S256x4x64x128 .f32) (x4 : IVec S64x64 1) (x5 : IVec S_ 32)
    (x6 : FVec Ideal S4x128x128 .f32) (x7 : FVec Ideal S256x4x64x128 .f32) : Prop where
  q : ∀ n h t c, x0 (ix4 n h t c) = (((H h).q (64 * n.val + t.val) c.val : ℝ) : EReal)
  inp : ∀ n h t c, x1 (ix4 n h t c) = (((H h).k (64 * n.val + t.val) c.val : ℝ) : EReal)
  v : ∀ n h t c, x2 (ix4 n h t c) = (((H h).v (64 * n.val + t.val) c.val : ℝ) : EReal)
  l : ∀ n h t c, x3 (ix4 n h t c) = (((H h).l (64 * n.val + t.val) c.val : ℝ) : EReal)
  mask : ∀ t s : Fin 64, x4 (ix2 t s) = if s.val ≤ t.val then 1#1 else 0#1
  ctr : x5 = fun _ => BitVec.ofNat 32 k
  st : ∀ h c j, x6 (ix3 h c j) = (((H h).st (64 * k) c.val j.val : ℝ) : EReal)
  out : ∀ n h t j, n.val < k → x7 (ix4 n h t j) = (((H h).out (64 * n.val + t.val) j.val : ℝ) : EReal)

theorem LoopInv.step {H : Fin 4 → HeadData} {k : ℕ} {x0 x1 x2 x3 : FVec Ideal S256x4x64x128 .f32} {x4 : IVec S64x64 1} {x5 : IVec S_ 32}
    {x6 : FVec Ideal S4x128x128 .f32} {x7 : FVec Ideal S256x4x64x128 .f32} (hI : LoopInv H k x0 x1 x2 x3 x4 x5 x6 x7) (hk : k < 256) :
    LoopInv H (k + 1) x0 x1 x2 x3 x4 (addi x5 (constantI S_ 32 1#32)) (stepS (sumOf (chunkOf x3 x5)) (chunkOf x1 x5) (chunkOf x2 x5) x6)
      (putChunk x7 (stepO (sumOf (chunkOf x3 x5)) (chunkOf x0 x5) (chunkOf x1 x5) (chunkOf x2 x5) x4 x6) x5) := by
  have e5 := hI.ctr
  subst e5
  have hb : ∀ h (t : Fin 64) (c : Fin 128), sumOf (chunkOf x3 (fun _ => BitVec.ofNat 32 k)) (ix3 h t c) = ((run (H h).l (64 * k) t.val c.val : ℝ) : EReal) := fun h t c =>
    sumOf_at _ (fun s => (H h).l (64 * k + s) c.val) h t c fun s => (chunk_at x3 k hk h s c).trans (hI.l ⟨k, hk⟩ h s c)
  have hkk : ∀ h (t : Fin 64) (c : Fin 128), chunkOf x1 (fun _ => BitVec.ofNat 32 k) (ix3 h t c) = (((H h).k (64 * k + t.val) c.val : ℝ) : EReal) := fun h t c =>
    (chunk_at x1 k hk h t c).trans (hI.inp ⟨k, hk⟩ h t c)
  have hv : ∀ h (t : Fin 64) (c : Fin 128), chunkOf x2 (fun _ => BitVec.ofNat 32 k) (ix3 h t c) = (((H h).v (64 * k + t.val) c.val : ℝ) : EReal) := fun h t c =>
    (chunk_at x2 k hk h t c).trans (hI.v ⟨k, hk⟩ h t c)
  have hq : ∀ h (t : Fin 64) (c : Fin 128), chunkOf x0 (fun _ => BitVec.ofNat 32 k) (ix3 h t c) = (((H h).q (64 * k + t.val) c.val : ℝ) : EReal) := fun h t c =>
    (chunk_at x0 k hk h t c).trans (hI.q ⟨k, hk⟩ h t c)
  refine ⟨hI.q, hI.inp, hI.v, hI.l, hI.mask, ?_, fun h c j => ?_, fun n h t j hn => ?_⟩
  · funext _
    show BitVec.ofNat 32 k + 1#32 = BitVec.ofNat 32 (k + 1)
    rw [BitVec.ofNat_add]
  · rw [stepS_re (H h) (64 * k) h (hb h) (hkk h) (hv h) (hI.st h) c j, Nat.mul_add]
  · rw [put_at _ _ k hk]
    by_cases e : n.val = k
    · rw [if_pos e, stepO_re (H h) (64 * k) h (hb h) (hkk h) (hv h) (hI.st h) (hq h) hI.mask t j, e]
    · rw [if_neg e]
      exact hI.out n h t j (by omega)

variable (m : (ℓ : Loc nD τ sig) → Buf (Elt Ideal) ℓ) (c : Dev nD)

/-- The loop's buffers of a valuation. -/
abbrev InvV (H : Fin 4 → HeadData) (k : ℕ) (V : Valuation τ sig (Elt Ideal)) : Prop :=
  LoopInv H k (V (Proc.devRef .tc main_v67_0)) (V (Proc.devRef .tc main_v67_1)) (V (Proc.devRef .tc main_v67_2)) (V (Proc.devRef .tc main_v67_3))
    (V (Proc.devRef .tc main_v67_4)) (V (Proc.devRef .tc main_v67_5)) (V (Proc.devRef .tc main_v67_6)) (V (Proc.devRef .tc main_v67_7))

theorem InvV.step {H : Fin 4 → HeadData} {k : ℕ} {V : Valuation τ sig (Elt Ideal)} (hI : InvV H k V) (hk : k < 256) : InvV H (k + 1) (STEP V) := by
  unfold InvV
  rw [STEP_main_v67_0, STEP_main_v67_1, STEP_main_v67_2, STEP_main_v67_3, STEP_main_v67_4, STEP_main_v67_5, STEP_main_v67_6, STEP_main_v67_7]
  exact LoopInv.step hI hk

theorem loop_inv {H : Fin 4 → HeadData} (h0 : InvV H 0 (entryContents preI m c)) : ∀ k, k ≤ 256 → InvV H k (STEP^[k] (entryContents preI m c))
  | 0, _ => h0
  | k + 1, hk => by
    rw [Function.iterate_succ_apply']
    exact (loop_inv h0 k (by omega)).step (by omega)

/-- After the loop the outputs of every token are there. -/
theorem loop_out {H : Fin 4 → HeadData} (h0 : InvV H 0 (entryContents preI m c)) (n : Fin 256) (h : Fin 4) (t : Fin 64) (j : Fin 128) :
    (atK m 256 c (Proc.devRef .tc main_v67_7) : FVec Ideal S256x4x64x128 .f32) (ix4 n h t j) = (((H h).out (64 * n.val + t.val) j.val : ℝ) : EReal) := by
  rw [atK_agree m c 256 main_v67_7 (by decide)]
  exact (loop_inv m c h0 256 le_rfl).out n h t j n.isLt

end Hg.MR
-- ==== Proof.RefGate.lean ====
/-
  What the reference's loop starts from: the heads' arrays in chunks, with the gates' logarithms and inputs.
-/
module

public import proofs.«01_k».proof.Proof.RefLoop
public import proofs.«01_k».proof.Proof.MixSpec
public import proofs.«01_k».proof.Proof.Carry

@[expose] public section

noncomputable section

namespace Hg.MR

open Idealize.ShloMosaic Idealize.ShloMosaic.TcCoe Idealize.ShloMosaic.StableHlo Cert.MixRefIdeal Cert.MixRefIdeal.Gen Cert.MixRefIdeal.Value

/-- The two layers' weights, over the layers. -/
def softT (x : FVec Ideal S2x512 .f32) : FVec Ideal S2x512 .f32 :=
  let e := Host.exp (subf x (broadcastInDim S2x512 ![0, 1] bcast_S1x512_S2x512_0_1 (broadcastInDim S1x512 ![1] bcast_S512_S1x512_1
    (maximumf (broadcastInDim S512 ![] bcast_S_S512 (constant S_ .f32 0xFF800000#32)) (Host.reduce FloatOps.maximumf x (constant S_ .f32 0xFF800000#32) reducesTo_S2x512_S512_d0 h_S_)))))
  Host.divf e (broadcastInDim S2x512 ![0, 1] bcast_S1x512_S2x512_0_1 (broadcastInDim S1x512 ![1] bcast_S512_S1x512_1
    (Host.reduceAdd e (constant S_ .f32 0x00000000#32) reducesTo_S2x512_S512_d0 h_S_)))

/-- The lower bounds of the second layer. -/
def lbT (s : FVec Ideal S2x512 .f32) : FVec Ideal S512 .f32 :=
  shapeCast S512 (extractStridedSlice S1x512 ![1, 0]
    (subf (Host.reduceWindowAdd ![2, 1] ![1, 1] ![1, 0] ![0, 0] s (broadcastInDim S_ ![] bcast_S_S_ (constant S_ .f32 0x00000000#32)) reduceWindows_S2x512_S2x512_w2s1p1_0_w1s1p0_0 h_S_)
      (broadcastInDim S2x512 ![0, 1] bcast_S1x512_S2x512_0_1 (broadcastInDim S1x512 ![1] bcast_S512_S1x512_1 (shapeCast S512 (extractStridedSlice S1x512 ![0, 0] s slices_S2x512_S1x512_0_0) shapeCasts_S1x512_S512))))
    slices_S2x512_S1x512_1_0) shapeCasts_S1x512_S512

/-- One minus the bounds, times the sigmoid. -/
def openT (l : FVec Ideal S512 .f32) (z : FVec Ideal S16384x512 .f32) : FVec Ideal S16384x512 .f32 :=
  mulf (broadcastInDim S16384x512 ![0, 1] bcast_S1x512_S16384x512_0_1 (broadcastInDim S1x512 ![1] bcast_S512_S1x512_1 (subf (broadcastInDim S512 ![] bcast_S_S512 (constant S_ .f32 0x3F800000#32)) l)))
    (Host.divf (broadcastInDim S16384x512 ![] bcast_S_S16384x512 (constant S_ .f32 0x3F800000#32)) (addf (broadcastInDim S16384x512 ![] bcast_S_S16384x512 (constant S_ .f32 0x3F800000#32)) (Host.exp (Host.negf z))))

/-- The logarithm of the forget gates. -/
def logT (l : FVec Ideal S512 .f32) (z : FVec Ideal S16384x512 .f32) : FVec Ideal S16384x512 .f32 :=
  Host.log (addf (broadcastInDim S16384x512 ![0, 1] bcast_S1x512_S16384x512_0_1 (broadcastInDim S1x512 ![1] bcast_S512_S1x512_1 l)) (openT l z))

/-- Columns of the heads in chunks. -/
def chT (x : FVec Ideal S16384x512 .f32) : FVec Ideal S256x4x64x128 .f32 :=
  transpose S256x4x64x128 [0, 2, 1, 3] (shapeCast S256x64x4x128 x shapeCasts_S16384x512_S256x64x4x128) transposes_S256x64x4x128_S256x4x64x128_0_2_1_3

/-- The causal mask. -/
def maskT : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

variable (m : (ℓ : Loc nD τ sig) → Buf (Elt Ideal) ℓ) (c : Dev nD)

/-- Columns of the projections. -/
def colQ (x : FVec Ideal S16384x2048 .f32) : FVec Ideal S16384x512 .f32 := extractStridedSlice S16384x512 ![0, 0] x slices_S16384x2048_S16384x512_0_0
def colF (x : FVec Ideal S16384x2048 .f32) : FVec Ideal S16384x512 .f32 := extractStridedSlice S16384x512 ![0, 512] x slices_S16384x2048_S16384x512_0_512
def colI (x : FVec Ideal S16384x2048 .f32) : FVec Ideal S16384x512 .f32 := extractStridedSlice S16384x512 ![0, 1024] x slices_S16384x2048_S16384x512_0_1024
def colG (x : FVec Ideal S16384x2048 .f32) : FVec Ideal S16384x512 .f32 := extractStridedSlice S16384x512 ![0, 1536] x slices_S16384x2048_S16384x512_0_1536

theorem entry_q : entryContents preI m c (Proc.devRef .tc main_v67_0) = chT (colQ (m ((c.tc : Thread nD τ).loc main_arg1))) := by
  simp only [entryContents, afterL_cons, afterL_nil]
  after_reads_simp
  rfl

theorem entry_k : entryContents preI m c (Proc.devRef .tc main_v67_1) = chT (openT (lbT (softT (m ((c.tc : Thread nD τ).loc main_arg10)))) (Host.negf (colF (m ((c.tc : Thread nD τ).loc main_arg1))))) := by
  simp only [entryContents, afterL_cons, afterL_nil]
  after_reads_simp
  rfl

theorem entry_v : entryContents preI m c (Proc.devRef .tc main_v67_2) = chT (colI (m ((c.tc : Thread nD τ).loc main_arg1))) := by
  simp only [entryContents, afterL_cons, afterL_nil]
  after_reads_simp
  rfl

theorem entry_l : entryContents preI m c (Proc.devRef .tc main_v67_3) = chT (logT (lbT (softT (m ((c.tc : Thread nD τ).loc main_arg10)))) (colF (m ((c.tc : Thread nD τ).loc main_arg1)))) := by
  simp only [entryContents, afterL_cons, afterL_nil]
  after_reads_simp
  rfl

theorem entry_mask : entryContents preI m c (Proc.devRef .tc main_v67_4) = maskT := by
  simp only [entryContents, afterL_cons, afterL_nil]
  after_reads_simp
  rfl

theorem entry_st : entryContents preI m c (Proc.devRef .tc main_v67_6) = broadcastInDim S4x128x128 ![] bcast_S_S4x128x128 (constant (F := Ideal) S_ .f32 0x00000000#32) := by
  simp only [entryContents, afterL_cons, afterL_nil]
  after_reads_simp
  rfl

/-! ## Their entries -/

theorem softT_at (x : FVec Ideal S2x512 .f32) (i : Fin 2) (k : Fin 512) (p q r : ℝ) (h0 : x (ix2 0 k) = (p : EReal)) (h1 : x (ix2 1 k) = (q : EReal)) (hi : x (ix2 i k) = (r : EReal)) :
    softT x (ix2 i k) = ((Real.exp (r - max p q) / (Real.exp (p - max p q) + Real.exp (q - max p q)) : ℝ) : EReal) := by
  have hm : Finset.fold max (Ideal.ofBits FTy.f32 4286578688#32) (fun i : Fin 2 => x (ix2 i k)) Finset.univ = ((max p q : ℝ) : EReal) := M.fold_real _ p q h0 h1
  unfold softT
  pointwise
  simp only [Fin.sum_univ_two]
  rw [hm, neg_inf, max_bot_left, h0, h1, hi, M.soft_coe]

theorem lbT_at (s : FVec Ideal S2x512 .f32) (k : Fin 512) (p q : ℝ) (h0 : s (ix2 0 k) = (p : EReal)) (h1 : s (ix2 1 k) = (q : EReal)) :
    lbT s (ix1 k) = ((q : ℝ) : EReal) := by
  have hw : Host.reduceWindowAdd ![2, 1] ![1, 1] ![1, 0] ![0, 0] s (broadcastInDim S_ ![] bcast_S_S_ (constant (F := Ideal) S_ .f32 0x00000000#32)) reduceWindows_S2x512_S2x512_w2s1p1_0_w1s1p0_0 h_S_ (ix2 1 k)
      = ((p + q : ℝ) : EReal) := by
    let W : Shape := ⟨2, ![2, 1]⟩
    let v : EReal := Ideal.ofBits FTy.f32 0x00000000#32
    have hv : v = 0 := by simp [v, Ideal.ofBits, Ideal.ieee]
    let G : W.Idx → EReal := fun i =>
      let o : Fin 2 → Nat := fun a => ((ix2 1 k : S2x512.Idx) a).val * (![1, 1] : Fin 2 → Nat) a + (i a).val
      if hin : ∀ a : Fin 2, (![1, 0] : Fin 2 → Nat) a ≤ o a ∧ o a - (![1, 0] : Fin 2 → Nat) a < S2x512.size a then s (fun a => ⟨o a - (![1, 0] : Fin 2 → Nat) a, (hin a).2⟩) else v
    have hG : ∀ w : Fin 2, G (ix2 w 0) = s (ix2 w k) := fun w => by
      refine (dif_pos fun a => ?_).trans (congrArg s (funext fun a => Fin.ext ?_))
      · match a with
        | 0 => show 1 ≤ 1 * 1 + w.val ∧ 1 * 1 + w.val - 1 < 2; omega
        | 1 => show 0 ≤ k.val * 1 + 0 ∧ k.val * 1 + 0 - 0 < 512; omega
      · match a with
        | 0 => show 1 * 1 + w.val - 1 = w.val; omega
        | 1 => show k.val * 1 + 0 - 0 = k.val; omega
    rw [win_sum]
    refine (congrArg (v + ·) (sum_idx2 G)).trans ?_
    rw [hv, zero_add]
    simp only [Fin.sum_univ_one, Fin.sum_univ_two]
    rw [hG, hG, h0, h1, EReal.coe_add]
  unfold lbT
  pointwise
  rw [hw, h0, ← EReal.coe_sub, add_sub_cancel_left]

theorem openT_at (l : FVec Ideal S512 .f32) (z : FVec Ideal S16384x512 .f32) (n : Fin 16384) (k : Fin 512) (a f : ℝ) (hl : l (ix1 k) = (a : EReal)) (hz : z (ix2 n k) = (f : EReal)) :
    openT l z (ix2 n k) = (((1 - a) * sg f : ℝ) : EReal) := by
  unfold openT
  pointwise
  rw [hl, hz, ← EReal.coe_neg, exp_coe, ← EReal.coe_one, ← EReal.coe_sub, ← EReal.coe_add, ideal_div _ _ (by have := Real.exp_pos (-f); linarith), ← EReal.coe_mul, one_mul]
  rfl

theorem log_coe (r : ℝ) (h : 0 < r) : Ideal.log (r : EReal) = ((Real.log r : ℝ) : EReal) := if_neg (not_le.2 h)

theorem logT_at (l : FVec Ideal S512 .f32) (z : FVec Ideal S16384x512 .f32) (n : Fin 16384) (k : Fin 512) (a f : ℝ) (hl : l (ix1 k) = (a : EReal)) (hz : z (ix2 n k) = (f : EReal)) (h0 : 0 < a) (h1 : a < 1) :
    logT l z (ix2 n k) = ((lgf a f : ℝ) : EReal) := by
  unfold logT
  pointwise
  rw [openT_at l z n k a f hl hz]
  rw [hl, ← EReal.coe_add]
  exact log_coe _ (gate_pos a f h0 h1)

theorem chT_at (x : FVec Ideal S16384x512 .f32) (n : Fin 256) (h : Fin 4) (t : Fin 64) (c : Fin 128) : chT x (ix4 n h t c) = x (ix2 ⟨64 * n.val + t.val, by omega⟩ ⟨128 * h.val + c.val, by omega⟩) := by
  unfold chT
  pointwise
  exact congrArg x (congrArg₂ ix2 (Fin.ext (by show n.val * 64 + t.val = 64 * n.val + t.val; omega)) (Fin.ext (by show h.val * 128 + c.val = 128 * h.val + c.val; omega)))

theorem maskT_at (t s : Fin 64) : maskT (ix2 t s) = if s.val ≤ t.val then 1#1 else 0#1 := by
  unfold maskT
  pointwise
  revert t s
  decide +kernel

theorem col_at (z : FVec Ideal S16384x2048 .f32) (n : Fin 16384) (k : Fin 512) :
    colQ z (ix2 n k) = z (ix2 n ⟨k.val, by omega⟩) ∧ colF z (ix2 n k) = z (ix2 n ⟨512 + k.val, by omega⟩)
      ∧ colI z (ix2 n k) = z (ix2 n ⟨1024 + k.val, by omega⟩) ∧ colG z (ix2 n k) = z (ix2 n ⟨1536 + k.val, by omega⟩) := by
  refine ⟨?_, ?_, ?_, ?_⟩
  · unfold colQ
    pointwise
  · unfold colF
    pointwise
  · unfold colI
    pointwise
  · unfold colG
    pointwise

section tame
variable (a1 : FVec Ideal S16384x2048 .f32) (a10 : FVec Ideal S2x512 .f32) (hT : Sp.Tame a1 a10)
include hT

theorem lb_at (h : Fin 4) (c : Fin 128) : lbT (softT a10) (ix1 ⟨128 * h.val + c.val, by omega⟩) = (((Sp.HD a1 a10 h).a c.val : ℝ) : EReal) := by
  have h0 := hT.lb 0 ⟨128 * h.val + c.val, by omega⟩
  have h1 := hT.lb 1 ⟨128 * h.val + c.val, by omega⟩
  rw [lbT_at _ _ _ _ (softT_at a10 0 _ _ _ _ h0 h1 h0) (softT_at a10 1 _ _ _ _ h0 h1 h1), M.soft_second]
  have e : (⟨128 * h.val + c.val, by omega⟩ : Fin 512) = ⟨128 * h.val + c.val % 128, by omega⟩ := Fin.ext (by show 128 * h.val + c.val = 128 * h.val + c.val % 128; omega)
  unfold Sp.HD
  dsimp only
  rw [e]

/-- One entry of the projections' first three parts. -/
theorem zr_coe (n k : ℕ) (hn : n < 16384) (hk : k < 1536) : a1 (ix2 ⟨n, hn⟩ ⟨k, by omega⟩) = ((Sp.zr a1 n k : ℝ) : EReal) :=
  (hT.fin ⟨n, hn⟩ ⟨k, by omega⟩ hk).trans (congrArg _ (Sp.zr_eq a1 ⟨n, hn⟩ ⟨k, by omega⟩).symm)

theorem f_at (n : ℕ) (hn : n < 16384) (h : Fin 4) (c : Fin 128) : colF a1 (ix2 ⟨n, hn⟩ ⟨128 * h.val + c.val, by omega⟩) = (((Sp.HD a1 a10 h).f n c.val : ℝ) : EReal) := by
  refine (col_at a1 _ _).2.1.trans ((zr_coe a1 a10 hT n (512 + (128 * h.val + c.val)) hn (by omega)).trans ?_)
  show _ = ((Sp.zr a1 n (512 + (128 * h.val + c.val % 128)) : ℝ) : EReal)
  rw [Nat.mod_eq_of_lt c.isLt]

theorem q_at (n : ℕ) (hn : n < 16384) (h : Fin 4) (c : Fin 128) : colQ a1 (ix2 ⟨n, hn⟩ ⟨128 * h.val + c.val, by omega⟩) = (((Sp.HD a1 a10 h).q n c.val : ℝ) : EReal) := by
  refine (col_at a1 _ _).1.trans ((zr_coe a1 a10 hT n (128 * h.val + c.val) hn (by omega)).trans ?_)
  show _ = ((Sp.zr a1 n (128 * h.val + c.val % 128) : ℝ) : EReal)
  rw [Nat.mod_eq_of_lt c.isLt]

theorem v_at (n : ℕ) (hn : n < 16384) (h : Fin 4) (c : Fin 128) : colI a1 (ix2 ⟨n, hn⟩ ⟨128 * h.val + c.val, by omega⟩) = (((Sp.HD a1 a10 h).v n c.val : ℝ) : EReal) := by
  refine (col_at a1 _ _).2.2.1.trans ((zr_coe a1 a10 hT n (1024 + (128 * h.val + c.val)) hn (by omega)).trans ?_)
  show _ = ((Sp.zr a1 n (1024 + (128 * h.val + c.val % 128)) : ℝ) : EReal)
  rw [Nat.mod_eq_of_lt c.isLt]

theorem k_at (n : ℕ) (hn : n < 16384) (h : Fin 4) (c : Fin 128) :
    openT (lbT (softT a10)) (Host.negf (colF a1)) (ix2 ⟨n, hn⟩ ⟨128 * h.val + c.val, by omega⟩) = (((Sp.HD a1 a10 h).k n c.val : ℝ) : EReal) := by
  refine openT_at _ _ _ _ _ (-(Sp.HD a1 a10 h).f n c.val) (lb_at a1 a10 hT h c) ?_
  show -(colF a1 (ix2 ⟨n, hn⟩ ⟨128 * h.val + c.val, by omega⟩)) = _
  rw [f_at a1 a10 hT n hn h c, EReal.coe_neg]

theorem l_at (n : ℕ) (hn : n < 16384) (h : Fin 4) (c : Fin 128) :
    logT (lbT (softT a10)) (colF a1) (ix2 ⟨n, hn⟩ ⟨128 * h.val + c.val, by omega⟩) = (((Sp.HD a1 a10 h).l n c.val : ℝ) : EReal) :=
  logT_at _ _ _ _ _ _ (lb_at a1 a10 hT h c) (f_at a1 a10 hT n hn h c) ((Sp.HD_good a1 a10 hT h).2.1 _) ((Sp.HD_good a1 a10 hT h).2.2 _)

end tame

theorem zero_at {s : Shape} (h : S_.BroadcastsInDim s (![] : Fin 0 → Fin s.rank)) (i : s.Idx) :
    broadcastInDim s ![] h (constant (F := Ideal) S_ .f32 0x00000000#32) i = 0 := by
  show Ideal.ofBits FTy.f32 0x00000000#32 = 0
  simp [Ideal.ofBits, Ideal.ieee]

/-- The loop starts as it should. -/
theorem entry_inv (hT : Sp.Tame (m ((c.tc : Thread nD τ).loc main_arg1)) (m ((c.tc : Thread nD τ).loc main_arg10))) :
    InvV (Sp.HD (m ((c.tc : Thread nD τ).loc main_arg1)) (m ((c.tc : Thread nD τ).loc main_arg10))) 0 (entryContents preI m c) := by
  unfold InvV
  rw [entry_q, entry_k, entry_v, entry_l, entry_mask, entry_st, ctr_entry]
  exact ⟨fun n h t j => (chT_at _ n h t j).trans (q_at _ _ hT _ _ h j), fun n h t j => (chT_at _ n h t j).trans (k_at _ _ hT _ _ h j),
    fun n h t j => (chT_at _ n h t j).trans (v_at _ _ hT _ _ h j), fun n h t j => (chT_at _ n h t j).trans (l_at _ _ hT _ _ h j), maskT_at, rfl,
    fun h i j => zero_at _ _, fun n h t j hn => absurd hn (by omega)⟩

end Hg.MR
-- ==== Proof.RefPost.lean ====
/-
  What the reference makes of the loop's outputs: the gated heads, the short convolution, the output projection, the
  residual and the feed-forward part.
-/
module

public import proofs.«01_k».proof.Proof.RefGate
public import proofs.«01_k».proof.Proof.MixRefRun

@[expose] public section

noncomputable section

namespace Hg.MR

open Idealize.ShloMosaic Idealize.ShloMosaic.TcCoe Idealize.ShloMosaic.StableHlo Cert.MixRefIdeal Cert.MixRefIdeal.Gen Cert.MixRefIdeal.Value

/-! ## The terms -/

/-- The outputs by token and head. -/
def tokT (o : FVec Ideal S256x4x64x128 .f32) : FVec Ideal S16384x4x128 .f32 :=
  shapeCast S16384x4x128 (transpose S256x64x4x128 [0, 2, 1, 3] o transposes_S256x4x64x128_S256x64x4x128_0_2_1_3) shapeCasts_S256x64x4x128_S16384x4x128

/-- The outputs normed, weighted and gated, before the heads are joined. -/
def gatT (o g : FVec Ideal S16384x4x128 .f32) (w : FVec Ideal S128 .f32) : FVec Ideal S16384x4x128 .f32 :=
  mulf (mulf (mulf o (broadcastInDim S16384x4x128 ![0, 1, 2] bcast_S16384x4x1_S16384x4x128_0_1_2
      (Host.rsqrt (addf (Host.divf (broadcastInDim S16384x4x1 ![0, 1] bcast_S16384x4_S16384x4x1_0_1
        (Host.reduceAdd (mulf o o) (constant S_ .f32 0x00000000#32) reducesTo_S16384x4x128_S16384x4_d2 h_S_))
        (broadcastInDim S16384x4x1 ![] bcast_S_S16384x4x1 (constant S_ .f32 0x43000000#32)))
        (broadcastInDim S16384x4x1 ![] bcast_S_S16384x4x1 (constant S_ .f32 0x358637BD#32))))))
      (broadcastInDim S16384x4x128 ![0, 1, 2] bcast_S1x1x128_S16384x4x128_0_1_2 (broadcastInDim S1x1x128 ![2] bcast_S128_S1x1x128_2 w)))
    (mulf g (Host.divf (broadcastInDim S16384x4x128 ![] bcast_S_S16384x4x128 (constant S_ .f32 0x3F800000#32))
      (addf (broadcastInDim S16384x4x128 ![] bcast_S_S16384x4x128 (constant S_ .f32 0x3F800000#32)) (Host.exp (Host.negf g)))))

/-- The recurrence's gated outputs. -/
def hgT (o : FVec Ideal S256x4x64x128 .f32) (z : FVec Ideal S16384x512 .f32) (w : FVec Ideal S128 .f32) : FVec Ideal S16384x512 .f32 :=
  shapeCast S16384x512 (gatT (tokT o) (shapeCast S16384x4x128 z shapeCasts_S16384x512_S16384x4x128) w) shapeCasts_S16384x4x128_S16384x512

/-- Two rows of zeros above. -/
def padT (x : FVec Ideal S16384x256 .f32) : FVec Ideal S16386x256 .f32 :=
  pad S16386x256 ![2, 0] ![0, 0] ![0, 0] x (sitofp (F := Ideal) .f32 (constantI S_ 32 0#32)) pads_S16384x256_S16386x256_200_000 h_S_

/-- One row of weights over all tokens. -/
def overT (r : FVec Ideal S1x256 .f32) : FVec Ideal S16384x256 .f32 :=
  broadcastInDim S16384x256 ![0, 1] bcast_S1x256_S16384x256_0_1 (broadcastInDim S1x256 ![1] bcast_S256_S1x256_1 (shapeCast S256 r shapeCasts_S1x256_S256))

/-- The short convolution's outputs. -/
def cvT (b x : FVec Ideal S16384x256 .f32) (p : FVec Ideal S16386x256 .f32) (w : FVec Ideal S3x256 .f32) : FVec Ideal S16384x256 .f32 :=
  mulf b (addf (addf (mulf (extractStridedSlice S16384x256 ![0, 0] p slices_S16386x256_S16384x256_0_0) (overT (extractStridedSlice S1x256 ![0, 0] w slices_S3x256_S1x256_0_0)))
    (mulf (extractStridedSlice S16384x256 ![1, 0] p slices_S16386x256_S16384x256_1_0) (overT (extractStridedSlice S1x256 ![1, 0] w slices_S3x256_S1x256_1_0))))
    (mulf x (overT (extractStridedSlice S1x256 ![2, 0] w slices_S3x256_S1x256_2_0))))

/-- The three mixers side by side. -/
def catT (x : FVec Ideal S16384x512 .f32) (y : FVec Ideal S16384x256 .bf16) (z : FVec Ideal S16384x256 .f32) : FVec Ideal S16384x1024 .f32 :=
  concatenate S16384x1024 1 [⟨S16384x512, x⟩, ⟨S16384x256, (extf (F := Ideal) .f32 y bitsLt_bf16_f32 : FVec Ideal S16384x256 .f32)⟩, ⟨S16384x256, z⟩] concatenates_S16384x512_S16384x256_S16384x256_S16384x1024_d1

/-- Rows normed by their root mean squares and weighted. -/
def rmsT (x : FVec Ideal S16384x1024 .f32) (w : FVec Ideal S1x1x1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
        (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast S1024 w shapeCasts_S1x1x1024_S1024)))

/-- The residual after the mixers. -/
def resT (a0 : FVec Ideal S16384x1024 .f32) (o : FVec Ideal S16384x1024 .f32) (a5 : FVec Ideal S2x1024x1024 .f32) (a6 : FVec Ideal S2x6x1024 .f32) : FVec Ideal S16384x1024 .f32 :=
  addf a0 (rmsT (Host.dotGeneral dot_S16384x1024_S1024x1024_S16384x1024_1_0_0_1_n_n none o
    (shapeCast S1024x1024 (extractStridedSlice S1x1024x1024 ![1, 0, 0] a5 slices_S2x1024x1024_S1x1024x1024_1_0_0) shapeCasts_S1x1024x1024_S1024x1024))
    (extractStridedSlice S1x1x1024 ![1, 3, 0] a6 slices_S2x6x1024_S1x1x1024_1_3_0))

/-- Rows times a layer's slice of the hidden weights. -/
def upT (x : FVec Ideal S16384x1024 .f32) (w : FVec Ideal S2x1024x2816 .f32) : FVec Ideal S16384x2816 .f32 :=
  Host.dotGeneral dot_S16384x1024_S1024x2816_S16384x2816_1_0_0_1_n_n none x
    (shapeCast S1024x2816 (extractStridedSlice S1x1024x2816 ![1, 0, 0] w slices_S2x1024x2816_S1x1024x2816_1_0_0) shapeCasts_S1x1024x2816_S1024x2816)

/-- Hidden units gated. -/
def actT (g u : FVec Ideal S16384x2816 .f32) : FVec Ideal S16384x2816 .f32 :=
  mulf (mulf g (Host.divf (broadcastInDim S16384x2816 ![] bcast_S_S16384x2816 (constant S_ .f32 0x3F800000#32))
    (addf (broadcastInDim S16384x2816 ![] bcast_S_S16384x2816 (constant S_ .f32 0x3F800000#32)) (Host.exp (Host.negf g))))) u

/-- The feed-forward part. -/
def ffT (x : FVec Ideal S16384x1024 .f32) (a7 a8 : FVec Ideal S2x1024x2816 .f32) (a9 : FVec Ideal S2x2816x1024 .f32) : FVec Ideal S16384x1024 .f32 :=
  Host.dotGeneral dot_S16384x2816_S2816x1024_S16384x1024_1_0_0_1_n_n none (actT (upT x a7) (upT x a8))
    (shapeCast S2816x1024 (extractStridedSlice S1x2816x1024 ![1, 0, 0] a9 slices_S2x2816x1024_S1x2816x1024_1_0_0) shapeCasts_S1x2816x1024_S2816x1024)

/-- The result of the residual. -/
def endT (y : FVec Ideal S16384x1024 .f32) (a6 : FVec Ideal S2x6x1024 .f32) (a7 a8 : FVec Ideal S2x1024x2816 .f32) (a9 : FVec Ideal S2x2816x1024 .f32) : FVec Ideal S16384x1024 .f32 :=
  addf y (mulf (broadcastInDim S16384x1024 ![] bcast_S_S16384x1024 (constant S_ .f32 0x3F000000#32))
    (rmsT (ffT (rmsT y (extractStridedSlice S1x1x1024 ![1, 4, 0] a6 slices_S2x6x1024_S1x1x1024_1_4_0)) a7 a8 a9)
      (extractStridedSlice S1x1x1024 ![1, 5, 0] a6 slices_S2x6x1024_S1x1x1024_1_5_0)))

/-! ## Their entries -/

theorem tokT_at (o : FVec Ideal S256x4x64x128 .f32) (R : Fin 16384) (h : Fin 4) (j : Fin 128) :
    tokT o (ix3 R h j) = o (ix4 ⟨R.val / 64, by omega⟩ h ⟨R.val % 64, by omega⟩ j) := by
  unfold tokT
  pointwise

theorem gatT_at (o g : FVec Ideal S16384x4x128 .f32) (w : FVec Ideal S128 .f32) (R : Fin 16384) (h : Fin 4) (j : Fin 128) :
    gatT o g w (ix3 R h j) = gateE (fun j => o (ix3 R h j)) (fun j => g (ix3 R h j)) (fun j => w (ix1 j)) j := by
  unfold gatT
  pointwise
  rfl

theorem hgT_at (o : FVec Ideal S256x4x64x128 .f32) (z : FVec Ideal S16384x512 .f32) (w : FVec Ideal S128 .f32) (R : Fin 16384) (k : Fin 512) :
    hgT o z w (ix2 R k) = gateE (fun j => o (ix4 ⟨R.val / 64, by omega⟩ ⟨k.val / 128, by omega⟩ ⟨R.val % 64, by omega⟩ j))
      (fun j => z (ix2 R ⟨128 * (k.val / 128) + j.val, by omega⟩)) (fun j => w (ix1 j)) ⟨k.val % 128, by omega⟩ := by
  unfold hgT
  pointwise
  rw [gatT_at]
  refine congrArg₂ (fun a b => gateE a b (fun j => w (ix1 j)) ⟨k.val % 128, by omega⟩) (funext fun j => tokT_at _ _ _ _) (funext fun j => ?_)
  pointwise
  exact congrArg z (congrArg (ix2 R) (Fin.ext (by show k.val / 128 * 128 + j.val = 128 * (k.val / 128) + j.val; omega)))

theorem padT_at (x : FVec Ideal S16384x256 .f32) (R : Fin 16386) (j : Fin 256) :
    padT x (ix2 R j) = if h : 2 ≤ R.val then x (ix2 ⟨R.val - 2, by omega⟩ j) else 0 := by
  unfold padT
  pointwise
  by_cases h : 2 ≤ R.val
  · rw [dif_pos h, dif_pos ⟨h, by omega⟩]
  · rw [dif_neg h, dif_neg fun hh => h hh.1]
    show (((0#32 : BitVec 32).toInt : ℝ) : EReal) = 0
    simp

theorem overT_at (r : FVec Ideal S1x256 .f32) (R : Fin 16384) (j : Fin 256) : overT r (ix2 R j) = r (ix2 0 j) := by
  unfold overT
  pointwise

theorem cvT_at (b x : FVec Ideal S16384x256 .f32) (p : FVec Ideal S16386x256 .f32) (w : FVec Ideal S3x256 .f32) (R : Fin 16384) (j : Fin 256) :
    cvT b x p w (ix2 R j) = b (ix2 R j) * (w (ix2 0 j) * p (ix2 ⟨R.val, by omega⟩ j) + w (ix2 1 j) * p (ix2 ⟨R.val + 1, by omega⟩ j) + w (ix2 2 j) * x (ix2 R j)) := by
  unfold cvT
  pointwise
  rw [overT_at, overT_at, overT_at]
  pointwise
  rw [mul_comm (p (ix2 ⟨R.val, _⟩ j)), mul_comm (p (ix2 ⟨1 + R.val, _⟩ j)), mul_comm (x (ix2 R j))]
  refine congrArg (fun i => b (ix2 R j) * (w (ix2 0 j) * p (ix2 ⟨R.val, _⟩ j) + w (ix2 1 j) * p (ix2 i j) + w (ix2 2 j) * x (ix2 R j))) (Fin.ext ?_)
  show 1 + R.val = R.val + 1
  omega

theorem catT_at (x : FVec Ideal S16384x512 .f32) (y : FVec Ideal S16384x256 .bf16) (z : FVec Ideal S16384x256 .f32) (R : Fin 16384) (k : Fin 1024) :
    catT x y z (ix2 R k) = if h : k.val < 512 then x (ix2 R ⟨k.val, h⟩) else if h' : k.val < 768 then y (ix2 R ⟨k.val - 512, by omega⟩) else z (ix2 R ⟨k.val - 768, by omega⟩) := by
  unfold catT
  pointwise
  by_cases h : k.val < 512
  · rw [dif_pos h, dif_pos h]
  · rw [dif_neg h, dif_neg h]
    by_cases h' : k.val < 768
    · rw [dif_pos h', dif_pos (show k.val - 512 < 256 by omega)]
    · rw [dif_neg h', dif_neg (show ¬ k.val - 512 < 256 by omega)]
      exact congrArg z (congrArg (ix2 R) (Fin.ext (by show k.val - 512 - 256 = k.val - 768; omega)))

theorem rmsT_at (x : FVec Ideal S16384x1024 .f32) (w : FVec Ideal S1x1x1024 .f32) (R : Fin 16384) (j : Fin 1024) :
    rmsT x w (ix2 R j) = Row.rms (fun k => x (ix2 R k)) (fun k => w (ix3 0 0 k)) j := by
  unfold rmsT
  pointwise
  rfl

theorem resT_at (a0 : FVec Ideal S16384x1024 .f32) (o : FVec Ideal S16384x1024 .f32) (a5 : FVec Ideal S2x1024x1024 .f32) (a6 : FVec Ideal S2x6x1024 .f32) (R : Fin 16384) (j : Fin 1024) :
    resT a0 o a5 a6 (ix2 R j) = a0 (ix2 R j) + Row.rms (fun j => ∑ k, o (ix2 R k) * a5 (ix3 1 k j)) (fun j => a6 (ix3 1 3 j)) j := by
  unfold resT
  pointwise
  rw [rmsT_at]
  pointwise

theorem upT_at (x : FVec Ideal S16384x1024 .f32) (w : FVec Ideal S2x1024x2816 .f32) (R : Fin 16384) (k : Fin 2816) :
    upT x w (ix2 R k) = ∑ i, x (ix2 R i) * w (ix3 1 i k) := by
  unfold upT
  pointwise

theorem actT_at (g u : FVec Ideal S16384x2816 .f32) (R : Fin 16384) (k : Fin 2816) :
    actT g u (ix2 R k) = g (ix2 R k) * Ideal.logistic (g (ix2 R k)) * u (ix2 R k) := by
  unfold actT
  pointwise
  rfl

theorem ffT_at (x : FVec Ideal S16384x1024 .f32) (a7 a8 : FVec Ideal S2x1024x2816 .f32) (a9 : FVec Ideal S2x2816x1024 .f32) (R : Fin 16384) (j : Fin 1024) :
    ffT x a7 a8 a9 (ix2 R j) = Row.ffn (fun k => x (ix2 R k)) (fun i k => a7 (ix3 1 i k)) (fun i k => a8 (ix3 1 i k)) (fun k j => a9 (ix3 1 k j)) j := by
  unfold ffT
  pointwise
  simp only [actT_at, upT_at]
  rfl

theorem endT_at (y : FVec Ideal S16384x1024 .f32) (a6 : FVec Ideal S2x6x1024 .f32) (a7 a8 : FVec Ideal S2x1024x2816 .f32) (a9 : FVec Ideal S2x2816x1024 .f32) (R : Fin 16384) (j : Fin 1024) :
    endT y a6 a7 a8 a9 (ix2 R j) = Row.half (fun k => y (ix2 R k))
      (Row.ffn (Row.rms (fun k => y (ix2 R k)) (fun j => a6 (ix3 1 4 j))) (fun i k => a7 (ix3 1 i k)) (fun i k => a8 (ix3 1 i k)) (fun k j => a9 (ix3 1 k j)))
      (fun j => a6 (ix3 1 5 j)) j := by
  unfold endT
  pointwise
  simp only [rmsT_at, ffT_at]
  have e4 : ∀ k : Fin 1024, extractStridedSlice S1x1x1024 ![1, 4, 0] a6 slices_S2x6x1024_S1x1x1024_1_4_0 (ix3 0 0 k) = a6 (ix3 1 4 k) := fun k => by pointwise
  have e5 : ∀ k : Fin 1024, extractStridedSlice S1x1x1024 ![1, 5, 0] a6 slices_S2x6x1024_S1x1x1024_1_5_0 (ix3 0 0 k) = a6 (ix3 1 5 k) := fun k => by pointwise
  simp only [e4, e5]
  rfl

/-! ## The stretches' reads -/

variable (V : Valuation τ sig (Elt Ideal))

theorem post7 : after hostOps0_7 V (Proc.devRef .tc main_v187)
    = endT (resT (V (Proc.devRef .tc main_arg0))
        (catT (V (Proc.devRef .tc main_v92)) (V (Proc.devRef .tc main_arg2)) (cvT (V (Proc.devRef .tc main_v21)) (V (Proc.devRef .tc main_v95)) (V (Proc.devRef .tc main_v96)) (V (Proc.devRef .tc main_v94))))
        (V (Proc.devRef .tc main_arg5)) (V (Proc.devRef .tc main_arg6)))
      (V (Proc.devRef .tc main_arg6)) (V (Proc.devRef .tc main_arg7)) (V (Proc.devRef .tc main_arg8)) (V (Proc.devRef .tc main_arg9)) := by
  after_reads_simp
  rfl

theorem post6_v96 : after hostOps0_6 V (Proc.devRef .tc main_v96) = pad S16386x256 ![2, 0] ![0, 0] ![0, 0] (V (Proc.devRef .tc main_v95) : FVec Ideal S16384x256 .f32)
    (sitofp (F := Ideal) .f32 (V (Proc.devRef .tc main_c_16) : IVec S_ 32)) pads_S16384x256_S16386x256_200_000 h_S_ := by
  after_reads_simp
  rfl

theorem post5_v92 : after hostOps0_5 V (Proc.devRef .tc main_v92) = hgT (V (Proc.devRef .tc main_v67_7)) (V (Proc.devRef .tc main_v20)) (V (Proc.devRef .tc main_v27)) := by
  after_reads_simp
  rfl

theorem post5_v94 : after hostOps0_5 V (Proc.devRef .tc main_v94) = shapeCast S3x256 (extractStridedSlice S1x3x256 ![1, 0, 0] (V (Proc.devRef .tc main_arg4) : FVec Ideal S2x3x256 .f32) slices_S2x3x256_S1x3x256_1_0_0) shapeCasts_S1x3x256_S3x256 := by
  after_reads_simp
  rfl

theorem post5_v95 : after hostOps0_5 V (Proc.devRef .tc main_v95) = (mulf (F := Ideal) (V (Proc.devRef .tc main_v22) : FVec Ideal S16384x256 .f32) (V (Proc.devRef .tc main_v23) : FVec Ideal S16384x256 .f32) : FVec Ideal S16384x256 .f32) := by
  after_reads_simp

theorem post5_c : after hostOps0_5 V (Proc.devRef .tc main_c_16) = constantI S_ 32 0#32 := by
  after_reads_simp

/-! ## The entry's other buffers -/

variable (m : (ℓ : Loc nD τ sig) → Buf (Elt Ideal) ℓ) (c : Dev nD)

/-- The convolution's three parts. -/
def partT0 (x : FVec Ideal S16384x768 .f32) : FVec Ideal S16384x256 .f32 := extractStridedSlice S16384x256 ![0, 0] x slices_S16384x768_S16384x256_0_0
def partT1 (x : FVec Ideal S16384x768 .f32) : FVec Ideal S16384x256 .f32 := extractStridedSlice S16384x256 ![0, 256] x slices_S16384x768_S16384x256_0_256
def partT2 (x : FVec Ideal S16384x768 .f32) : FVec Ideal S16384x256 .f32 := extractStridedSlice S16384x256 ![0, 512] x slices_S16384x768_S16384x256_0_512
/-- The heads' weights of the second layer. -/
def headW (x : FVec Ideal S2x128 .f32) : FVec Ideal S128 .f32 := shapeCast S128 (extractStridedSlice S1x128 ![1, 0] x slices_S2x128_S1x128_1_0) shapeCasts_S1x128_S128
/-- The taps of the second layer. -/
def tapT (x : FVec Ideal S2x3x256 .f32) : FVec Ideal S3x256 .f32 := shapeCast S3x256 (extractStridedSlice S1x3x256 ![1, 0, 0] x slices_S2x3x256_S1x3x256_1_0_0) shapeCasts_S1x3x256_S3x256

theorem part_at (x : FVec Ideal S16384x768 .f32) (R : Fin 16384) (j : Fin 256) :
    partT0 x (ix2 R j) = x (ix2 R ⟨j.val, by omega⟩) ∧ partT1 x (ix2 R j) = x (ix2 R ⟨256 + j.val, by omega⟩) ∧ partT2 x (ix2 R j) = x (ix2 R ⟨512 + j.val, by omega⟩) := by
  refine ⟨?_, ?_, ?_⟩
  · unfold partT0
    pointwise
  · unfold partT1
    pointwise
  · unfold partT2
    pointwise

theorem headW_at (x : FVec Ideal S2x128 .f32) (j : Fin 128) : headW x (ix1 j) = x (ix2 1 j) := by
  unfold headW
  pointwise

theorem tapT_at (x : FVec Ideal S2x3x256 .f32) (i : Fin 3) (j : Fin 256) : tapT x (ix2 i j) = x (ix3 1 i j) := by
  unfold tapT
  pointwise

theorem entry_v20 : entryContents preI m c (Proc.devRef .tc main_v20) = colG (m ((c.tc : Thread nD τ).loc main_arg1)) := by
  simp only [entryContents, afterL_cons, afterL_nil]
  after_reads_simp
  rfl
theorem entry_v21 : entryContents preI m c (Proc.devRef .tc main_v21) = partT0 (m ((c.tc : Thread nD τ).loc main_arg3)) := by
  simp only [entryContents, afterL_cons, afterL_nil]
  after_reads_simp
  rfl
theorem entry_v22 : entryContents preI m c (Proc.devRef .tc main_v22) = partT1 (m ((c.tc : Thread nD τ).loc main_arg3)) := by
  simp only [entryContents, afterL_cons, afterL_nil]
  after_reads_simp
  rfl
theorem entry_v23 : entryContents preI m c (Proc.devRef .tc main_v23) = partT2 (m ((c.tc : Thread nD τ).loc main_arg3)) := by
  simp only [entryContents, afterL_cons, afterL_nil]
  after_reads_simp
  rfl
theorem entry_v27 : entryContents preI m c (Proc.devRef .tc main_v27) = headW (m ((c.tc : Thread nD τ).loc main_arg11)) := by
  simp only [entryContents, afterL_cons, afterL_nil]
  after_reads_simp
  rfl

/-! ## What the last stretch reads -/

/-- The valuation at the loop's exit. -/
abbrev exitV : Valuation τ sig (Elt Ideal) := after condOps (atK m 256 c)
/-- The valuation at the last stretch. -/
abbrev lastV : Valuation τ sig (Elt Ideal) := after hostOps0_6 (after hostOps0_5 (exitV m c))

theorem exit_kept (b : Ref sig .tc) (h : b ∉ tripW) : exitV m c (Proc.devRef .tc b) = entryContents preI m c (Proc.devRef .tc b) :=
  (kept_cond _ b h).trans (kept_loop m c b h 256)

theorem exit_arg (b : Ref sig .tc) (h0 : b ∉ preW) (h : b ∉ tripW) : exitV m c (Proc.devRef .tc b) = m ((c.tc : Thread nD τ).loc b) :=
  (exit_kept m c b h).trans (kept_pre _ b h0)

theorem last_exit (b : Ref sig .tc) (h5 : b ∉ post5W) (h6 : b ∉ post6W) : lastV m c (Proc.devRef .tc b) = exitV m c (Proc.devRef .tc b) := by
  unfold lastV
  rw [after_of_writes_sub _ _ post6_writes h6, after_of_writes_sub _ _ post5_writes h5]

theorem last_arg (b : Ref sig .tc) (h0 : b ∉ preW) (h : b ∉ tripW) (h5 : b ∉ post5W) (h6 : b ∉ post6W) : lastV m c (Proc.devRef .tc b) = m ((c.tc : Thread nD τ).loc b) :=
  (last_exit m c b h5 h6).trans (exit_arg m c b h0 h)

theorem last_v92 : lastV m c (Proc.devRef .tc main_v92) = hgT (atK m 256 c (Proc.devRef .tc main_v67_7)) (colG (m ((c.tc : Thread nD τ).loc main_arg1))) (headW (m ((c.tc : Thread nD τ).loc main_arg11))) := by
  unfold lastV
  rw [after_of_writes_sub _ _ post6_writes (by decide), post5_v92, exit_kept m c main_v20 (by decide +kernel), exit_kept m c main_v27 (by decide +kernel), entry_v20, entry_v27]
  unfold exitV
  rw [after_of_writes_sub _ _ condOps_writes (by decide)]

theorem last_v94 : lastV m c (Proc.devRef .tc main_v94) = tapT (m ((c.tc : Thread nD τ).loc main_arg4)) := by
  unfold lastV
  rw [after_of_writes_sub _ _ post6_writes (by decide), post5_v94, exit_arg m c main_arg4 (by decide +kernel) (by decide +kernel)]
  rfl

/-- The convolution's gated input. -/
def inT (x : FVec Ideal S16384x768 .f32) : FVec Ideal S16384x256 .f32 := mulf (partT1 x) (partT2 x)

theorem inT_at (x : FVec Ideal S16384x768 .f32) (R : Fin 16384) (j : Fin 256) : inT x (ix2 R j) = Sp.u x R j :=
  congrArg₂ (· * ·) (part_at x R j).2.1 (part_at x R j).2.2

theorem mid_v95 : after hostOps0_5 (exitV m c) (Proc.devRef .tc main_v95) = inT (m ((c.tc : Thread nD τ).loc main_arg3)) := by
  rw [post5_v95, exit_kept m c main_v22 (by decide +kernel), exit_kept m c main_v23 (by decide +kernel), entry_v22, entry_v23]
  rfl

theorem last_v95 : lastV m c (Proc.devRef .tc main_v95) = inT (m ((c.tc : Thread nD τ).loc main_arg3)) := by
  unfold lastV
  rw [after_of_writes_sub _ _ post6_writes (by decide), mid_v95]

theorem last_v96 : lastV m c (Proc.devRef .tc main_v96) = padT (inT (m ((c.tc : Thread nD τ).loc main_arg3))) := by
  unfold lastV
  rw [post6_v96, mid_v95, post5_c]
  rfl

theorem last_v21 : lastV m c (Proc.devRef .tc main_v21) = partT0 (m ((c.tc : Thread nD τ).loc main_arg3)) :=
  (last_exit m c main_v21 (by decide +kernel) (by decide +kernel)).trans ((exit_kept m c main_v21 (by decide +kernel)).trans (entry_v21 m c))

/-- The result's term. -/
theorem final_read : finalContents condOps preI bodyI postI 256 m c (Proc.devRef .tc main_v187)
    = endT (resT (m ((c.tc : Thread nD τ).loc main_arg0))
        (catT (hgT (atK m 256 c (Proc.devRef .tc main_v67_7)) (colG (m ((c.tc : Thread nD τ).loc main_arg1))) (headW (m ((c.tc : Thread nD τ).loc main_arg11)))) (m ((c.tc : Thread nD τ).loc main_arg2))
          (cvT (partT0 (m ((c.tc : Thread nD τ).loc main_arg3))) (inT (m ((c.tc : Thread nD τ).loc main_arg3))) (padT (inT (m ((c.tc : Thread nD τ).loc main_arg3)))) (tapT (m ((c.tc : Thread nD τ).loc main_arg4)))))
        (m ((c.tc : Thread nD τ).loc main_arg5)) (m ((c.tc : Thread nD τ).loc main_arg6)))
      (m ((c.tc : Thread nD τ).loc main_arg6)) (m ((c.tc : Thread nD τ).loc main_arg7)) (m ((c.tc : Thread nD τ).loc main_arg8)) (m ((c.tc : Thread nD τ).loc main_arg9)) := by
  have e : finalContents condOps preI bodyI postI 256 m c (Proc.devRef .tc main_v187) = after hostOps0_7 (lastV m c) (Proc.devRef .tc main_v187) := rfl
  rw [e, post7, last_v92, last_v94, last_v95, last_v96, last_v21,
    last_arg m c main_arg0 (by decide +kernel) (by decide +kernel) (by decide +kernel) (by decide +kernel),
    last_arg m c main_arg2 (by decide +kernel) (by decide +kernel) (by decide +kernel) (by decide +kernel),
    last_arg m c main_arg5 (by decide +kernel) (by decide +kernel) (by decide +kernel) (by decide +kernel),
    last_arg m c main_arg6 (by decide +kernel) (by decide +kernel) (by decide +kernel) (by decide +kernel),
    last_arg m c main_arg7 (by decide +kernel) (by decide +kernel) (by decide +kernel) (by decide +kernel),
    last_arg m c main_arg8 (by decide +kernel) (by decide +kernel) (by decide +kernel) (by decide +kernel),
    last_arg m c main_arg9 (by decide +kernel) (by decide +kernel) (by decide +kernel) (by decide +kernel)]

/-! ## The result -/

section
variable (a0 : FVec Ideal S16384x1024 .f32) (a1 : FVec Ideal S16384x2048 .f32) (a2 : FVec Ideal S16384x256 .bf16)
  (a3 : FVec Ideal S16384x768 .f32) (a4 : FVec Ideal S2x3x256 .f32) (a5 : FVec Ideal S2x1024x1024 .f32)
  (a6 : FVec Ideal S2x6x1024 .f32) (a7 a8 : FVec Ideal S2x1024x2816 .f32) (a9 : FVec Ideal S2x2816x1024 .f32)
  (a10 : FVec Ideal S2x512 .f32) (a11 : FVec Ideal S2x128 .f32) (o : FVec Ideal S256x4x64x128 .f32)
  (ho : ∀ n h t j, o (ix4 n h t j) = (((Sp.HD a1 a10 h).out (64 * n.val + t.val) j.val : ℝ) : EReal))

theorem pad_ub (d : ℕ) (hd : d ≤ 2) (R : Fin 16384) (j : Fin 256) : padT (inT a3) (ix2 ⟨R.val + (2 - d), by omega⟩ j) = Sp.ub a3 d R j := by
  rw [padT_at]
  unfold Sp.ub
  by_cases h : d ≤ R.val
  · rw [if_pos h, dif_pos (show 2 ≤ R.val + (2 - d) by omega), inT_at]
    exact congrArg (fun r => Sp.u a3 r j) (Fin.ext (by show R.val + (2 - d) - 2 = R.val - d; omega))
  · rw [if_neg h, dif_neg (show ¬ 2 ≤ R.val + (2 - d) by omega)]

theorem cv_row (R : Fin 16384) (j : Fin 256) : cvT (partT0 a3) (inT a3) (padT (inT a3)) (tapT a4) (ix2 R j) = Sp.cvRow a3 a4 R j := by
  rw [cvT_at, (part_at a3 R j).1, tapT_at, tapT_at, tapT_at, inT_at]
  exact congrArg₂ (fun p q => a3 (ix2 R ⟨j.val, by omega⟩) * (a4 (ix3 1 0 j) * p + a4 (ix3 1 1 j) * q + a4 (ix3 1 2 j) * Sp.u a3 R j)) (pad_ub a3 2 le_rfl R j) (pad_ub a3 1 (by omega) R j)

include ho

theorem hg_row (R : Fin 16384) (k : Fin 512) : hgT o (colG a1) (headW a11) (ix2 R k) = Sp.hgRow a1 a10 a11 R k := by
  rw [hgT_at]
  unfold Sp.hgRow
  simp only [ho, headW_at, (col_at a1 _ _).2.2.2]
  have e : 64 * (R.val / 64) + R.val % 64 = R.val := Nat.div_add_mod _ _
  simp only [e]

theorem o_row (R : Fin 16384) (k : Fin 1024) :
    catT (hgT o (colG a1) (headW a11)) a2 (cvT (partT0 a3) (inT a3) (padT (inT a3)) (tapT a4)) (ix2 R k) = Sp.oRow a1 a2 a3 a4 a10 a11 R k := by
  rw [catT_at]
  unfold Sp.oRow
  simp only [hg_row a1 a10 a11 o ho, cv_row]

theorem res_at (R : Fin 16384) (j : Fin 1024) :
    endT (resT a0 (catT (hgT o (colG a1) (headW a11)) a2 (cvT (partT0 a3) (inT a3) (padT (inT a3)) (tapT a4))) a5 a6) a6 a7 a8 a9 (ix2 R j)
      = Sp.res a0 a1 a2 a3 a4 a5 a6 a7 a8 a9 a10 a11 R j := by
  rw [endT_at]
  simp only [resT_at, o_row a1 a2 a3 a4 a10 a11 o ho]
  rfl

end

/-- The reference's result, row by row. -/
theorem ref_res (hT : Sp.Tame (m ((c.tc : Thread nD τ).loc main_arg1)) (m ((c.tc : Thread nD τ).loc main_arg10))) (R : Fin 16384) (j : Fin 1024) :
    (finalContents condOps preI bodyI postI 256 m c (Proc.devRef .tc main_v187) : FVec Ideal S16384x1024 .f32) (ix2 R j)
      = Sp.res (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) R j :=
  (congrFun (final_read m c) (ix2 R j)).trans (res_at _ _ _ _ _ _ _ _ _ _ _ _ _ (fun n h t j => loop_out m c (entry_inv m c hT) n h t j) R j)

end Hg.MR
-- ==== Proof.Pre.lean ====
/-
  What the precondition says of the gates' arguments.
-/
module

public import proofs.«01_k».proof.Defs
public import proofs.«01_k».proof.Proof.MixSpec
public import Idealize.ShloMosaic.Lib.ReduceAll

@[expose] public section

noncomputable section

namespace Hg.Pr

open Idealize.ShloMosaic Cert.Pre_gates_tame

theorem f0 : S16384x2048.Slices ![0, 0] S16384x1536 := by decide
theorem f1 : S_.BroadcastsInDim S16384x1536 (![] : Fin 0 → Fin S16384x1536.rank) := by decide
theorem f2 : S16384x1536.ReducesTo [0, 1] S_ := by decide
theorem f3 : 0 < S_.numel := by decide
theorem f4 : S16384x2048.Slices ![0, 512] S16384x512 := by decide
theorem f5 : S_.BroadcastsInDim S16384x512 (![] : Fin 0 → Fin S16384x512.rank) := by decide
theorem f6 : S16384x512.ReducesTo [0, 1] S_ := by decide
theorem f7 : S_.BroadcastsInDim S2x512 (![] : Fin 0 → Fin S2x512.rank) := by decide
theorem f8 : S2x512.ReducesTo [0, 1] S_ := by decide

/-- The precondition's shape relations. -/
instance facts : Cert.Pre_gates_tame.Facts where
  slices_S16384x2048_S16384x1536_0_0 := f0
  bcast_S_S16384x1536 := f1
  reducesTo_S16384x1536_S_d0_1 := f2
  h_S_ := f3
  slices_S16384x2048_S16384x512_0_512 := f4
  bcast_S_S16384x512 := f5
  reducesTo_S16384x512_S_d0_1 := f6
  bcast_S_S2x512 := f7
  reducesTo_S2x512_S_d0_1 := f8

theorem and_one {x y : BitVec 1} (h : IntOp.andi x y = 1#1) : x = 1#1 ∧ y = 1#1 := by
  revert x y
  decide

theorem real_of {x : EReal} (h1 : x < ⊤) (h2 : ⊥ < x) : x = ((x.toReal : ℝ) : EReal) := (EReal.coe_toReal h1.ne h2.ne').symm

theorem top_bits : Ideal.ofBits FTy.f32 0x7F800000#32 = ⊤ := by simp [Ideal.ofBits, Ideal.ieee]
theorem bot_bits : Ideal.ofBits FTy.f32 0xFF800000#32 = ⊥ := by simp [Ideal.ofBits, Ideal.ieee]
theorem low_bits : Ideal.ofBits FTy.f32 0xC2AE0000#32 = ((-87 : ℝ) : EReal) := by
  simp [Ideal.ofBits, Ideal.ieee, -EReal.coe_mul]
  norm_num

theorem lt_of {x : EReal} (h : FloatOps.cmpf (F := Ideal) (φ := .f32) .olt x (Ideal.ofBits FTy.f32 0x7F800000#32) = 1#1) : x < ⊤ := by
  rw [top_bits] at h
  by_contra hn
  exact absurd h (by show ¬ (BitVec.ofBool (decide (x < ⊤)) = 1#1); rw [decide_eq_false hn]; decide)
theorem gt_of {x : EReal} (h : FloatOps.cmpf (F := Ideal) (φ := .f32) .ogt x (Ideal.ofBits FTy.f32 0xFF800000#32) = 1#1) : ⊥ < x := by
  rw [bot_bits] at h
  by_contra hn
  exact absurd h (by show ¬ (BitVec.ofBool (decide (⊥ < x)) = 1#1); rw [decide_eq_false hn]; decide)
theorem ge_of {x : EReal} (h : FloatOps.cmpf (F := Ideal) (φ := .f32) .oge x (Ideal.ofBits FTy.f32 0xC2AE0000#32) = 1#1) : ((-87 : ℝ) : EReal) ≤ x := by
  rw [low_bits] at h
  by_contra hn
  exact absurd h (by show ¬ (BitVec.ofBool (decide (((-87 : ℝ) : EReal) ≤ x)) = 1#1); rw [decide_eq_false hn]; decide)

theorem tame (a0 : FVec Ideal S16384x1024 .f32) (a1 : FVec Ideal S16384x2048 .f32) (a2 : FVec Ideal S16384x256 .bf16)
    (a3 : FVec Ideal S16384x768 .f32) (a4 : FVec Ideal S2x3x256 .f32) (a5 : FVec Ideal S2x1024x1024 .f32)
    (a6 : FVec Ideal S2x6x1024 .f32) (a7 a8 : FVec Ideal S2x1024x2816 .f32) (a9 : FVec Ideal S2x2816x1024 .f32)
    (a10 : FVec Ideal S2x512 .f32) (a11 : FVec Ideal S2x128 .f32)
    (h : fn (F := Ideal) a0 a1 a2 a3 a4 a5 a6 a7 a8 a9 a10 a11 = fun _ => 1#1) : Sp.Tame a1 a10 := by
  have h0 := congrFun h (fun a => a.elim0)
  obtain ⟨h16, h19⟩ := and_one h0
  obtain ⟨h12, h15⟩ := and_one h16
  obtain ⟨h7, h11⟩ := and_one h12
  obtain ⟨h3, h6⟩ := and_one h7
  have q3 := Host.reduce_andi_all _ _ _ _ _ h3
  have q6 := Host.reduce_andi_all _ _ _ _ _ h6
  have q11 := Host.reduce_andi_all _ _ _ _ _ h11
  have q15 := Host.reduce_andi_all _ _ _ _ _ h15
  have q19 := Host.reduce_andi_all _ _ _ _ _ h19
  have s0 : ∀ (n : Fin 16384) (c : Fin 1536), extractStridedSlice S16384x1536 ![0, 0] a1 f0 (ix2 n c) = a1 (ix2 n ⟨c.val, by omega⟩) := fun n c => by pointwise
  have s1 : ∀ (n : Fin 16384) (c : Fin 512), extractStridedSlice S16384x512 ![0, 512] a1 f4 (ix2 n c) = a1 (ix2 n ⟨512 + c.val, by omega⟩) := fun n c => by pointwise
  have fin : ∀ (n : Fin 16384) (c : Fin 2048), c.val < 1536 → a1 (ix2 n c) = (((a1 (ix2 n c)).toReal : ℝ) : EReal) := fun n c hc => by
    have u : a1 (ix2 n c) < ⊤ := (s0 n ⟨c.val, hc⟩).symm.trans_lt (lt_of (q3 (ix2 n ⟨c.val, hc⟩)))
    have l : ⊥ < a1 (ix2 n c) := (gt_of (q6 (ix2 n ⟨c.val, hc⟩))).trans_eq (s0 n ⟨c.val, hc⟩)
    exact real_of u l
  refine ⟨fin, fun n c h1 h2 => ?_, fun i c => real_of (lt_of (q15 (ix2 i c))) (gt_of (q19 (ix2 i c)))⟩
  have g := (ge_of (q11 (ix2 n ⟨c.val - 512, by omega⟩))).trans_eq (s1 n ⟨c.val - 512, by omega⟩)
  have e : (⟨512 + (c.val - 512), by omega⟩ : Fin 2048) = c := Fin.ext (by show 512 + (c.val - 512) = c.val; omega)
  rw [e, fin n c (by omega)] at g
  exact EReal.coe_le_coe_iff.1 g

end Hg.Pr
-- ==== Proof.MixClaim.lean ====
/-
  The mixing kernel against its reference: the same array.
-/
module

public import proofs.«01_k».proof.Defs
public import proofs.«01_k».proof.Proof.MixOut
public import proofs.«01_k».proof.Proof.RefPost
public import proofs.«01_k».proof.Proof.Pre

@[expose] public section

noncomputable section

namespace Hg.MX

open Idealize.ShloMosaic Idealize.ShloMosaic.TcCoe Idealize.SL.Sem

attribute [local instance] Cert.MixIdeal.Gen.facts Cert.MixRefIdeal.Gen.facts Hg.Pr.facts

variable (m : (ℓ : Loc Cert.MixIdeal.nD Cert.MixIdeal.τ Cert.MixIdeal.sig) → Buf (Elt Ideal) ℓ)
  (m' : (ℓ : Loc Cert.MixRefIdeal.nD Cert.MixRefIdeal.τ Cert.MixRefIdeal.sig) → Buf (Elt Ideal) ℓ)

/-- The two memories hold the same arguments. -/
def Same (c : Dev Cert.MixIdeal.nD) : Prop :=
  m' ((c.tc : Thread Cert.MixRefIdeal.nD Cert.MixRefIdeal.τ).loc Cert.MixRefIdeal.main_arg0) = m ((c.tc : Thread Cert.MixIdeal.nD Cert.MixIdeal.τ).loc Cert.MixIdeal.main_arg0)
  ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
  ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
  ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
  ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
  ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
  ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
  ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
  ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
  ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
  ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
  ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)

theorem tame_of (hP : Cert.Pre_MixIdeal_gates_tame m) (c : Dev Cert.MixIdeal.nD) :
    Sp.Tame (m ((c.tc : Thread Cert.MixIdeal.nD Cert.MixIdeal.τ).loc Cert.MixIdeal.main_arg1)) (m ((c.tc : Thread Cert.MixIdeal.nD Cert.MixIdeal.τ).loc Cert.MixIdeal.main_arg10)) :=
  Pr.tame _ _ _ _ _ _ _ _ _ _ _ _ (hP c)

theorem same (hP : Cert.Pre_MixIdeal_gates_tame m) (c : Dev Cert.MixIdeal.nD) (h : Same m m' c) :
    StableHlo.finalContents Cert.MixRefIdeal.Value.condOps Cert.MixRefIdeal.Value.preI Cert.MixRefIdeal.Value.bodyI Cert.MixRefIdeal.Value.postI 256 m' c (Proc.devRef .tc Cert.MixRefIdeal.main_v187)
      = (Cert.MixIdeal.Gen.dats m 0 c).arrAt 16 Cert.MixIdeal.cfg0.N := by
  obtain ⟨h0, h1, h2, h3, h4, h5, h6, h7, h8, h9, h10, h11⟩ := h
  have hT := tame_of m hP c
  funext (x : Cert.MixIdeal.S16384x1024.Idx)
  have hx : x = ix2 (x 0) (x 1) := by
    funext a; match a with | ⟨0, _⟩ => rfl | ⟨1, _⟩ => rfl
  rw [hx]
  refine (MR.ref_res m' c (by rw [h1, h10]; exact hT) (x 0) (x 1)).trans ?_
  refine Eq.trans ?_ (M.res16 m c hT (x 0) (x 1)).symm
  rw [h0, h1, h2, h3, h4, h5, h6, h7, h8, h9, h10, h11]

theorem algebraic : Cert.algebraic_MixIdeal_MixRefIdeal_pre_gates_tame := by
  intro m g m' g' hP h
  refine ⟨fun c => (Cert.MixIdeal.Gen.dats m 0 c).arrAt 16 Cert.MixIdeal.cfg0.N, ?_, ?_⟩
  · exact Cert.MixIdeal.Value.run_blocks m g
  · refine (θ_run _ _ _).mono (fun r hr c => ?_) (MR.args m' g')
    obtain ⟨r0, ra⟩ := hr c
    exact ⟨r0.trans (same m m' hP c (h c)), ra⟩

end Hg.MX
-- ==== Proof.lean ====
/-
  The claims, put together: no program leaves an argument changed or a semaphore counter raised, the named
  constants are the numbers they name, and each of the two calls computes its plain function.
-/
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.MixIdeal.Value
public import proofs.«01_k».proof.Proof.Gen.ProjIdeal.Value
public import proofs.«01_k».proof.Proof.Gen.MixRefIdeal.Run
public import proofs.«01_k».proof.Proof.Gen.ProjRefIdeal.Run
public import proofs.«01_k».proof.Proof.Gen.ProjRefIdeal.Read
public import Idealize.ShloMosaic.Adequacy
public import Idealize.ShloMosaic.Init
public import proofs.«01_k».proof.Proof.MixRefRun
public import proofs.«01_k».proof.Proof.ProjClaim
public import proofs.«01_k».proof.Proof.MixClaim

@[expose] public section

noncomputable section

namespace Cert.Proof

open Idealize.ShloMosaic Idealize.ShloMosaic.StableHlo Idealize.SL.Sem

attribute [local instance] Cert.ProjRefIdeal.Gen.facts

theorem frame_proj_ref : Cert.quiescent_ProjRefIdeal := fun m g _ =>
  (θ_run _ _ _).mono (fun r h => ⟨fun c => (h c).2.2.2.2.2.2.2, sem_eq_zero_of_no_sems (by decide) r.2⟩)
    (Cert.ProjRefIdeal.Value.run (F := Ideal) m g)

theorem preserves_mix : Cert.preserves_Mix_MixIdeal :=
  ⟨IdealRules.named_const.statement Cert.MixIdeal.κ "neg_log2e" .f32 0xBFB8AA3B#32 ((-((Real.log 2)⁻¹) : ℝ) : EReal) rfl,
   IdealRules.named_const.statement Cert.MixIdeal.κ "log2e" .f32 0x3FB8AA3B#32 (((Real.log 2)⁻¹ : ℝ) : EReal) rfl⟩

theorem claim : Cert.Claim :=
  ⟨Cert.Mix.Gen.facts, Cert.MixIdeal.Gen.facts, Cert.MixRefIdeal.Gen.facts, Cert.Proj.Gen.facts, Cert.ProjIdeal.Gen.facts,
   Cert.ProjRefIdeal.Gen.facts, Hg.Pr.facts,
   fun m g _ => Cert.Mix.Gen.frame m g, fun m g _ => Cert.MixIdeal.Gen.frame m g, fun m g _ => Cert.MixIdeal.Gen.frame m g,
   Hg.MR.frame, fun m g _ => Hg.MR.frame m g trivial,
   fun m g _ => Cert.Proj.Gen.frame m g, fun m g _ => Cert.ProjIdeal.Gen.frame m g, frame_proj_ref,
   preserves_mix, Hg.MX.algebraic, trivial, Hg.P.algebraic⟩

end Cert.Proof
